-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.named_const.Statement Cert.KernelIdeal.κ "a_end0" .f32 0x3E063AE5#32 ((279993793990258235750468749959300213014699042596341116563305503247751586492770004816505534904321 / 2135987035920910082395021706169552114602704522356652769947041607822219725780640550022962086936576 : ℝ) : EReal)
  ∧ IdealRules.named_const.Statement Cert.KernelIdeal.κ "a_end1" .f32 0x3EBADF84#32 ((14381201289858923833733732277241427911251598557516928831287151963615866190845260542210496569296551598609485715599361 / 39402006196394479212279040100143613805079739270465446667948293404245721771497210611414266254884915640806627990306816 : ℝ) : EReal)
  ∧ IdealRules.named_const.Statement Cert.KernelIdeal.κ "a_end2" .f32 0x3F1AF7A1#32 ((439985273984774139364885786774155225074372621425249766976946157772109425125407741241214744259687760072793219732307971501512893104906241 / 726838724295606890549323807888004534353641360687318060281490199180639288113397923326191050713763565560762521606266177933534601628614656 : ℝ) : EReal)
  ∧ IdealRules.named_const.Statement Cert.KernelIdeal.κ "a_end3" .f32 0x3F474682#32 ((10436900611138725869172867285320967420499386398293333045633692797639857278619179096472846825397665828940838712011497657616843071082257665693759918212890625 / 13407807929942597099574024998205846127479365820592393377723561443721764030073546976801874298166903427690031858186486050853753882811946569946433649006084096 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v169)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v59) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S34816x7216 : Shape := ⟨2, ![34816, 7216]⟩
abbrev S34816x1536 : Shape := ⟨2, ![34816, 1536]⟩
abbrev S34816x512 : Shape := ⟨2, ![34816, 512]⟩
abbrev S34816x8 : Shape := ⟨2, ![34816, 8]⟩
abbrev S34816x32 : Shape := ⟨2, ![34816, 32]⟩
abbrev S34816x8x2x32 : Shape := ⟨4, ![34816, 8, 2, 32]⟩
abbrev S34816x7680 : Shape := ⟨2, ![34816, 7680]⟩
abbrev S34816x48 : Shape := ⟨2, ![34816, 48]⟩
abbrev S_ : Shape := ⟨0, ![]⟩
abbrev S34816x128 : Shape := ⟨2, ![34816, 128]⟩
abbrev S256 : Shape := ⟨1, ![256]⟩
abbrev S256x1 : Shape := ⟨2, ![256, 1]⟩
abbrev S256x3 : Shape := ⟨2, ![256, 3]⟩
abbrev S64 : Shape := ⟨1, ![64]⟩
abbrev S64x64 : Shape := ⟨2, ![64, 64]⟩
abbrev S4096 : Shape := ⟨1, ![4096]⟩
abbrev S4096x1 : Shape := ⟨2, ![4096, 1]⟩
abbrev S4096x3 : Shape := ⟨2, ![4096, 3]⟩
abbrev S8 : Shape := ⟨1, ![8]⟩
abbrev S1x8 : Shape := ⟨2, ![1, 8]⟩
abbrev S256x8 : Shape := ⟨2, ![256, 8]⟩
abbrev S12 : Shape := ⟨1, ![12]⟩
abbrev S1x12 : Shape := ⟨2, ![1, 12]⟩
abbrev S256x12 : Shape := ⟨2, ![256, 12]⟩
abbrev S256x32 : Shape := ⟨2, ![256, 32]⟩
abbrev S4096x8 : Shape := ⟨2, ![4096, 8]⟩
abbrev S4096x12 : Shape := ⟨2, ![4096, 12]⟩
abbrev S4096x32 : Shape := ⟨2, ![4096, 32]⟩
abbrev S4352x32 : Shape := ⟨2, ![4352, 32]⟩
abbrev S4352x64 : Shape := ⟨2, ![4352, 64]⟩
abbrev S512 : Shape := ⟨1, ![512]⟩
abbrev S1x4352x1x64 : Shape := ⟨4, ![1, 4352, 1, 64]⟩
abbrev S1x4352x8x64 : Shape := ⟨4, ![1, 4352, 8, 64]⟩
abbrev S4352x512 : Shape := ⟨2, ![4352, 512]⟩
abbrev S1x512 : Shape := ⟨2, ![1, 512]⟩
abbrev S4 : Shape := ⟨1, ![4]⟩
abbrev S1x64 : Shape := ⟨2, ![1, 64]⟩
abbrev S4x1 : Shape := ⟨2, ![4, 1]⟩
abbrev S4x64 : Shape := ⟨2, ![4, 64]⟩
abbrev S64x1 : Shape := ⟨2, ![64, 1]⟩
abbrev S1x64x64 : Shape := ⟨3, ![1, 64, 64]⟩
abbrev S4x64x1 : Shape := ⟨3, ![4, 64, 1]⟩
abbrev S4x1x64 : Shape := ⟨3, ![4, 1, 64]⟩
abbrev S4x64x64 : Shape := ⟨3, ![4, 64, 64]⟩
abbrev S64x4 : Shape := ⟨2, ![64, 4]⟩
abbrev S64x4x64 : Shape := ⟨3, ![64, 4, 64]⟩
abbrev S64x256 : Shape := ⟨2, ![64, 256]⟩
abbrev S256x512 : Shape := ⟨2, ![256, 512]⟩
abbrev S4x64x128 : Shape := ⟨3, ![4, 64, 128]⟩
abbrev S64x512 : Shape := ⟨2, ![64, 512]⟩
abbrev S64x128 : Shape := ⟨2, ![64, 128]⟩
abbrev S1x64x128 : Shape := ⟨3, ![1, 64, 128]⟩

abbrev nBuf : Space → Nat
  | .hbm => 198
  | .vmem => 16
  | .smem => 0
  | _ => 0

abbrev hbmTy0_0 (i : Nat) : BufTy := match i % 128 with
  | 0 => ⟨S34816x7216, .bf16⟩
  | 1 => ⟨S34816x1536, .bf16⟩
  | 2 => ⟨S34816x512, .bf16⟩
  | 3 => ⟨S34816x1536, .bf16⟩
  | 4 => ⟨S34816x8, .bf16⟩
  | 5 => ⟨S34816x8, .bf16⟩
  | 6 => ⟨S34816x512, .bf16⟩
  | 7 => ⟨S34816x512, .bf16⟩
  | 8 => ⟨S34816x512, .bf16⟩
  | 9 => ⟨S34816x512, .bf16⟩
  | 10 => ⟨S34816x512, .bf16⟩
  | 11 => ⟨S34816x512, .bf16⟩
  | 12 => ⟨S34816x32, .bf16⟩
  | 13 => ⟨S34816x512, .bf16⟩
  | 14 => ⟨S34816x8x2x32, .bf16⟩
  | 15 => ⟨S34816x8x2x32, .bf16⟩
  | 16 => ⟨S34816x512, .bf16⟩
  | 17 => ⟨S34816x7680, .bf16⟩
  | 18 => ⟨S34816x48, .bf16⟩
  | 19 => ⟨S_, .i32⟩
  | 20 => ⟨S_, .bf16⟩
  | 21 => ⟨S34816x128, .bf16⟩
  | 22 => ⟨S256, .f32⟩
  | 23 => ⟨S_, .f32⟩
  | 24 => ⟨S256, .f32⟩
  | 25 => ⟨S256x1, .f32⟩
  | 26 => ⟨S256x1, .f32⟩
  | 27 => ⟨S256x1, .f32⟩
  | 28 => ⟨S256x3, .f32⟩
  | 29 => ⟨S64, .f32⟩
  | 30 => ⟨S64x64, .f32⟩
  | 31 => ⟨S4096, .f32⟩
  | 32 => ⟨S64, .f32⟩
  | 33 => ⟨S64x64, .f32⟩
  | 34 => ⟨S4096, .f32⟩
  | 35 => ⟨S_, .f32⟩
  | 36 => ⟨S4096, .f32⟩
  | 37 => ⟨S4096x1, .f32⟩
  | 38 => ⟨S4096x1, .f32⟩
  | 39 => ⟨S4096x1, .f32⟩
  | 40 => ⟨S4096x3, .f32⟩
  | 41 => ⟨S8, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S256x1, .f32⟩
  | 50 => ⟨S1x8, .f32⟩
  | 51 => ⟨S256x8, .f32⟩
  | 52 => ⟨S256x8, .f32⟩
  | 53 => ⟨S256x8, .f32⟩
  | 54 => ⟨S12, .f32⟩
  | 55 => ⟨S12, .f32⟩
  | 56 => ⟨S_, .f32⟩
  | 57 => ⟨S12, .f32⟩
  | 58 => ⟨S12, .f32⟩
  | 59 => ⟨S_, .f32⟩
  | 60 => ⟨S12, .f32⟩
  | 61 => ⟨S12, .f32⟩
  | 62 => ⟨S256x1, .f32⟩
  | 63 => ⟨S1x12, .f32⟩
  | 64 => ⟨S256x12, .f32⟩
  | 65 => ⟨S256x12, .f32⟩
  | 66 => ⟨S256x12, .f32⟩
  | 67 => ⟨S12, .f32⟩
  | 68 => ⟨S12, .f32⟩
  | 69 => ⟨S_, .f32⟩
  | 70 => ⟨S12, .f32⟩
  | 71 => ⟨S12, .f32⟩
  | 72 => ⟨S_, .f32⟩
  | 73 => ⟨S12, .f32⟩
  | 74 => ⟨S12, .f32⟩
  | 75 => ⟨S256x1, .f32⟩
  | 76 => ⟨S1x12, .f32⟩
  | 77 => ⟨S256x12, .f32⟩
  | 78 => ⟨S256x12, .f32⟩
  | 79 => ⟨S256x12, .f32⟩
  | 80 => ⟨S256x32, .f32⟩
  | 81 => ⟨S8, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S4096x1, .f32⟩
  | 90 => ⟨S1x8, .f32⟩
  | 91 => ⟨S4096x8, .f32⟩
  | 92 => ⟨S4096x8, .f32⟩
  | 93 => ⟨S4096x8, .f32⟩
  | 94 => ⟨S12, .f32⟩
  | 95 => ⟨S12, .f32⟩
  | 96 => ⟨S_, .f32⟩
  | 97 => ⟨S12, .f32⟩
  | 98 => ⟨S12, .f32⟩
  | 99 => ⟨S_, .f32⟩
  | 100 => ⟨S12, .f32⟩
  | 101 => ⟨S12, .f32⟩
  | 102 => ⟨S4096x1, .f32⟩
  | 103 => ⟨S1x12, .f32⟩
  | 104 => ⟨S4096x12, .f32⟩
  | 105 => ⟨S4096x12, .f32⟩
  | 106 => ⟨S4096x12, .f32⟩
  | 107 => ⟨S12, .f32⟩
  | 108 => ⟨S12, .f32⟩
  | 109 => ⟨S_, .f32⟩
  | 110 => ⟨S12, .f32⟩
  | 111 => ⟨S12, .f32⟩
  | 112 => ⟨S_, .f32⟩
  | 113 => ⟨S12, .f32⟩
  | 114 => ⟨S12, .f32⟩
  | 115 => ⟨S4096x1, .f32⟩
  | 116 => ⟨S1x12, .f32⟩
  | 117 => ⟨S4096x12, .f32⟩
  | 118 => ⟨S4096x12, .f32⟩
  | 119 => ⟨S4096x12, .f32⟩
  | 120 => ⟨S4096x32, .f32⟩
  | 121 => ⟨S4352x32, .f32⟩
  | 122 => ⟨S4352x32, .f32⟩
  | 123 => ⟨S4352x32, .f32⟩
  | 124 => ⟨S4352x64, .f32⟩
  | 125 => ⟨S4352x32, .f32⟩
  | 126 => ⟨S4352x32, .f32⟩
  | 127 => ⟨S4352x32, .f32⟩
  | _ => ⟨S34816x7216, .bf16⟩

abbrev hbmTy0_1 (i : Nat) : BufTy := match i % 128 with
  | 0 => ⟨S4352x64, .f32⟩
  | 1 => ⟨S_, .f32⟩
  | 2 => ⟨S256, .f32⟩
  | 3 => ⟨S_, .f32⟩
  | 4 => ⟨S256, .f32⟩
  | 5 => ⟨S512, .f32⟩
  | 6 => ⟨S1x4352x1x64, .f32⟩
  | 7 => ⟨S1x4352x8x64, .f32⟩
  | 8 => ⟨S4352x512, .f32⟩
  | 9 => ⟨S1x512, .f32⟩
  | 10 => ⟨S4352x512, .f32⟩
  | 11 => ⟨S4352x512, .f32⟩
  | 12 => ⟨S1x4352x1x64, .f32⟩
  | 13 => ⟨S1x4352x8x64, .f32⟩
  | 14 => ⟨S4352x512, .f32⟩
  | 15 => ⟨S1x512, .f32⟩
  | 16 => ⟨S4352x512, .f32⟩
  | 17 => ⟨S4352x512, .f32⟩
  | 18 => ⟨S4, .f32⟩
  | 19 => ⟨S_, .f32⟩
  | 20 => ⟨S4, .f32⟩
  | 21 => ⟨S4, .f32⟩
  | 22 => ⟨S_, .f32⟩
  | 23 => ⟨S4, .f32⟩
  | 24 => ⟨S4, .f32⟩
  | 25 => ⟨S_, .f32⟩
  | 26 => ⟨S4, .f32⟩
  | 27 => ⟨S4, .f32⟩
  | 28 => ⟨S4, .f32⟩
  | 29 => ⟨S64, .f32⟩
  | 30 => ⟨S_, .f32⟩
  | 31 => ⟨S64, .f32⟩
  | 32 => ⟨S64, .f32⟩
  | 33 => ⟨S1x64, .f32⟩
  | 34 => ⟨S4x1, .f32⟩
  | 35 => ⟨S4x64, .f32⟩
  | 36 => ⟨S4x64, .f32⟩
  | 37 => ⟨S4x64, .f32⟩
  | 38 => ⟨S1x64, .f32⟩
  | 39 => ⟨S64x1, .f32⟩
  | 40 => ⟨S64x64, .f32⟩
  | 41 => ⟨S64x64, .f32⟩
  | 42 => ⟨S64x64, .i1⟩
  | 43 => ⟨S1x64x64, .i1⟩
  | 44 => ⟨S4x64x1, .f32⟩
  | 45 => ⟨S4x1x64, .f32⟩
  | 46 => ⟨S4x64x64, .f32⟩
  | 47 => ⟨S4x64x64, .f32⟩
  | 48 => ⟨S4x64x64, .f32⟩
  | 49 => ⟨S4x64x64, .f32⟩
  | 50 => ⟨S_, .f32⟩
  | 51 => ⟨S_, .f32⟩
  | 52 => ⟨S4x64x64, .i1⟩
  | 53 => ⟨S4x64x64, .f32⟩
  | 54 => ⟨S4x64x64, .f32⟩
  | 55 => ⟨S4x64, .f32⟩
  | 56 => ⟨S64x4, .f32⟩
  | 57 => ⟨S64x4x64, .f32⟩
  | 58 => ⟨S64x256, .f32⟩
  | 59 => ⟨S4x1, .f32⟩
  | 60 => ⟨S_, .f32⟩
  | 61 => ⟨S4x1, .f32⟩
  | 62 => ⟨S4x1, .f32⟩
  | 63 => ⟨S4x64, .f32⟩
  | 64 => ⟨S4x64, .f32⟩
  | 65 => ⟨S4x64, .f32⟩
  | 66 => ⟨S64x4, .f32⟩
  | 67 => ⟨S64x4x64, .f32⟩
  | 68 => ⟨S64x256, .f32⟩
  | 69 => ⟨S34816x512, .f32⟩
  | _ => ⟨S34816x7216, .bf16⟩

abbrev hbmTy (i : Nat) : BufTy := match i / 128 with
  | 0 => hbmTy0_0 i
  | 1 => hbmTy0_1 i
  | _ => ⟨S34816x7216, .bf16⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S4x64x64, .f32⟩
  | .local _ .vmem, ⟨11, _⟩ => ⟨S64x256, .f32⟩
  | .local _ .vmem, ⟨12, _⟩ => ⟨S64x256, .f32⟩
  | .local _ .vmem, ⟨13, _⟩ => ⟨S256x512, .f32⟩
  | .local _ .vmem, ⟨14, _⟩ => ⟨S256x512, .f32⟩
  | .local _ .vmem, ⟨15, _⟩ => ⟨S4x64x128, .f32⟩
  | _, _ => ⟨S34816x7216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_c : Ref sig .tc := ⟨.hbm, 19, rfl⟩
abbrev main_call0_v0 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_3 : Ref sig .tc := ⟨.hbm, 56, rfl⟩
abbrev main_v49 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_cst_6 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_cst_7 : Ref sig .tc := ⟨.hbm, 83, rfl⟩
abbrev main_v72 : Ref sig .tc := ⟨.hbm, 84, rfl⟩
abbrev main_v73 : Ref sig .tc := ⟨.hbm, 85, rfl⟩
abbrev main_cst_8 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_9 : Ref sig .tc := ⟨.hbm, 96, rfl⟩
abbrev main_v83 : Ref sig .tc := ⟨.hbm, 97, rfl⟩
abbrev main_v84 : Ref sig .tc := ⟨.hbm, 98, rfl⟩
abbrev main_cst_10 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_11 : Ref sig .tc := ⟨.hbm, 109, rfl⟩
abbrev main_v94 : Ref sig .tc := ⟨.hbm, 110, rfl⟩
abbrev main_v95 : Ref sig .tc := ⟨.hbm, 111, rfl⟩
abbrev main_cst_12 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_cst_13 : Ref sig .tc := ⟨.hbm, 129, rfl⟩
abbrev main_v112 : Ref sig .tc := ⟨.hbm, 130, rfl⟩
abbrev main_cst_14 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_cst_15 : Ref sig .tc := ⟨.hbm, 147, rfl⟩
abbrev main_v128 : Ref sig .tc := ⟨.hbm, 148, rfl⟩
abbrev main_v129 : Ref sig .tc := ⟨.hbm, 149, rfl⟩
abbrev main_cst_16 : Ref sig .tc := ⟨.hbm, 150, rfl⟩
abbrev main_v130 : Ref sig .tc := ⟨.hbm, 151, rfl⟩
abbrev main_v131 : Ref sig .tc := ⟨.hbm, 152, rfl⟩
abbrev main_cst_17 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_cst_18 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_cst_19 : Ref sig .tc := ⟨.hbm, 178, rfl⟩
abbrev main_call1_v0 : Ref sig .tc := ⟨.hbm, 179, rfl⟩
abbrev main_call1_v1 : Ref sig .tc := ⟨.hbm, 180, rfl⟩
abbrev main_call1_v2 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_cst_20 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let v1 : BitVec 1 := Scalar.cmpi .eq arg1 c0_i32
  let c128_i32 : BitVec 32 := 128#32
  let v2 : BitVec 32 := Scalar.addi c128_i32 arg0
  let c16_i32_0 : BitVec 32 := 16#32
  let v3 : BitVec 32 := Scalar.muli arg0 c16_i32_0
  let v4 : BitVec 32 := Scalar.addi v3 v0
  let v5 : BitVec 32 := Scalar.select v1 v2 v4
  let c8_i32 : BitVec 32 := 8#32
  let c0_i32_1 : BitVec 32 := 0#32
  ![v5.toNat, c8_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let v1 : BitVec 1 := Scalar.cmpi .eq arg1 c0_i32
  let c128_i32 : BitVec 32 := 128#32
  let v2 : BitVec 32 := Scalar.addi c128_i32 arg0
  let c16_i32_0 : BitVec 32 := 16#32
  let v3 : BitVec 32 := Scalar.muli arg0 c16_i32_0
  let v4 : BitVec 32 := Scalar.addi v3 v0
  let v5 : BitVec 32 := Scalar.select v1 v2 v4
  let c9_i32 : BitVec 32 := 9#32
  let c0_i32_1 : BitVec 32 := 0#32
  ![v5.toNat, c9_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let v1 : BitVec 1 := Scalar.cmpi .eq arg1 c0_i32
  let c128_i32 : BitVec 32 := 128#32
  let v2 : BitVec 32 := Scalar.addi c128_i32 arg0
  let c16_i32_0 : BitVec 32 := 16#32
  let v3 : BitVec 32 := Scalar.muli arg0 c16_i32_0
  let v4 : BitVec 32 := Scalar.addi v3 v0
  let v5 : BitVec 32 := Scalar.select v1 v2 v4
  let c10_i32 : BitVec 32 := 10#32
  let c0_i32_1 : BitVec 32 := 0#32
  ![v5.toNat, c10_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c16_i32 : BitVec 32 := 16#32
  let v1 : BitVec 32 := Scalar.subi c16_i32 arg1
  let c1_i32 : BitVec 32 := 1#32
  let v2 : BitVec 32 := Scalar.addi c1_i32 v1
  let c0_i32_0 : BitVec 32 := 0#32
  let v3 : BitVec 32 := Scalar.select v0 c0_i32_0 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c16_i32 : BitVec 32 := 16#32
  let v1 : BitVec 32 := Scalar.subi c16_i32 arg1
  let c1_i32 : BitVec 32 := 1#32
  let v2 : BitVec 32 := Scalar.addi c1_i32 v1
  let c0_i32_0 : BitVec 32 := 0#32
  let v3 : BitVec 32 := Scalar.select v0 c0_i32_0 v2
  let c0_i32_1 : BitVec 32 := 0#32
  let c0_i32_2 : BitVec 32 := 0#32
  ![v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let v1 : BitVec 1 := Scalar.cmpi .eq arg1 c0_i32
  let c128_i32 : BitVec 32 := 128#32
  let v2 : BitVec 32 := Scalar.addi c128_i32 arg0
  let c16_i32_0 : BitVec 32 := 16#32
  let v3 : BitVec 32 := Scalar.muli arg0 c16_i32_0
  let v4 : BitVec 32 := Scalar.addi v3 v0
  let v5 : BitVec 32 := Scalar.select v1 v2 v4
  let c0_i32_1 : BitVec 32 := 0#32
  let c0_i32_2 : BitVec 32 := 0#32
  ![v5.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "a_end0" => some ((279993793990258235750468749959300213014699042596341116563305503247751586492770004816505534904321 / 2135987035920910082395021706169552114602704522356652769947041607822219725780640550022962086936576 : ℝ) : EReal)
  | "a_end1" => some ((14381201289858923833733732277241427911251598557516928831287151963615866190845260542210496569296551598609485715599361 / 39402006196394479212279040100143613805079739270465446667948293404245721771497210611414266254884915640806627990306816 : ℝ) : EReal)
  | "a_end2" => some ((439985273984774139364885786774155225074372621425249766976946157772109425125407741241214744259687760072793219732307971501512893104906241 / 726838724295606890549323807888004534353641360687318060281490199180639288113397923326191050713763565560762521606266177933534601628614656 : ℝ) : EReal)
  | "a_end3" => some ((10436900611138725869172867285320967420499386398293333045633692797639857278619179096472846825397665828940838712011497657616843071082257665693759918212890625 / 13407807929942597099574024998205846127479365820592393377723561443721764030073546976801874298166903427690031858186486050853753882811946569946433649006084096 : ℝ) : EReal)
  | _ => none
-- ==== ReferenceIdeal.lean ====
abbrev S34816x7216 : Shape := ⟨2, ![34816, 7216]⟩
abbrev S4 : Shape := ⟨1, ![4]⟩
abbrev S_ : Shape := ⟨0, ![]⟩
abbrev S2048x7216 : Shape := ⟨2, ![2048, 7216]⟩
abbrev S8x256x7216 : Shape := ⟨3, ![8, 256, 7216]⟩
abbrev S256 : Shape := ⟨1, ![256]⟩
abbrev S256x1 : Shape := ⟨2, ![256, 1]⟩
abbrev S256x3 : Shape := ⟨2, ![256, 3]⟩
abbrev S8x256x512 : Shape := ⟨3, ![8, 256, 512]⟩
abbrev S8x256x8x64 : Shape := ⟨4, ![8, 256, 8, 64]⟩
abbrev S8 : Shape := ⟨1, ![8]⟩
abbrev S1x8 : Shape := ⟨2, ![1, 8]⟩
abbrev S256x8 : Shape := ⟨2, ![256, 8]⟩
abbrev S12 : Shape := ⟨1, ![12]⟩
abbrev S1x12 : Shape := ⟨2, ![1, 12]⟩
abbrev S256x12 : Shape := ⟨2, ![256, 12]⟩
abbrev S256x32 : Shape := ⟨2, ![256, 32]⟩
abbrev S1x256x1x32 : Shape := ⟨4, ![1, 256, 1, 32]⟩
abbrev S8x256x8x32 : Shape := ⟨4, ![8, 256, 8, 32]⟩
abbrev S8x256x4x64 : Shape := ⟨4, ![8, 256, 4, 64]⟩
abbrev S8x4x256x64 : Shape := ⟨4, ![8, 4, 256, 64]⟩
abbrev S8x256x4x128 : Shape := ⟨4, ![8, 256, 4, 128]⟩
abbrev S8x4x256x128 : Shape := ⟨4, ![8, 4, 256, 128]⟩
abbrev S32768x7216 : Shape := ⟨2, ![32768, 7216]⟩
abbrev S8x4096x7216 : Shape := ⟨3, ![8, 4096, 7216]⟩
abbrev S64 : Shape := ⟨1, ![64]⟩
abbrev S64x64 : Shape := ⟨2, ![64, 64]⟩
abbrev S4096 : Shape := ⟨1, ![4096]⟩
abbrev S4096x1 : Shape := ⟨2, ![4096, 1]⟩
abbrev S4096x3 : Shape := ⟨2, ![4096, 3]⟩
abbrev S8x4096x512 : Shape := ⟨3, ![8, 4096, 512]⟩
abbrev S8x4096x8x64 : Shape := ⟨4, ![8, 4096, 8, 64]⟩
abbrev S4096x8 : Shape := ⟨2, ![4096, 8]⟩
abbrev S4096x12 : Shape := ⟨2, ![4096, 12]⟩
abbrev S4096x32 : Shape := ⟨2, ![4096, 32]⟩
abbrev S1x4096x1x32 : Shape := ⟨4, ![1, 4096, 1, 32]⟩
abbrev S8x4096x8x32 : Shape := ⟨4, ![8, 4096, 8, 32]⟩
abbrev S8x4096x4x64 : Shape := ⟨4, ![8, 4096, 4, 64]⟩
abbrev S8x4x4096x64 : Shape := ⟨4, ![8, 4, 4096, 64]⟩
abbrev S8x4096x4x128 : Shape := ⟨4, ![8, 4096, 4, 128]⟩
abbrev S8x4x4096x128 : Shape := ⟨4, ![8, 4, 4096, 128]⟩
abbrev S1x4x1 : Shape := ⟨3, ![1, 4, 1]⟩
abbrev S8x4x4352 : Shape := ⟨3, ![8, 4, 4352]⟩
abbrev S8x4x64x128 : Shape := ⟨4, ![8, 4, 64, 128]⟩
abbrev S8x4x4352x64 : Shape := ⟨4, ![8, 4, 4352, 64]⟩
abbrev S8x4x4352x128 : Shape := ⟨4, ![8, 4, 4352, 128]⟩
abbrev S8x4x68x64x64 : Shape := ⟨5, ![8, 4, 68, 64, 64]⟩
abbrev S68x8x4x64x64 : Shape := ⟨5, ![68, 8, 4, 64, 64]⟩
abbrev S8x4x68x64x128 : Shape := ⟨5, ![8, 4, 68, 64, 128]⟩
abbrev S68x8x4x64x128 : Shape := ⟨5, ![68, 8, 4, 64, 128]⟩
abbrev S8x4x68x64 : Shape := ⟨4, ![8, 4, 68, 64]⟩
abbrev S68x8x4x64 : Shape := ⟨4, ![68, 8, 4, 64]⟩
abbrev S1x8x4x64x64 : Shape := ⟨5, ![1, 8, 4, 64, 64]⟩
abbrev S8x4x64x64 : Shape := ⟨4, ![8, 4, 64, 64]⟩
abbrev S1x8x4x64x128 : Shape := ⟨5, ![1, 8, 4, 64, 128]⟩
abbrev S1x8x4x64 : Shape := ⟨4, ![1, 8, 4, 64]⟩
abbrev S8x4x64 : Shape := ⟨3, ![8, 4, 64]⟩
abbrev S8x4x64x1 : Shape := ⟨4, ![8, 4, 64, 1]⟩
abbrev S8x4x1x64 : Shape := ⟨4, ![8, 4, 1, 64]⟩
abbrev S8x4x1 : Shape := ⟨3, ![8, 4, 1]⟩
abbrev S8x4 : Shape := ⟨2, ![8, 4]⟩
abbrev S8x4x1x1 : Shape := ⟨4, ![8, 4, 1, 1]⟩
abbrev S32768x512 : Shape := ⟨2, ![32768, 512]⟩
abbrev S2048x512 : Shape := ⟨2, ![2048, 512]⟩
abbrev S34816x512 : Shape := ⟨2, ![34816, 512]⟩

abbrev nBuf : Space → Nat
  | .hbm => 300
  | .vmem => 0
  | .smem => 0
  | _ => 0

abbrev hbmTy0_0 (i : Nat) : BufTy := match i % 128 with
  | 0 => ⟨S34816x7216, .bf16⟩
  | 1 => ⟨S4, .f32⟩
  | 2 => ⟨S_, .f32⟩
  | 3 => ⟨S4, .f32⟩
  | 4 => ⟨S4, .f32⟩
  | 5 => ⟨S_, .f32⟩
  | 6 => ⟨S4, .f32⟩
  | 7 => ⟨S4, .f32⟩
  | 8 => ⟨S_, .f32⟩
  | 9 => ⟨S4, .f32⟩
  | 10 => ⟨S4, .f32⟩
  | 11 => ⟨S4, .f32⟩
  | 12 => ⟨S2048x7216, .bf16⟩
  | 13 => ⟨S8x256x7216, .bf16⟩
  | 14 => ⟨S256, .f32⟩
  | 15 => ⟨S_, .f32⟩
  | 16 => ⟨S256, .f32⟩
  | 17 => ⟨S256x1, .f32⟩
  | 18 => ⟨S256x1, .f32⟩
  | 19 => ⟨S256x1, .f32⟩
  | 20 => ⟨S256x3, .f32⟩
  | 21 => ⟨S8x256x512, .bf16⟩
  | 22 => ⟨S8x256x512, .f32⟩
  | 23 => ⟨S8x256x8x64, .f32⟩
  | 24 => ⟨S8, .f32⟩
  | 25 => ⟨S8, .f32⟩
  | 26 => ⟨S_, .f32⟩
  | 27 => ⟨S8, .f32⟩
  | 28 => ⟨S8, .f32⟩
  | 29 => ⟨S_, .f32⟩
  | 30 => ⟨S8, .f32⟩
  | 31 => ⟨S8, .f32⟩
  | 32 => ⟨S256x1, .f32⟩
  | 33 => ⟨S1x8, .f32⟩
  | 34 => ⟨S256x8, .f32⟩
  | 35 => ⟨S256x8, .f32⟩
  | 36 => ⟨S256x8, .f32⟩
  | 37 => ⟨S12, .f32⟩
  | 38 => ⟨S12, .f32⟩
  | 39 => ⟨S_, .f32⟩
  | 40 => ⟨S12, .f32⟩
  | 41 => ⟨S12, .f32⟩
  | 42 => ⟨S_, .f32⟩
  | 43 => ⟨S12, .f32⟩
  | 44 => ⟨S12, .f32⟩
  | 45 => ⟨S256x1, .f32⟩
  | 46 => ⟨S1x12, .f32⟩
  | 47 => ⟨S256x12, .f32⟩
  | 48 => ⟨S256x12, .f32⟩
  | 49 => ⟨S256x12, .f32⟩
  | 50 => ⟨S12, .f32⟩
  | 51 => ⟨S12, .f32⟩
  | 52 => ⟨S_, .f32⟩
  | 53 => ⟨S12, .f32⟩
  | 54 => ⟨S12, .f32⟩
  | 55 => ⟨S_, .f32⟩
  | 56 => ⟨S12, .f32⟩
  | 57 => ⟨S12, .f32⟩
  | 58 => ⟨S256x1, .f32⟩
  | 59 => ⟨S1x12, .f32⟩
  | 60 => ⟨S256x12, .f32⟩
  | 61 => ⟨S256x12, .f32⟩
  | 62 => ⟨S256x12, .f32⟩
  | 63 => ⟨S256x32, .f32⟩
  | 64 => ⟨S1x256x1x32, .f32⟩
  | 65 => ⟨S1x256x1x32, .f32⟩
  | 66 => ⟨S1x256x1x32, .f32⟩
  | 67 => ⟨S8x256x8x32, .f32⟩
  | 68 => ⟨S8x256x8x32, .f32⟩
  | 69 => ⟨S8x256x8x32, .f32⟩
  | 70 => ⟨S8x256x8x32, .f32⟩
  | 71 => ⟨S8x256x8x32, .f32⟩
  | 72 => ⟨S8x256x8x32, .f32⟩
  | 73 => ⟨S8x256x8x32, .f32⟩
  | 74 => ⟨S8x256x8x32, .f32⟩
  | 75 => ⟨S8x256x8x32, .f32⟩
  | 76 => ⟨S8x256x8x32, .f32⟩
  | 77 => ⟨S8x256x8x32, .f32⟩
  | 78 => ⟨S8x256x8x32, .f32⟩
  | 79 => ⟨S8x256x8x64, .f32⟩
  | 80 => ⟨S8x256x4x64, .f32⟩
  | 81 => ⟨S8x4x256x64, .f32⟩
  | 82 => ⟨S8x256x4x64, .f32⟩
  | 83 => ⟨S8x4x256x64, .f32⟩
  | 84 => ⟨S_, .f32⟩
  | 85 => ⟨S8x4x256x64, .f32⟩
  | 86 => ⟨S8x4x256x64, .f32⟩
  | 87 => ⟨S8x256x512, .bf16⟩
  | 88 => ⟨S8x256x512, .f32⟩
  | 89 => ⟨S8x256x4x128, .f32⟩
  | 90 => ⟨S8x4x256x128, .f32⟩
  | 91 => ⟨S32768x7216, .bf16⟩
  | 92 => ⟨S8x4096x7216, .bf16⟩
  | 93 => ⟨S64, .f32⟩
  | 94 => ⟨S64x64, .f32⟩
  | 95 => ⟨S4096, .f32⟩
  | 96 => ⟨S64, .f32⟩
  | 97 => ⟨S64x64, .f32⟩
  | 98 => ⟨S4096, .f32⟩
  | 99 => ⟨S_, .f32⟩
  | 100 => ⟨S4096, .f32⟩
  | 101 => ⟨S4096x1, .f32⟩
  | 102 => ⟨S4096x1, .f32⟩
  | 103 => ⟨S4096x1, .f32⟩
  | 104 => ⟨S4096x3, .f32⟩
  | 105 => ⟨S8x4096x512, .bf16⟩
  | 106 => ⟨S8x4096x512, .f32⟩
  | 107 => ⟨S8x4096x8x64, .f32⟩
  | 108 => ⟨S8, .f32⟩
  | 109 => ⟨S8, .f32⟩
  | 110 => ⟨S_, .f32⟩
  | 111 => ⟨S8, .f32⟩
  | 112 => ⟨S8, .f32⟩
  | 113 => ⟨S_, .f32⟩
  | 114 => ⟨S8, .f32⟩
  | 115 => ⟨S8, .f32⟩
  | 116 => ⟨S4096x1, .f32⟩
  | 117 => ⟨S1x8, .f32⟩
  | 118 => ⟨S4096x8, .f32⟩
  | 119 => ⟨S4096x8, .f32⟩
  | 120 => ⟨S4096x8, .f32⟩
  | 121 => ⟨S12, .f32⟩
  | 122 => ⟨S12, .f32⟩
  | 123 => ⟨S_, .f32⟩
  | 124 => ⟨S12, .f32⟩
  | 125 => ⟨S12, .f32⟩
  | 126 => ⟨S_, .f32⟩
  | 127 => ⟨S12, .f32⟩
  | _ => ⟨S34816x7216, .bf16⟩

abbrev hbmTy0_1 (i : Nat) : BufTy := match i % 128 with
  | 0 => ⟨S12, .f32⟩
  | 1 => ⟨S4096x1, .f32⟩
  | 2 => ⟨S1x12, .f32⟩
  | 3 => ⟨S4096x12, .f32⟩
  | 4 => ⟨S4096x12, .f32⟩
  | 5 => ⟨S4096x12, .f32⟩
  | 6 => ⟨S12, .f32⟩
  | 7 => ⟨S12, .f32⟩
  | 8 => ⟨S_, .f32⟩
  | 9 => ⟨S12, .f32⟩
  | 10 => ⟨S12, .f32⟩
  | 11 => ⟨S_, .f32⟩
  | 12 => ⟨S12, .f32⟩
  | 13 => ⟨S12, .f32⟩
  | 14 => ⟨S4096x1, .f32⟩
  | 15 => ⟨S1x12, .f32⟩
  | 16 => ⟨S4096x12, .f32⟩
  | 17 => ⟨S4096x12, .f32⟩
  | 18 => ⟨S4096x12, .f32⟩
  | 19 => ⟨S4096x32, .f32⟩
  | 20 => ⟨S1x4096x1x32, .f32⟩
  | 21 => ⟨S1x4096x1x32, .f32⟩
  | 22 => ⟨S1x4096x1x32, .f32⟩
  | 23 => ⟨S8x4096x8x32, .f32⟩
  | 24 => ⟨S8x4096x8x32, .f32⟩
  | 25 => ⟨S8x4096x8x32, .f32⟩
  | 26 => ⟨S8x4096x8x32, .f32⟩
  | 27 => ⟨S8x4096x8x32, .f32⟩
  | 28 => ⟨S8x4096x8x32, .f32⟩
  | 29 => ⟨S8x4096x8x32, .f32⟩
  | 30 => ⟨S8x4096x8x32, .f32⟩
  | 31 => ⟨S8x4096x8x32, .f32⟩
  | 32 => ⟨S8x4096x8x32, .f32⟩
  | 33 => ⟨S8x4096x8x32, .f32⟩
  | 34 => ⟨S8x4096x8x32, .f32⟩
  | 35 => ⟨S8x4096x8x64, .f32⟩
  | 36 => ⟨S8x4096x4x64, .f32⟩
  | 37 => ⟨S8x4x4096x64, .f32⟩
  | 38 => ⟨S8x4096x4x64, .f32⟩
  | 39 => ⟨S8x4x4096x64, .f32⟩
  | 40 => ⟨S_, .f32⟩
  | 41 => ⟨S8x4x4096x64, .f32⟩
  | 42 => ⟨S8x4x4096x64, .f32⟩
  | 43 => ⟨S8x4096x512, .bf16⟩
  | 44 => ⟨S8x4096x512, .f32⟩
  | 45 => ⟨S8x4096x4x128, .f32⟩
  | 46 => ⟨S8x4x4096x128, .f32⟩
  | 47 => ⟨S1x4x1, .f32⟩
  | 48 => ⟨S8x4x4352, .f32⟩
  | 49 => ⟨S_, .f32⟩
  | 50 => ⟨S8x4x64x128, .f32⟩
  | 51 => ⟨S8x4x256x64, .f32⟩
  | 52 => ⟨S8x4x4096x64, .f32⟩
  | 53 => ⟨S8x4x4352x64, .f32⟩
  | 54 => ⟨S8x4x256x64, .f32⟩
  | 55 => ⟨S8x4x4096x64, .f32⟩
  | 56 => ⟨S8x4x4352x64, .f32⟩
  | 57 => ⟨S8x4x256x128, .f32⟩
  | 58 => ⟨S8x4x4096x128, .f32⟩
  | 59 => ⟨S8x4x4352x128, .f32⟩
  | 60 => ⟨S8x4x68x64x64, .f32⟩
  | 61 => ⟨S68x8x4x64x64, .f32⟩
  | 62 => ⟨S8x4x68x64x64, .f32⟩
  | 63 => ⟨S68x8x4x64x64, .f32⟩
  | 64 => ⟨S8x4x68x64x128, .f32⟩
  | 65 => ⟨S68x8x4x64x128, .f32⟩
  | 66 => ⟨S8x4x68x64, .f32⟩
  | 67 => ⟨S68x8x4x64, .f32⟩
  | 68 => ⟨S_, .f32⟩
  | 69 => ⟨S68x8x4x64x128, .f32⟩
  | 70 => ⟨S_, .i32⟩
  | 71 => ⟨S68x8x4x64x64, .f32⟩
  | 72 => ⟨S68x8x4x64x64, .f32⟩
  | 73 => ⟨S68x8x4x64x128, .f32⟩
  | 74 => ⟨S68x8x4x64, .f32⟩
  | 75 => ⟨S_, .i32⟩
  | 76 => ⟨S8x4x64x128, .f32⟩
  | 77 => ⟨S68x8x4x64x128, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S1x8x4x64x64, .f32⟩
  | 85 => ⟨S8x4x64x64, .f32⟩
  | 86 => ⟨S_, .i32⟩
  | 87 => ⟨S_, .i32⟩
  | 88 => ⟨S_, .i32⟩
  | 89 => ⟨S_, .i32⟩
  | 90 => ⟨S1x8x4x64x64, .f32⟩
  | 91 => ⟨S8x4x64x64, .f32⟩
  | 92 => ⟨S_, .i32⟩
  | 93 => ⟨S_, .i32⟩
  | 94 => ⟨S_, .i32⟩
  | 95 => ⟨S_, .i32⟩
  | 96 => ⟨S1x8x4x64x128, .f32⟩
  | 97 => ⟨S8x4x64x128, .f32⟩
  | 98 => ⟨S_, .i32⟩
  | 99 => ⟨S_, .i32⟩
  | 100 => ⟨S_, .i32⟩
  | 101 => ⟨S1x8x4x64, .f32⟩
  | 102 => ⟨S8x4x64, .f32⟩
  | 103 => ⟨S_, .f32⟩
  | 104 => ⟨S_, .f32⟩
  | 105 => ⟨S8x4x64, .f32⟩
  | 106 => ⟨S8x4x64x64, .f32⟩
  | 107 => ⟨S_, .i1⟩
  | 108 => ⟨S64x64, .i1⟩
  | 109 => ⟨S64x64, .i32⟩
  | 110 => ⟨S_, .i32⟩
  | 111 => ⟨S64x64, .i32⟩
  | 112 => ⟨S64x64, .i32⟩
  | 113 => ⟨S64x64, .i32⟩
  | 114 => ⟨S64x64, .i1⟩
  | 115 => ⟨S_, .i1⟩
  | 116 => ⟨S64x64, .i1⟩
  | 117 => ⟨S64x64, .i1⟩
  | 118 => ⟨S8x4x64x1, .f32⟩
  | 119 => ⟨S8x4x1x64, .f32⟩
  | 120 => ⟨S8x4x64x64, .f32⟩
  | 121 => ⟨S8x4x64x64, .f32⟩
  | 122 => ⟨S8x4x64x64, .f32⟩
  | 123 => ⟨S_, .f32⟩
  | 124 => ⟨S8x4x64x64, .f32⟩
  | 125 => ⟨S8x4x64x64, .i1⟩
  | 126 => ⟨S8x4x64x64, .f32⟩
  | 127 => ⟨S8x4x64x64, .f32⟩
  | _ => ⟨S34816x7216, .bf16⟩

abbrev hbmTy0_2 (i : Nat) : BufTy := match i % 128 with
  | 0 => ⟨S8x4x64x64, .f32⟩
  | 1 => ⟨S8x4x64x128, .f32⟩
  | 2 => ⟨S8x4x64, .f32⟩
  | 3 => ⟨S8x4x64x1, .f32⟩
  | 4 => ⟨S8x4x64x64, .f32⟩
  | 5 => ⟨S8x4x64x64, .f32⟩
  | 6 => ⟨S8x4x1, .f32⟩
  | 7 => ⟨S8x4x64, .f32⟩
  | 8 => ⟨S8x4x64, .f32⟩
  | 9 => ⟨S8x4x64, .f32⟩
  | 10 => ⟨S8x4x64x1, .f32⟩
  | 11 => ⟨S8x4x64x64, .f32⟩
  | 12 => ⟨S8x4x64x64, .f32⟩
  | 13 => ⟨S8x4x64x128, .f32⟩
  | 14 => ⟨S8x4x64x128, .f32⟩
  | 15 => ⟨S8x4x1, .f32⟩
  | 16 => ⟨S8x4, .f32⟩
  | 17 => ⟨S8x4, .f32⟩
  | 18 => ⟨S8x4x1x1, .f32⟩
  | 19 => ⟨S8x4x64x128, .f32⟩
  | 20 => ⟨S8x4x64x128, .f32⟩
  | 21 => ⟨S8x4x64x128, .f32⟩
  | 22 => ⟨S8x4x64x128, .f32⟩
  | 23 => ⟨S1x8x4x64x128, .f32⟩
  | 24 => ⟨S_, .i32⟩
  | 25 => ⟨S_, .i32⟩
  | 26 => ⟨S_, .i32⟩
  | 27 => ⟨S_, .i32⟩
  | 28 => ⟨S68x8x4x64x128, .f32⟩
  | 29 => ⟨S_, .i32⟩
  | 30 => ⟨S_, .i32⟩
  | 31 => ⟨S8x4x68x64x128, .f32⟩
  | 32 => ⟨S8x4x4352x128, .f32⟩
  | 33 => ⟨S8x4x4096x128, .f32⟩
  | 34 => ⟨S8x4x4096x128, .f32⟩
  | 35 => ⟨S8x4096x4x128, .f32⟩
  | 36 => ⟨S8x4096x512, .f32⟩
  | 37 => ⟨S8x4x256x128, .f32⟩
  | 38 => ⟨S8x4x256x128, .f32⟩
  | 39 => ⟨S8x256x4x128, .f32⟩
  | 40 => ⟨S8x256x512, .f32⟩
  | 41 => ⟨S32768x512, .f32⟩
  | 42 => ⟨S2048x512, .f32⟩
  | 43 => ⟨S34816x512, .f32⟩
  | _ => ⟨S34816x7216, .bf16⟩

abbrev hbmTy (i : Nat) : BufTy := match i / 128 with
  | 0 => hbmTy0_0 i
  | 1 => hbmTy0_1 i
  | 2 => hbmTy0_2 i
  | _ => ⟨S34816x7216, .bf16⟩

abbrev bufTy : (tb : Table) → Fin (tcTables nBuf tb) → BufTy
  | .hbm, ⟨i, _⟩ => hbmTy i
  | _, _ => ⟨S34816x7216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_3 : Ref sig .tc := ⟨.hbm, 26, rfl⟩
abbrev main_v21 : Ref sig .tc := ⟨.hbm, 27, rfl⟩
abbrev main_v22 : Ref sig .tc := ⟨.hbm, 28, rfl⟩
abbrev main_cst_4 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_5 : Ref sig .tc := ⟨.hbm, 39, rfl⟩
abbrev main_v32 : Ref sig .tc := ⟨.hbm, 40, rfl⟩
abbrev main_v33 : Ref sig .tc := ⟨.hbm, 41, rfl⟩
abbrev main_cst_6 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_7 : Ref sig .tc := ⟨.hbm, 52, rfl⟩
abbrev main_v43 : Ref sig .tc := ⟨.hbm, 53, rfl⟩
abbrev main_v44 : Ref sig .tc := ⟨.hbm, 54, rfl⟩
abbrev main_cst_8 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_9 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_cst_10 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_11 : Ref sig .tc := ⟨.hbm, 110, rfl⟩
abbrev main_v97 : Ref sig .tc := ⟨.hbm, 111, rfl⟩
abbrev main_v98 : Ref sig .tc := ⟨.hbm, 112, rfl⟩
abbrev main_cst_12 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_cst_13 : Ref sig .tc := ⟨.hbm, 123, rfl⟩
abbrev main_v108 : Ref sig .tc := ⟨.hbm, 124, rfl⟩
abbrev main_v109 : Ref sig .tc := ⟨.hbm, 125, rfl⟩
abbrev main_cst_14 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_cst_15 : Ref sig .tc := ⟨.hbm, 136, rfl⟩
abbrev main_v119 : Ref sig .tc := ⟨.hbm, 137, rfl⟩
abbrev main_v120 : Ref sig .tc := ⟨.hbm, 138, rfl⟩
abbrev main_cst_16 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_cst_17 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_cst_18 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_cst_19 : Ref sig .tc := ⟨.hbm, 196, rfl⟩
abbrev main_v175 : Ref sig .tc := ⟨.hbm, 197, rfl⟩
abbrev main_c : Ref sig .tc := ⟨.hbm, 198, rfl⟩
abbrev main_v176_0 : Ref sig .tc := ⟨.hbm, 199, rfl⟩
abbrev main_v176_1 : Ref sig .tc := ⟨.hbm, 200, rfl⟩
abbrev main_v176_2 : Ref sig .tc := ⟨.hbm, 201, rfl⟩
abbrev main_v176_3 : Ref sig .tc := ⟨.hbm, 202, rfl⟩
abbrev main_v176_4 : Ref sig .tc := ⟨.hbm, 203, rfl⟩
abbrev main_v176_5 : Ref sig .tc := ⟨.hbm, 204, rfl⟩
abbrev main_v176_6 : Ref sig .tc := ⟨.hbm, 205, rfl⟩
abbrev main_while0c_c_26 : Ref sig .tc := ⟨.hbm, 206, rfl⟩
abbrev main_while0c_v190 : Ref sig .tc := ⟨.hbm, 207, rfl⟩
abbrev main_while0b_call6_c : Ref sig .tc := ⟨.hbm, 208, rfl⟩
abbrev main_while0b_call6_c_0 : Ref sig .tc := ⟨.hbm, 209, rfl⟩
abbrev main_while0b_call6_c_1 : Ref sig .tc := ⟨.hbm, 210, rfl⟩
abbrev main_while0b_call6_c_2 : Ref sig .tc := ⟨.hbm, 211, rfl⟩
abbrev main_while0b_call6_v0 : Ref sig .tc := ⟨.hbm, 212, rfl⟩
abbrev main_while0b_v190 : Ref sig .tc := ⟨.hbm, 213, rfl⟩
abbrev main_while0b_call7_c : Ref sig .tc := ⟨.hbm, 214, rfl⟩
abbrev main_while0b_call7_c_0 : Ref sig .tc := ⟨.hbm, 215, rfl⟩
abbrev main_while0b_call7_c_1 : Ref sig .tc := ⟨.hbm, 216, rfl⟩
abbrev main_while0b_call7_c_2 : Ref sig .tc := ⟨.hbm, 217, rfl⟩
abbrev main_while0b_call7_v0 : Ref sig .tc := ⟨.hbm, 218, rfl⟩
abbrev main_while0b_v191 : Ref sig .tc := ⟨.hbm, 219, rfl⟩
abbrev main_while0b_call8_c : Ref sig .tc := ⟨.hbm, 220, rfl⟩
abbrev main_while0b_call8_c_0 : Ref sig .tc := ⟨.hbm, 221, rfl⟩
abbrev main_while0b_call8_c_1 : Ref sig .tc := ⟨.hbm, 222, rfl⟩
abbrev main_while0b_call8_c_2 : Ref sig .tc := ⟨.hbm, 223, rfl⟩
abbrev main_while0b_call8_v0 : Ref sig .tc := ⟨.hbm, 224, rfl⟩
abbrev main_while0b_v192 : Ref sig .tc := ⟨.hbm, 225, rfl⟩
abbrev main_while0b_call9_c : Ref sig .tc := ⟨.hbm, 226, rfl⟩
abbrev main_while0b_call9_c_0 : Ref sig .tc := ⟨.hbm, 227, rfl⟩
abbrev main_while0b_call9_c_1 : Ref sig .tc := ⟨.hbm, 228, rfl⟩
abbrev main_while0b_call9_v0 : Ref sig .tc := ⟨.hbm, 229, rfl⟩
abbrev main_while0b_v193 : Ref sig .tc := ⟨.hbm, 230, rfl⟩
abbrev main_while0b_call10_call0_cst : Ref sig .tc := ⟨.hbm, 231, rfl⟩
abbrev main_while0b_call10_call0_v0 : Ref sig .tc := ⟨.hbm, 232, rfl⟩
abbrev main_while0b_v194 : Ref sig .tc := ⟨.hbm, 233, rfl⟩
abbrev main_while0b_v195 : Ref sig .tc := ⟨.hbm, 234, rfl⟩
abbrev main_while0b_c_26 : Ref sig .tc := ⟨.hbm, 235, rfl⟩
abbrev main_while0b_v196 : Ref sig .tc := ⟨.hbm, 236, rfl⟩
abbrev main_while0b_call11_v0 : Ref sig .tc := ⟨.hbm, 237, rfl⟩
abbrev main_while0b_call11_c : Ref sig .tc := ⟨.hbm, 238, rfl⟩
abbrev main_while0b_call11_v1 : Ref sig .tc := ⟨.hbm, 239, rfl⟩
abbrev main_while0b_call11_v2 : Ref sig .tc := ⟨.hbm, 240, rfl⟩
abbrev main_while0b_call11_v3 : Ref sig .tc := ⟨.hbm, 241, rfl⟩
abbrev main_while0b_call11_v4 : Ref sig .tc := ⟨.hbm, 242, rfl⟩
abbrev main_while0b_call11_c_0 : Ref sig .tc := ⟨.hbm, 243, rfl⟩
abbrev main_while0b_call11_v5 : Ref sig .tc := ⟨.hbm, 244, rfl⟩
abbrev main_while0b_v197 : Ref sig .tc := ⟨.hbm, 245, rfl⟩
abbrev main_while0b_v198 : Ref sig .tc := ⟨.hbm, 246, rfl⟩
abbrev main_while0b_v199 : Ref sig .tc := ⟨.hbm, 247, rfl⟩
abbrev main_while0b_v200 : Ref sig .tc := ⟨.hbm, 248, rfl⟩
abbrev main_while0b_v201 : Ref sig .tc := ⟨.hbm, 249, rfl⟩
abbrev main_while0b_v202 : Ref sig .tc := ⟨.hbm, 250, rfl⟩
abbrev main_while0b_cst_27 : Ref sig .tc := ⟨.hbm, 251, rfl⟩
abbrev main_while0b_v203 : Ref sig .tc := ⟨.hbm, 252, rfl⟩
abbrev main_while0b_call12_v0 : Ref sig .tc := ⟨.hbm, 253, rfl⟩
abbrev main_while0b_v204 : Ref sig .tc := ⟨.hbm, 254, rfl⟩
abbrev main_while0b_v205 : Ref sig .tc := ⟨.hbm, 255, rfl⟩
abbrev main_while0b_v206 : Ref sig .tc := ⟨.hbm, 256, rfl⟩
abbrev main_while0b_v207 : Ref sig .tc := ⟨.hbm, 257, rfl⟩
abbrev main_while0b_v208 : Ref sig .tc := ⟨.hbm, 258, rfl⟩
abbrev main_while0b_v209 : Ref sig .tc := ⟨.hbm, 259, rfl⟩
abbrev main_while0b_v210 : Ref sig .tc := ⟨.hbm, 260, rfl⟩
abbrev main_while0b_v211 : Ref sig .tc := ⟨.hbm, 261, rfl⟩
abbrev main_while0b_v212 : Ref sig .tc := ⟨.hbm, 262, rfl⟩
abbrev main_while0b_v213 : Ref sig .tc := ⟨.hbm, 263, rfl⟩
abbrev main_while0b_v214 : Ref sig .tc := ⟨.hbm, 264, rfl⟩
abbrev main_while0b_v215 : Ref sig .tc := ⟨.hbm, 265, rfl⟩
abbrev main_while0b_v216 : Ref sig .tc := ⟨.hbm, 266, rfl⟩
abbrev main_while0b_v217 : Ref sig .tc := ⟨.hbm, 267, rfl⟩
abbrev main_while0b_v218 : Ref sig .tc := ⟨.hbm, 268, rfl⟩
abbrev main_while0b_v219 : Ref sig .tc := ⟨.hbm, 269, rfl⟩
abbrev main_while0b_v220 : Ref sig .tc := ⟨.hbm, 270, rfl⟩
abbrev main_while0b_v221 : Ref sig .tc := ⟨.hbm, 271, rfl⟩
abbrev main_while0b_v222 : Ref sig .tc := ⟨.hbm, 272, rfl⟩
abbrev main_while0b_v223 : Ref sig .tc := ⟨.hbm, 273, rfl⟩
abbrev main_while0b_v224 : Ref sig .tc := ⟨.hbm, 274, rfl⟩
abbrev main_while0b_v225 : Ref sig .tc := ⟨.hbm, 275, rfl⟩
abbrev main_while0b_v226 : Ref sig .tc := ⟨.hbm, 276, rfl⟩
abbrev main_while0b_v227 : Ref sig .tc := ⟨.hbm, 277, rfl⟩
abbrev main_while0b_v228 : Ref sig .tc := ⟨.hbm, 278, rfl⟩
abbrev main_while0b_call13_v0 : Ref sig .tc := ⟨.hbm, 279, rfl⟩
abbrev main_while0b_call13_c : Ref sig .tc := ⟨.hbm, 280, rfl⟩
abbrev main_while0b_call13_c_0 : Ref sig .tc := ⟨.hbm, 281, rfl⟩
abbrev main_while0b_call13_c_1 : Ref sig .tc := ⟨.hbm, 282, rfl⟩
abbrev main_while0b_call13_c_2 : Ref sig .tc := ⟨.hbm, 283, rfl⟩
abbrev main_while0b_v229 : Ref sig .tc := ⟨.hbm, 284, rfl⟩
abbrev main_while0b_c_28 : Ref sig .tc := ⟨.hbm, 285, rfl⟩
abbrev main_while0b_v230 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩

abbrev nD : Nat := 1
abbrev τ : Topo := Topo.v7x

variable {F : FTy → Type} [FloatOps F]

abbrev main_while0_count : Scf.Loop 32 := ⟨0#32, 68#32, 1#32⟩
-- ==== Kernel2.lean ====
abbrev S34816x2048 : Shape := ⟨2, ![34816, 2048]⟩
abbrev S34816x512 : Shape := ⟨2, ![34816, 512]⟩
abbrev S4x2048x2048 : Shape := ⟨3, ![4, 2048, 2048]⟩
abbrev S4x2048 : Shape := ⟨2, ![4, 2048]⟩
abbrev S4x512x2048 : Shape := ⟨3, ![4, 512, 2048]⟩
abbrev S4x1x2048 : Shape := ⟨3, ![4, 1, 2048]⟩
abbrev S1024x2048 : Shape := ⟨2, ![1024, 2048]⟩
abbrev S1024x512 : Shape := ⟨2, ![1024, 512]⟩
abbrev S4x2048x512 : Shape := ⟨3, ![4, 2048, 512]⟩
abbrev S4x1x512 : Shape := ⟨3, ![4, 1, 512]⟩
abbrev S4x512x512 : Shape := ⟨3, ![4, 512, 512]⟩
abbrev S1x2048x512 : Shape := ⟨3, ![1, 2048, 512]⟩
abbrev S2048x512 : Shape := ⟨2, ![2048, 512]⟩
abbrev S1x1x512 : Shape := ⟨3, ![1, 1, 512]⟩
abbrev S1x512 : Shape := ⟨2, ![1, 512]⟩
abbrev S1x512x512 : Shape := ⟨3, ![1, 512, 512]⟩
abbrev S512x512 : Shape := ⟨2, ![512, 512]⟩

abbrev nBuf : Space → Nat
  | .hbm => 12
  | .vmem => 18
  | .smem => 0
  | _ => 0

abbrev bufTy : (tb : Table) → Fin (tcTables nBuf tb) → BufTy
  | .hbm, ⟨0, _⟩ => ⟨S34816x2048, .bf16⟩
  | .hbm, ⟨1, _⟩ => ⟨S34816x512, .bf16⟩
  | .hbm, ⟨2, _⟩ => ⟨S34816x512, .bf16⟩
  | .hbm, ⟨3, _⟩ => ⟨S34816x512, .bf16⟩
  | .hbm, ⟨4, _⟩ => ⟨S34816x512, .bf16⟩
  | .hbm, ⟨5, _⟩ => ⟨S4x2048x2048, .f32⟩
  | .hbm, ⟨6, _⟩ => ⟨S4x2048, .f32⟩
  | .hbm, ⟨7, _⟩ => ⟨S4x512x2048, .f32⟩
  | .hbm, ⟨8, _⟩ => ⟨S4x2048x2048, .bf16⟩
  | .hbm, ⟨9, _⟩ => ⟨S4x512x2048, .bf16⟩
  | .hbm, ⟨10, _⟩ => ⟨S4x1x2048, .f32⟩
  | .hbm, ⟨11, _⟩ => ⟨S34816x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S4x2048x512, .bf16⟩
  | .local _ .vmem, ⟨11, _⟩ => ⟨S4x2048x512, .bf16⟩
  | .local _ .vmem, ⟨12, _⟩ => ⟨S4x1x512, .f32⟩
  | .local _ .vmem, ⟨13, _⟩ => ⟨S4x1x512, .f32⟩
  | .local _ .vmem, ⟨14, _⟩ => ⟨S4x512x512, .bf16⟩
  | .local _ .vmem, ⟨15, _⟩ => ⟨S4x512x512, .bf16⟩
  | .local _ .vmem, ⟨16, _⟩ => ⟨S1024x512, .bf16⟩
  | .local _ .vmem, ⟨17, _⟩ => ⟨S1024x512, .bf16⟩
  | _, _ => ⟨S34816x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S34816x2048 : Shape := ⟨2, ![34816, 2048]⟩
abbrev S34816x512 : Shape := ⟨2, ![34816, 512]⟩
abbrev S4x2048x2048 : Shape := ⟨3, ![4, 2048, 2048]⟩
abbrev S4x2048 : Shape := ⟨2, ![4, 2048]⟩
abbrev S4x512x2048 : Shape := ⟨3, ![4, 512, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S1x512x2048 : Shape := ⟨3, ![1, 512, 2048]⟩
abbrev S512x2048 : Shape := ⟨2, ![512, 2048]⟩

abbrev nBuf : Space → Nat
  | .hbm => 97
  | .vmem => 0
  | .smem => 0
  | _ => 0

abbrev bufTy : (tb : Table) → Fin (tcTables nBuf tb) → BufTy
  | .hbm, ⟨0, _⟩ => ⟨S34816x2048, .bf16⟩
  | .hbm, ⟨1, _⟩ => ⟨S34816x512, .bf16⟩
  | .hbm, ⟨2, _⟩ => ⟨S34816x512, .bf16⟩
  | .hbm, ⟨3, _⟩ => ⟨S34816x512, .bf16⟩
  | .hbm, ⟨4, _⟩ => ⟨S34816x512, .bf16⟩
  | .hbm, ⟨5, _⟩ => ⟨S4x2048x2048, .f32⟩
  | .hbm, ⟨6, _⟩ => ⟨S4x2048, .f32⟩
  | .hbm, ⟨7, _⟩ => ⟨S4x512x2048, .f32⟩
  | .hbm, ⟨8, _⟩ => ⟨S34816x2048, .f32⟩
  | .hbm, ⟨9, _⟩ => ⟨S1x2048x2048, .f32⟩
  | .hbm, ⟨10, _⟩ => ⟨S2048x2048, .f32⟩
  | .hbm, ⟨11, _⟩ => ⟨S34816x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S34816x2048, .f32⟩
  | .hbm, ⟨16, _⟩ => ⟨S34816x2048, .f32⟩
  | .hbm, ⟨17, _⟩ => ⟨S34816x2048, .f32⟩
  | .hbm, ⟨18, _⟩ => ⟨S34816x2048, .f32⟩
  | .hbm, ⟨19, _⟩ => ⟨S_, .f32⟩
  | .hbm, ⟨20, _⟩ => ⟨S34816x2048, .f32⟩
  | .hbm, ⟨21, _⟩ => ⟨S34816x2048, .f32⟩
  | .hbm, ⟨22, _⟩ => ⟨S_, .f32⟩
  | .hbm, ⟨23, _⟩ => ⟨S34816x2048, .f32⟩
  | .hbm, ⟨24, _⟩ => ⟨S34816x2048, .f32⟩
  | .hbm, ⟨25, _⟩ => ⟨S34816x512, .f32⟩
  | .hbm, ⟨26, _⟩ => ⟨S1x512x2048, .f32⟩
  | .hbm, ⟨27, _⟩ => ⟨S512x2048, .f32⟩
  | .hbm, ⟨28, _⟩ => ⟨S34816x2048, .f32⟩
  | .hbm, ⟨29, _⟩ => ⟨S34816x2048, .f32⟩
  | .hbm, ⟨30, _⟩ => ⟨S1x2048x2048, .f32⟩
  | .hbm, ⟨31, _⟩ => ⟨S2048x2048, .f32⟩
  | .hbm, ⟨32, _⟩ => ⟨S34816x2048, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S34816x2048, .f32⟩
  | .hbm, ⟨37, _⟩ => ⟨S34816x2048, .f32⟩
  | .hbm, ⟨38, _⟩ => ⟨S34816x2048, .f32⟩
  | .hbm, ⟨39, _⟩ => ⟨S34816x2048, .f32⟩
  | .hbm, ⟨40, _⟩ => ⟨S_, .f32⟩
  | .hbm, ⟨41, _⟩ => ⟨S34816x2048, .f32⟩
  | .hbm, ⟨42, _⟩ => ⟨S34816x2048, .f32⟩
  | .hbm, ⟨43, _⟩ => ⟨S_, .f32⟩
  | .hbm, ⟨44, _⟩ => ⟨S34816x2048, .f32⟩
  | .hbm, ⟨45, _⟩ => ⟨S34816x2048, .f32⟩
  | .hbm, ⟨46, _⟩ => ⟨S34816x512, .f32⟩
  | .hbm, ⟨47, _⟩ => ⟨S1x512x2048, .f32⟩
  | .hbm, ⟨48, _⟩ => ⟨S512x2048, .f32⟩
  | .hbm, ⟨49, _⟩ => ⟨S34816x2048, .f32⟩
  | .hbm, ⟨50, _⟩ => ⟨S34816x2048, .f32⟩
  | .hbm, ⟨51, _⟩ => ⟨S34816x2048, .f32⟩
  | .hbm, ⟨52, _⟩ => ⟨S1x2048x2048, .f32⟩
  | .hbm, ⟨53, _⟩ => ⟨S2048x2048, .f32⟩
  | .hbm, ⟨54, _⟩ => ⟨S34816x2048, .f32⟩
  | .hbm, ⟨55, _⟩ => ⟨S1x2048, .f32⟩
  | .hbm, ⟨56, _⟩ => ⟨S2048, .f32⟩
  | .hbm, ⟨57, _⟩ => ⟨S1x2048, .f32⟩
  | .hbm, ⟨58, _⟩ => ⟨S34816x2048, .f32⟩
  | .hbm, ⟨59, _⟩ => ⟨S34816x2048, .f32⟩
  | .hbm, ⟨60, _⟩ => ⟨S34816x2048, .f32⟩
  | .hbm, ⟨61, _⟩ => ⟨S34816x2048, .f32⟩
  | .hbm, ⟨62, _⟩ => ⟨S_, .f32⟩
  | .hbm, ⟨63, _⟩ => ⟨S34816x2048, .f32⟩
  | .hbm, ⟨64, _⟩ => ⟨S34816x2048, .f32⟩
  | .hbm, ⟨65, _⟩ => ⟨S_, .f32⟩
  | .hbm, ⟨66, _⟩ => ⟨S34816x2048, .f32⟩
  | .hbm, ⟨67, _⟩ => ⟨S34816x2048, .f32⟩
  | .hbm, ⟨68, _⟩ => ⟨S34816x512, .f32⟩
  | .hbm, ⟨69, _⟩ => ⟨S1x512x2048, .f32⟩
  | .hbm, ⟨70, _⟩ => ⟨S512x2048, .f32⟩
  | .hbm, ⟨71, _⟩ => ⟨S34816x2048, .f32⟩
  | .hbm, ⟨72, _⟩ => ⟨S34816x2048, .f32⟩
  | .hbm, ⟨73, _⟩ => ⟨S34816x2048, .f32⟩
  | .hbm, ⟨74, _⟩ => ⟨S1x2048x2048, .f32⟩
  | .hbm, ⟨75, _⟩ => ⟨S2048x2048, .f32⟩
  | .hbm, ⟨76, _⟩ => ⟨S34816x2048, .f32⟩
  | .hbm, ⟨77, _⟩ => ⟨S1x2048, .f32⟩
  | .hbm, ⟨78, _⟩ => ⟨S2048, .f32⟩
  | .hbm, ⟨79, _⟩ => ⟨S1x2048, .f32⟩
  | .hbm, ⟨80, _⟩ => ⟨S34816x2048, .f32⟩
  | .hbm, ⟨81, _⟩ => ⟨S34816x2048, .f32⟩
  | .hbm, ⟨82, _⟩ => ⟨S34816x2048, .f32⟩
  | .hbm, ⟨83, _⟩ => ⟨S34816x2048, .f32⟩
  | .hbm, ⟨84, _⟩ => ⟨S_, .f32⟩
  | .hbm, ⟨85, _⟩ => ⟨S34816x2048, .f32⟩
  | .hbm, ⟨86, _⟩ => ⟨S34816x2048, .f32⟩
  | .hbm, ⟨87, _⟩ => ⟨S_, .f32⟩
  | .hbm, ⟨88, _⟩ => ⟨S34816x2048, .f32⟩
  | .hbm, ⟨89, _⟩ => ⟨S34816x2048, .f32⟩
  | .hbm, ⟨90, _⟩ => ⟨S34816x512, .f32⟩
  | .hbm, ⟨91, _⟩ => ⟨S1x512x2048, .f32⟩
  | .hbm, ⟨92, _⟩ => ⟨S512x2048, .f32⟩
  | .hbm, ⟨93, _⟩ => ⟨S34816x2048, .f32⟩
  | .hbm, ⟨94, _⟩ => ⟨S34816x2048, .f32⟩
  | .hbm, ⟨95, _⟩ => ⟨S34816x2048, .f32⟩
  | .hbm, ⟨96, _⟩ => ⟨S34816x2048, .bf16⟩
  | _, _ => ⟨S34816x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_5 : Ref sig .tc := ⟨.hbm, 84, rfl⟩
abbrev main_v70 : Ref sig .tc := ⟨.hbm, 85, rfl⟩
abbrev main_v71 : Ref sig .tc := ⟨.hbm, 86, rfl⟩
abbrev main_cst_6 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩

abbrev nD : Nat := 1
abbrev τ : Topo := Topo.v7x

variable {F : FTy → Type} [FloatOps F]
-- ==== Kernel3.lean ====
abbrev S34816x2048 : Shape := ⟨2, ![34816, 2048]⟩
abbrev S2048x2048 : Shape := ⟨2, ![2048, 2048]⟩
abbrev S9x1x2048 : Shape := ⟨3, ![9, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S34816x2048, .bf16⟩
  | .hbm, ⟨1, _⟩ => ⟨S2048x2048, .f32⟩
  | .hbm, ⟨2, _⟩ => ⟨S34816x2048, .f32⟩
  | .hbm, ⟨3, _⟩ => ⟨S9x1x2048, .f32⟩
  | .hbm, ⟨4, _⟩ => ⟨S2048x2048, .bf16⟩
  | .hbm, ⟨5, _⟩ => ⟨S34816x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S34816x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![34, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 v18 c0_i32_5
  let c0_i32_6 : BitVec 32 := 0#32
  let c0_i32_7 : BitVec 32 := 0#32
  ![v19.toNat, c0_i32_6.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S34816x2048 : Shape := ⟨2, ![34816, 2048]⟩
abbrev S2048x2048 : Shape := ⟨2, ![2048, 2048]⟩
abbrev S9x1x2048 : Shape := ⟨3, ![9, 1, 2048]⟩
abbrev S1x1x2048 : Shape := ⟨3, ![1, 1, 2048]⟩
abbrev S1x2048 : Shape := ⟨2, ![1, 2048]⟩
abbrev S8x1x2048 : Shape := ⟨3, ![8, 1, 2048]⟩
abbrev S32768x2048 : Shape := ⟨2, ![32768, 2048]⟩
abbrev S8x4096x2048 : Shape := ⟨3, ![8, 4096, 2048]⟩
abbrev S8x256x2048 : Shape := ⟨3, ![8, 256, 2048]⟩

abbrev nBuf : Space → Nat
  | .hbm => 28
  | .vmem => 0
  | .smem => 0
  | _ => 0

abbrev bufTy : (tb : Table) → Fin (tcTables nBuf tb) → BufTy
  | .hbm, ⟨0, _⟩ => ⟨S34816x2048, .bf16⟩
  | .hbm, ⟨1, _⟩ => ⟨S2048x2048, .f32⟩
  | .hbm, ⟨2, _⟩ => ⟨S34816x2048, .f32⟩
  | .hbm, ⟨3, _⟩ => ⟨S9x1x2048, .f32⟩
  | .hbm, ⟨4, _⟩ => ⟨S1x1x2048, .f32⟩
  | .hbm, ⟨5, _⟩ => ⟨S1x2048, .f32⟩
  | .hbm, ⟨6, _⟩ => ⟨S8x1x2048, .f32⟩
  | .hbm, ⟨7, _⟩ => ⟨S34816x2048, .f32⟩
  | .hbm, ⟨8, _⟩ => ⟨S32768x2048, .f32⟩
  | .hbm, ⟨9, _⟩ => ⟨S8x4096x2048, .f32⟩
  | .hbm, ⟨10, _⟩ => ⟨S32768x2048, .f32⟩
  | .hbm, ⟨11, _⟩ => ⟨S8x4096x2048, .f32⟩
  | .hbm, ⟨12, _⟩ => ⟨S8x4096x2048, .f32⟩
  | .hbm, ⟨13, _⟩ => ⟨S8x4096x2048, .f32⟩
  | .hbm, ⟨14, _⟩ => ⟨S8x4096x2048, .f32⟩
  | .hbm, ⟨15, _⟩ => ⟨S8x4096x2048, .f32⟩
  | .hbm, ⟨16, _⟩ => ⟨S2048x2048, .f32⟩
  | .hbm, ⟨17, _⟩ => ⟨S8x256x2048, .f32⟩
  | .hbm, ⟨18, _⟩ => ⟨S2048x2048, .f32⟩
  | .hbm, ⟨19, _⟩ => ⟨S8x256x2048, .f32⟩
  | .hbm, ⟨20, _⟩ => ⟨S8x256x2048, .f32⟩
  | .hbm, ⟨21, _⟩ => ⟨S1x1x2048, .f32⟩
  | .hbm, ⟨22, _⟩ => ⟨S8x256x2048, .f32⟩
  | .hbm, ⟨23, _⟩ => ⟨S8x256x2048, .f32⟩
  | .hbm, ⟨24, _⟩ => ⟨S8x256x2048, .f32⟩
  | .hbm, ⟨25, _⟩ => ⟨S32768x2048, .f32⟩
  | .hbm, ⟨26, _⟩ => ⟨S2048x2048, .f32⟩
  | .hbm, ⟨27, _⟩ => ⟨S34816x2048, .f32⟩
  | _, _ => ⟨S34816x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Kernel4.lean ====
abbrev S34816x2048 : Shape := ⟨2, ![34816, 2048]⟩
abbrev S2048 : Shape := ⟨1, ![2048]⟩
abbrev S9x1x2048 : Shape := ⟨3, ![9, 1, 2048]⟩
abbrev S2048x7680 : Shape := ⟨2, ![2048, 7680]⟩
abbrev S1x2048 : Shape := ⟨2, ![1, 2048]⟩
abbrev S34816x7680 : Shape := ⟨2, ![34816, 7680]⟩
abbrev S1024x2048 : Shape := ⟨2, ![1024, 2048]⟩
abbrev S1x1x2048 : Shape := ⟨3, ![1, 1, 2048]⟩
abbrev S2048x1536 : Shape := ⟨2, ![2048, 1536]⟩
abbrev S1024x1536 : Shape := ⟨2, ![1024, 1536]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S34816x2048, .f32⟩
  | .hbm, ⟨1, _⟩ => ⟨S2048, .f32⟩
  | .hbm, ⟨2, _⟩ => ⟨S9x1x2048, .f32⟩
  | .hbm, ⟨3, _⟩ => ⟨S9x1x2048, .f32⟩
  | .hbm, ⟨4, _⟩ => ⟨S2048x7680, .f32⟩
  | .hbm, ⟨5, _⟩ => ⟨S2048x7680, .bf16⟩
  | .hbm, ⟨6, _⟩ => ⟨S1x2048, .f32⟩
  | .hbm, ⟨7, _⟩ => ⟨S34816x7680, .bf16⟩
  | .hbm, ⟨8, _⟩ => ⟨S34816x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1536, .bf16⟩
  | .local _ .vmem, ⟨8, _⟩ => ⟨S2048x1536, .bf16⟩
  | .local _ .vmem, ⟨9, _⟩ => ⟨S1024x1536, .bf16⟩
  | .local _ .vmem, ⟨10, _⟩ => ⟨S1024x1536, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | _, _ => ⟨S34816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![34, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S34816x2048 : Shape := ⟨2, ![34816, 2048]⟩
abbrev S2048 : Shape := ⟨1, ![2048]⟩
abbrev S9x1x2048 : Shape := ⟨3, ![9, 1, 2048]⟩
abbrev S2048x7680 : Shape := ⟨2, ![2048, 7680]⟩
abbrev S1x1x2048 : Shape := ⟨3, ![1, 1, 2048]⟩
abbrev S1x2048 : Shape := ⟨2, ![1, 2048]⟩
abbrev S8x1x2048 : Shape := ⟨3, ![8, 1, 2048]⟩
abbrev S32768x2048 : Shape := ⟨2, ![32768, 2048]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S2048x2048 : Shape := ⟨2, ![2048, 2048]⟩
abbrev S8x256x2048 : Shape := ⟨3, ![8, 256, 2048]⟩
abbrev S8x256 : Shape := ⟨2, ![8, 256]⟩
abbrev S8x256x1 : Shape := ⟨3, ![8, 256, 1]⟩
abbrev S8x4096x7680 : Shape := ⟨3, ![8, 4096, 7680]⟩
abbrev S8x256x7680 : Shape := ⟨3, ![8, 256, 7680]⟩
abbrev S32768x7680 : Shape := ⟨2, ![32768, 7680]⟩
abbrev S34816x7680 : Shape := ⟨2, ![34816, 7680]⟩

abbrev nBuf : Space → Nat
  | .hbm => 73
  | .vmem => 0
  | .smem => 0
  | _ => 0

abbrev bufTy : (tb : Table) → Fin (tcTables nBuf tb) → BufTy
  | .hbm, ⟨0, _⟩ => ⟨S34816x2048, .f32⟩
  | .hbm, ⟨1, _⟩ => ⟨S2048, .f32⟩
  | .hbm, ⟨2, _⟩ => ⟨S9x1x2048, .f32⟩
  | .hbm, ⟨3, _⟩ => ⟨S9x1x2048, .f32⟩
  | .hbm, ⟨4, _⟩ => ⟨S2048x7680, .f32⟩
  | .hbm, ⟨5, _⟩ => ⟨S1x1x2048, .f32⟩
  | .hbm, ⟨6, _⟩ => ⟨S1x2048, .f32⟩
  | .hbm, ⟨7, _⟩ => ⟨S8x1x2048, .f32⟩
  | .hbm, ⟨8, _⟩ => ⟨S1x1x2048, .f32⟩
  | .hbm, ⟨9, _⟩ => ⟨S1x2048, .f32⟩
  | .hbm, ⟨10, _⟩ => ⟨S8x1x2048, .f32⟩
  | .hbm, ⟨11, _⟩ => ⟨S32768x2048, .f32⟩
  | .hbm, ⟨12, _⟩ => ⟨S8x4096x2048, .f32⟩
  | .hbm, ⟨13, _⟩ => ⟨S8x4096x2048, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x2048, .f32⟩
  | .hbm, ⟨25, _⟩ => ⟨S8x4096x2048, .f32⟩
  | .hbm, ⟨26, _⟩ => ⟨S1x1x2048, .f32⟩
  | .hbm, ⟨27, _⟩ => ⟨S8x4096x2048, .f32⟩
  | .hbm, ⟨28, _⟩ => ⟨S8x4096x2048, .f32⟩
  | .hbm, ⟨29, _⟩ => ⟨S_, .f32⟩
  | .hbm, ⟨30, _⟩ => ⟨S8x1x2048, .f32⟩
  | .hbm, ⟨31, _⟩ => ⟨S8x1x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S8x4096x2048, .f32⟩
  | .hbm, ⟨36, _⟩ => ⟨S2048x2048, .f32⟩
  | .hbm, ⟨37, _⟩ => ⟨S8x256x2048, .f32⟩
  | .hbm, ⟨38, _⟩ => ⟨S8x256x2048, .f32⟩
  | .hbm, ⟨39, _⟩ => ⟨S_, .f32⟩
  | .hbm, ⟨40, _⟩ => ⟨S8x256, .f32⟩
  | .hbm, ⟨41, _⟩ => ⟨S8x256x1, .f32⟩
  | .hbm, ⟨42, _⟩ => ⟨S_, .f32⟩
  | .hbm, ⟨43, _⟩ => ⟨S8x256x1, .f32⟩
  | .hbm, ⟨44, _⟩ => ⟨S8x256x1, .f32⟩
  | .hbm, ⟨45, _⟩ => ⟨S_, .f32⟩
  | .hbm, ⟨46, _⟩ => ⟨S8x256x1, .f32⟩
  | .hbm, ⟨47, _⟩ => ⟨S8x256x1, .f32⟩
  | .hbm, ⟨48, _⟩ => ⟨S8x256x1, .f32⟩
  | .hbm, ⟨49, _⟩ => ⟨S8x256x2048, .f32⟩
  | .hbm, ⟨50, _⟩ => ⟨S8x256x2048, .f32⟩
  | .hbm, ⟨51, _⟩ => ⟨S1x1x2048, .f32⟩
  | .hbm, ⟨52, _⟩ => ⟨S8x256x2048, .f32⟩
  | .hbm, ⟨53, _⟩ => ⟨S8x256x2048, .f32⟩
  | .hbm, ⟨54, _⟩ => ⟨S_, .f32⟩
  | .hbm, ⟨55, _⟩ => ⟨S1x2048, .f32⟩
  | .hbm, ⟨56, _⟩ => ⟨S1x2048, .f32⟩
  | .hbm, ⟨57, _⟩ => ⟨S1x1x2048, .f32⟩
  | .hbm, ⟨58, _⟩ => ⟨S8x256x2048, .f32⟩
  | .hbm, ⟨59, _⟩ => ⟨S8x256x2048, .f32⟩
  | .hbm, ⟨60, _⟩ => ⟨S1x1x2048, .f32⟩
  | .hbm, ⟨61, _⟩ => ⟨S8x256x2048, .f32⟩
  | .hbm, ⟨62, _⟩ => ⟨S8x256x2048, .f32⟩
  | .hbm, ⟨63, _⟩ => ⟨S8x4096x7680, .f32⟩
  | .hbm, ⟨64, _⟩ => ⟨S8x256x7680, .f32⟩
  | .hbm, ⟨65, _⟩ => ⟨S32768x7680, .f32⟩
  | .hbm, ⟨66, _⟩ => ⟨S2048x7680, .f32⟩
  | .hbm, ⟨67, _⟩ => ⟨S34816x7680, .f32⟩
  | .hbm, ⟨68, _⟩ => ⟨S34816x7680, .bf16⟩
  | .hbm, ⟨69, _⟩ => ⟨S32768x2048, .f32⟩
  | .hbm, ⟨70, _⟩ => ⟨S2048x2048, .f32⟩
  | .hbm, ⟨71, _⟩ => ⟨S34816x2048, .f32⟩
  | .hbm, ⟨72, _⟩ => ⟨S34816x2048, .bf16⟩
  | _, _ => ⟨S34816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== Kernel5.lean ====
abbrev S34816x2048 : Shape := ⟨2, ![34816, 2048]⟩
abbrev S2048 : Shape := ⟨1, ![2048]⟩
abbrev S1x2048 : Shape := ⟨2, ![1, 2048]⟩
abbrev S32768x2048 : Shape := ⟨2, ![32768, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S34816x2048, .f32⟩
  | .hbm, ⟨1, _⟩ => ⟨S2048, .f32⟩
  | .hbm, ⟨2, _⟩ => ⟨S1x2048, .f32⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S34816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S34816x2048 : Shape := ⟨2, ![34816, 2048]⟩
abbrev S2048 : Shape := ⟨1, ![2048]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S34816x2048, .f32⟩
  | .hbm, ⟨1, _⟩ => ⟨S2048, .f32⟩
  | .hbm, ⟨2, _⟩ => ⟨S32768x2048, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | _, _ => ⟨S34816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S34816x2048 : Shape := ⟨2, ![34816, 2048]⟩
abbrev S2048x128 : Shape := ⟨2, ![2048, 128]⟩
abbrev S34816x128 : Shape := ⟨2, ![34816, 128]⟩
abbrev S1024x2048 : Shape := ⟨2, ![1024, 2048]⟩
abbrev S1024x128 : Shape := ⟨2, ![1024, 128]⟩

abbrev nBuf : Space → Nat
  | .hbm => 4
  | .vmem => 5
  | .smem => 0
  | _ => 0

abbrev bufTy : (tb : Table) → Fin (tcTables nBuf tb) → BufTy
  | .hbm, ⟨0, _⟩ => ⟨S34816x2048, .bf16⟩
  | .hbm, ⟨1, _⟩ => ⟨S2048x128, .f32⟩
  | .hbm, ⟨2, _⟩ => ⟨S2048x128, .bf16⟩
  | .hbm, ⟨3, _⟩ => ⟨S34816x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S34816x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![34, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S34816x2048 : Shape := ⟨2, ![34816, 2048]⟩
abbrev S2048x128 : Shape := ⟨2, ![2048, 128]⟩
abbrev S34816x128 : Shape := ⟨2, ![34816, 128]⟩

abbrev nBuf : Space → Nat
  | .hbm => 4
  | .vmem => 0
  | .smem => 0
  | _ => 0

abbrev bufTy : (tb : Table) → Fin (tcTables nBuf tb) → BufTy
  | .hbm, ⟨0, _⟩ => ⟨S34816x2048, .bf16⟩
  | .hbm, ⟨1, _⟩ => ⟨S2048x128, .f32⟩
  | .hbm, ⟨2, _⟩ => ⟨S34816x2048, .f32⟩
  | .hbm, ⟨3, _⟩ => ⟨S34816x128, .f32⟩
  | _, _ => ⟨S34816x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.RetKerDefs.lean ====
/-
  What one grid point of the retention kernel computes: four chunks of one sequence, four heads, over the carried state.
-/
module

public import proofs.«01_k».proof.Proof.Gen.KernelIdeal.Value
public import Idealize.ShloMosaic.Lib.Pipeline.ReadBack
public import Idealize.ShloMosaic.Lib.Pointwise
public import Idealize.ShloMosaic.Lib.Pipeline.ValueKit
public import Idealize.ShloMosaic.PureOps.Ideal

@[expose] public section

noncomputable section

namespace Cert.Proof.Ret.Ker

open Cert.KernelIdeal Cert.KernelIdeal.Gen Cert.KernelIdeal.Value Idealize.ShloMosaic Idealize.ShloMosaic.TcCoe Idealize.SL.Sem
open Idealize.ShloMosaic.Pipeline

/-! ## One chunk of one head from its blocks -/

/-- What a chunk adds to the state, from weighted keys. -/
def kvG (k w : Fin 64 → Fin 64 → EReal) (v : Fin 64 → Fin 128 → EReal) (d : Fin 64) (e : Fin 128) : EReal :=
  ∑ i : Fin 64, k i d * w i d * v i e

/-- A chunk's output: scores times the decay mask on the values, plus weighted queries on the state. -/
def outG (q k : Fin 64 → Fin 64 → EReal) (v : Fin 64 → Fin 128 → EReal) (dm w : Fin 64 → Fin 64 → EReal)
    (s : Fin 64 → Fin 128 → EReal) (i : Fin 64) (e : Fin 128) : EReal :=
  (∑ j : Fin 64, (∑ d : Fin 64, q i d * k j d) * dm i j * v j e) + ∑ d : Fin 64, q i d * w i d * s d e

/-- The state after a chunk. -/
def sG (a : EReal) (s kv : Fin 64 → Fin 128 → EReal) (d : Fin 64) (e : Fin 128) : EReal := a * s d e + kv d e

/-- The state a point starts from, one head of it. -/
def sH (S : Fin 4 → Fin 64 → Fin 128 → EReal) (h : Fin 4) (d : Fin 64) (e : Fin 128) : EReal := S h d e

section
variable (x0 x1 x2 : FVec Ideal S256x512 .bf16) (x3 x4 : FVec Ideal S256x512 .f32)

/-- A rotated element of the point's block. -/
def P (r : Fin 256) (c : Fin 512) : EReal := x0 (ix2 r c) * x3 (ix2 r c) + x1 (ix2 r c) * x4 (ix2 r c)

/-- The queries of the chunk at rows `o`, the head at columns `p`. -/
def qK (o p : ℕ) (ho : o ≤ 192) (hp : p ≤ 192) (i d : Fin 64) : EReal := P x0 x1 x3 x4 ⟨o + i.val, by omega⟩ ⟨p + d.val, by omega⟩

/-- The keys. -/
def kK (o p : ℕ) (ho : o ≤ 192) (hp : p ≤ 192) (i d : Fin 64) : EReal := P x0 x1 x3 x4 ⟨o + i.val, by omega⟩ ⟨256 + (p + d.val), by omega⟩

/-- The values, the head at columns `p`. -/
def vK (o p : ℕ) (ho : o ≤ 192) (hp : p ≤ 384) (i : Fin 64) (e : Fin 128) : EReal := x2 (ix2 ⟨o + i.val, by omega⟩ ⟨p + e.val, by omega⟩)

/-- A weight table at the head's columns. -/
def wK (x : FVec Ideal S64x256 .f32) (p : ℕ) (hp : p ≤ 192) (i d : Fin 64) : EReal := x (ix2 i ⟨p + d.val, by omega⟩)

/-- The mask of a head. -/
def mK (x : FVec Ideal S4x64x64 .f32) (h : Fin 4) (i j : Fin 64) : EReal := x (ix3 h i j)

/-- Head 0's decay over a chunk. -/
def a0 : EReal := (Named.named κ "a_end0" 1040595685#32 : Ideal .f32)

/-- Head 1's decay over a chunk. -/
def a1 : EReal := (Named.named κ "a_end1" 1052434308#32 : Ideal .f32)

/-- Head 2's decay over a chunk. -/
def a2 : EReal := (Named.named κ "a_end2" 1058731937#32 : Ideal .f32)

/-- Head 3's decay over a chunk. -/
def a3 : EReal := (Named.named κ "a_end3" 1061635714#32 : Ideal .f32)

variable (x5 : FVec Ideal S4x64x64 .f32) (x6 x7 : FVec Ideal S64x256 .f32) (S : Fin 4 → Fin 64 → Fin 128 → EReal)

/-- Head 0's state after 1 of the point's chunks. -/
def s10 : Fin 64 → Fin 128 → EReal := sG a0 (S 0) (kvG (kK x0 x1 x3 x4 192 0 (by decide) (by decide)) (wK x7 0 (by decide)) (vK x2 192 0 (by decide) (by decide)))

/-- Head 0's state after 2 of the point's chunks. -/
def s20 : Fin 64 → Fin 128 → EReal := sG a0 (s10 x0 x1 x2 x3 x4 x7 S) (kvG (kK x0 x1 x3 x4 128 0 (by decide) (by decide)) (wK x7 0 (by decide)) (vK x2 128 0 (by decide) (by decide)))

/-- Head 0's state after 3 of the point's chunks. -/
def s30 : Fin 64 → Fin 128 → EReal := sG a0 (s20 x0 x1 x2 x3 x4 x7 S) (kvG (kK x0 x1 x3 x4 64 0 (by decide) (by decide)) (wK x7 0 (by decide)) (vK x2 64 0 (by decide) (by decide)))

/-- Head 0's state after 4 of the point's chunks. -/
def s40 : Fin 64 → Fin 128 → EReal := sG a0 (s30 x0 x1 x2 x3 x4 x7 S) (kvG (kK x0 x1 x3 x4 0 0 (by decide) (by decide)) (wK x7 0 (by decide)) (vK x2 0 0 (by decide) (by decide)))

/-- Head 1's state after 1 of the point's chunks. -/
def s11 : Fin 64 → Fin 128 → EReal := sG a1 (S 1) (kvG (kK x0 x1 x3 x4 192 64 (by decide) (by decide)) (wK x7 64 (by decide)) (vK x2 192 128 (by decide) (by decide)))

/-- Head 1's state after 2 of the point's chunks. -/
def s21 : Fin 64 → Fin 128 → EReal := sG a1 (s11 x0 x1 x2 x3 x4 x7 S) (kvG (kK x0 x1 x3 x4 128 64 (by decide) (by decide)) (wK x7 64 (by decide)) (vK x2 128 128 (by decide) (by decide)))

/-- Head 1's state after 3 of the point's chunks. -/
def s31 : Fin 64 → Fin 128 → EReal := sG a1 (s21 x0 x1 x2 x3 x4 x7 S) (kvG (kK x0 x1 x3 x4 64 64 (by decide) (by decide)) (wK x7 64 (by decide)) (vK x2 64 128 (by decide) (by decide)))

/-- Head 1's state after 4 of the point's chunks. -/
def s41 : Fin 64 → Fin 128 → EReal := sG a1 (s31 x0 x1 x2 x3 x4 x7 S) (kvG (kK x0 x1 x3 x4 0 64 (by decide) (by decide)) (wK x7 64 (by decide)) (vK x2 0 128 (by decide) (by decide)))

/-- Head 2's state after 1 of the point's chunks. -/
def s12 : Fin 64 → Fin 128 → EReal := sG a2 (S 2) (kvG (kK x0 x1 x3 x4 192 128 (by decide) (by decide)) (wK x7 128 (by decide)) (vK x2 192 256 (by decide) (by decide)))

/-- Head 2's state after 2 of the point's chunks. -/
def s22 : Fin 64 → Fin 128 → EReal := sG a2 (s12 x0 x1 x2 x3 x4 x7 S) (kvG (kK x0 x1 x3 x4 128 128 (by decide) (by decide)) (wK x7 128 (by decide)) (vK x2 128 256 (by decide) (by decide)))

/-- Head 2's state after 3 of the point's chunks. -/
def s32 : Fin 64 → Fin 128 → EReal := sG a2 (s22 x0 x1 x2 x3 x4 x7 S) (kvG (kK x0 x1 x3 x4 64 128 (by decide) (by decide)) (wK x7 128 (by decide)) (vK x2 64 256 (by decide) (by decide)))

/-- Head 2's state after 4 of the point's chunks. -/
def s42 : Fin 64 → Fin 128 → EReal := sG a2 (s32 x0 x1 x2 x3 x4 x7 S) (kvG (kK x0 x1 x3 x4 0 128 (by decide) (by decide)) (wK x7 128 (by decide)) (vK x2 0 256 (by decide) (by decide)))

/-- Head 3's state after 1 of the point's chunks. -/
def s13 : Fin 64 → Fin 128 → EReal := sG a3 (S 3) (kvG (kK x0 x1 x3 x4 192 192 (by decide) (by decide)) (wK x7 192 (by decide)) (vK x2 192 384 (by decide) (by decide)))

/-- Head 3's state after 2 of the point's chunks. -/
def s23 : Fin 64 → Fin 128 → EReal := sG a3 (s13 x0 x1 x2 x3 x4 x7 S) (kvG (kK x0 x1 x3 x4 128 192 (by decide) (by decide)) (wK x7 192 (by decide)) (vK x2 128 384 (by decide) (by decide)))

/-- Head 3's state after 3 of the point's chunks. -/
def s33 : Fin 64 → Fin 128 → EReal := sG a3 (s23 x0 x1 x2 x3 x4 x7 S) (kvG (kK x0 x1 x3 x4 64 192 (by decide) (by decide)) (wK x7 192 (by decide)) (vK x2 64 384 (by decide) (by decide)))

/-- Head 3's state after 4 of the point's chunks. -/
def s43 : Fin 64 → Fin 128 → EReal := sG a3 (s33 x0 x1 x2 x3 x4 x7 S) (kvG (kK x0 x1 x3 x4 0 192 (by decide) (by decide)) (wK x7 192 (by decide)) (vK x2 0 384 (by decide) (by decide)))

/-- Output of chunk 0, head 0. -/
def o00 : Fin 64 → Fin 128 → EReal :=
  outG (qK x0 x1 x3 x4 192 0 (by decide) (by decide)) (kK x0 x1 x3 x4 192 0 (by decide) (by decide)) (vK x2 192 0 (by decide) (by decide))
    (mK x5 0) (wK x6 0 (by decide)) (S 0)

/-- Output of chunk 0, head 1. -/
def o01 : Fin 64 → Fin 128 → EReal :=
  outG (qK x0 x1 x3 x4 192 64 (by decide) (by decide)) (kK x0 x1 x3 x4 192 64 (by decide) (by decide)) (vK x2 192 128 (by decide) (by decide))
    (mK x5 1) (wK x6 64 (by decide)) (S 1)

/-- Output of chunk 0, head 2. -/
def o02 : Fin 64 → Fin 128 → EReal :=
  outG (qK x0 x1 x3 x4 192 128 (by decide) (by decide)) (kK x0 x1 x3 x4 192 128 (by decide) (by decide)) (vK x2 192 256 (by decide) (by decide))
    (mK x5 2) (wK x6 128 (by decide)) (S 2)

/-- Output of chunk 0, head 3. -/
def o03 : Fin 64 → Fin 128 → EReal :=
  outG (qK x0 x1 x3 x4 192 192 (by decide) (by decide)) (kK x0 x1 x3 x4 192 192 (by decide) (by decide)) (vK x2 192 384 (by decide) (by decide))
    (mK x5 3) (wK x6 192 (by decide)) (S 3)

/-- Output of chunk 1, head 0. -/
def o10 : Fin 64 → Fin 128 → EReal :=
  outG (qK x0 x1 x3 x4 128 0 (by decide) (by decide)) (kK x0 x1 x3 x4 128 0 (by decide) (by decide)) (vK x2 128 0 (by decide) (by decide))
    (mK x5 0) (wK x6 0 (by decide)) (s10 x0 x1 x2 x3 x4 x7 S)

/-- Output of chunk 1, head 1. -/
def o11 : Fin 64 → Fin 128 → EReal :=
  outG (qK x0 x1 x3 x4 128 64 (by decide) (by decide)) (kK x0 x1 x3 x4 128 64 (by decide) (by decide)) (vK x2 128 128 (by decide) (by decide))
    (mK x5 1) (wK x6 64 (by decide)) (s11 x0 x1 x2 x3 x4 x7 S)

/-- Output of chunk 1, head 2. -/
def o12 : Fin 64 → Fin 128 → EReal :=
  outG (qK x0 x1 x3 x4 128 128 (by decide) (by decide)) (kK x0 x1 x3 x4 128 128 (by decide) (by decide)) (vK x2 128 256 (by decide) (by decide))
    (mK x5 2) (wK x6 128 (by decide)) (s12 x0 x1 x2 x3 x4 x7 S)

/-- Output of chunk 1, head 3. -/
def o13 : Fin 64 → Fin 128 → EReal :=
  outG (qK x0 x1 x3 x4 128 192 (by decide) (by decide)) (kK x0 x1 x3 x4 128 192 (by decide) (by decide)) (vK x2 128 384 (by decide) (by decide))
    (mK x5 3) (wK x6 192 (by decide)) (s13 x0 x1 x2 x3 x4 x7 S)

/-- Output of chunk 2, head 0. -/
def o20 : Fin 64 → Fin 128 → EReal :=
  outG (qK x0 x1 x3 x4 64 0 (by decide) (by decide)) (kK x0 x1 x3 x4 64 0 (by decide) (by decide)) (vK x2 64 0 (by decide) (by decide))
    (mK x5 0) (wK x6 0 (by decide)) (s20 x0 x1 x2 x3 x4 x7 S)

/-- Output of chunk 2, head 1. -/
def o21 : Fin 64 → Fin 128 → EReal :=
  outG (qK x0 x1 x3 x4 64 64 (by decide) (by decide)) (kK x0 x1 x3 x4 64 64 (by decide) (by decide)) (vK x2 64 128 (by decide) (by decide))
    (mK x5 1) (wK x6 64 (by decide)) (s21 x0 x1 x2 x3 x4 x7 S)

/-- Output of chunk 2, head 2. -/
def o22 : Fin 64 → Fin 128 → EReal :=
  outG (qK x0 x1 x3 x4 64 128 (by decide) (by decide)) (kK x0 x1 x3 x4 64 128 (by decide) (by decide)) (vK x2 64 256 (by decide) (by decide))
    (mK x5 2) (wK x6 128 (by decide)) (s22 x0 x1 x2 x3 x4 x7 S)

/-- Output of chunk 2, head 3. -/
def o23 : Fin 64 → Fin 128 → EReal :=
  outG (qK x0 x1 x3 x4 64 192 (by decide) (by decide)) (kK x0 x1 x3 x4 64 192 (by decide) (by decide)) (vK x2 64 384 (by decide) (by decide))
    (mK x5 3) (wK x6 192 (by decide)) (s23 x0 x1 x2 x3 x4 x7 S)

/-- Output of chunk 3, head 0. -/
def o30 : Fin 64 → Fin 128 → EReal :=
  outG (qK x0 x1 x3 x4 0 0 (by decide) (by decide)) (kK x0 x1 x3 x4 0 0 (by decide) (by decide)) (vK x2 0 0 (by decide) (by decide))
    (mK x5 0) (wK x6 0 (by decide)) (s30 x0 x1 x2 x3 x4 x7 S)

/-- Output of chunk 3, head 1. -/
def o31 : Fin 64 → Fin 128 → EReal :=
  outG (qK x0 x1 x3 x4 0 64 (by decide) (by decide)) (kK x0 x1 x3 x4 0 64 (by decide) (by decide)) (vK x2 0 128 (by decide) (by decide))
    (mK x5 1) (wK x6 64 (by decide)) (s31 x0 x1 x2 x3 x4 x7 S)

/-- Output of chunk 3, head 2. -/
def o32 : Fin 64 → Fin 128 → EReal :=
  outG (qK x0 x1 x3 x4 0 128 (by decide) (by decide)) (kK x0 x1 x3 x4 0 128 (by decide) (by decide)) (vK x2 0 256 (by decide) (by decide))
    (mK x5 2) (wK x6 128 (by decide)) (s32 x0 x1 x2 x3 x4 x7 S)

/-- Output of chunk 3, head 3. -/
def o33 : Fin 64 → Fin 128 → EReal :=
  outG (qK x0 x1 x3 x4 0 192 (by decide) (by decide)) (kK x0 x1 x3 x4 0 192 (by decide) (by decide)) (vK x2 0 384 (by decide) (by decide))
    (mK x5 3) (wK x6 192 (by decide)) (s33 x0 x1 x2 x3 x4 x7 S)

end

/-- Stores under a covering list of later ones do not show. -/
theorem canon_app {Val : EltTy → Type} [∀ e, Nonempty (Val e)] {S : Shape} {e : EltTy} : ∀ (L L' : List (View.Piece Val S e)) (y : S.Idx),
    (∃ p ∈ L, y ∈ p.1.set) → View.canon (L ++ L') y = View.canon L y
  | [], _, _, hc => by obtain ⟨p, hp, _⟩ := hc; exact absurd hp List.not_mem_nil
  | p :: L, L', y, hc => by
    by_cases hm : y ∈ p.1.set
    · obtain ⟨x, rfl⟩ := p.1.exists_idx_of_mem hm
      rw [show p.1.idx x = p.1.emb x from rfl, List.cons_append]
      exact (View.canon_cons_emb _ _ _ x).trans (View.canon_cons_emb _ _ _ x).symm
    · rw [List.cons_append, View.canon_cons_of_not_mem _ _ hm, View.canon_cons_of_not_mem _ _ hm]
      refine canon_app L L' y ?_
      obtain ⟨q, hq, hyq⟩ := hc
      rcases List.mem_cons.mp hq with rfl | hq'
      · exact absurd hyq hm
      · exact ⟨q, hq', hyq⟩

/-- The state just cleared reads zero. -/
theorem readCov_zero {kind : Kind} {sp : Space} (v : View sig kind sp S4x64x128 .f32) (inb) (B : LoadRect S4x64x128) :
    v.readCov (Val := Elt Ideal) [⟨Rect.unit ![0, 0, 0] ![4, 64, 128] inb, (k0_pay6 : FVec Ideal S4x64x128 .f32)⟩] B = fun _ => (0 : EReal) := by
  rw [View.readCov_eq_canon']
  funext j
  refine (congrFun (View.canon_cons_unit_lit (Val := Elt Ideal) (e := EltTy.f32) (S := S4x64x128) inb (k0_pay6 : FVec Ideal S4x64x128 .f32) [] (by decide)) _).trans ?_
  generalize B.idx j = y
  pointwise [k0_pay6]

end Cert.Proof.Ret.Ker

end
-- ==== Proof.RetSpec.lean ====
/-
  The retention recurrence of one head, as plain sums: chunks of 64 positions in scan order, a decay inside the chunk,
  and a state carried from chunk to chunk. Both programs of the retention claim are read as these functions.
-/
module

public import Idealize.ShloMosaic.PureOps.Ideal

@[expose] public section

noncomputable section

namespace Cert.Proof.Ret

open Idealize.ShloMosaic

/-- The row of the product that sequence `b` reads at scan time `t`: the context backwards, then the latents backwards. -/
def lrow (b : Fin 8) (t : Fin 4352) : Fin 34816 :=
  if h : t.val < 256 then ⟨32768 + (b.val * 256 + (255 - t.val)), by omega⟩ else ⟨b.val * 4096 + (4351 - t.val), by omega⟩

/-- The row of the joint rotation table at scan time `t`. -/
def trow (t : Fin 4352) : Fin 4352 :=
  if h : t.val < 256 then ⟨255 - t.val, by omega⟩ else ⟨4607 - t.val, by omega⟩

/-- Scan time of place `i` of chunk `n`. -/
def tim (n : Fin 68) (i : Fin 64) : Fin 4352 := ⟨n.val * 64 + i.val, by omega⟩

/-- One rotated element: column `d` of the 64 columns of head `hh` (queries 0–3, keys 4–7), of row `r` of the product
    and row `t` of the tables of cosines and sines. -/
def rope (U : Fin 34816 → Fin 7216 → EReal) (C S : Fin 4352 → Fin 32 → EReal) (r : Fin 34816) (t : Fin 4352) (hh : Fin 8)
    (d : Fin 64) : EReal :=
  if h : d.val < 32 then
    U r ⟨4112 + (hh.val * 64 + d.val), by omega⟩ * C t ⟨d.val, h⟩
      - U r ⟨4112 + (hh.val * 64 + (32 + d.val)), by omega⟩ * S t ⟨d.val, h⟩
  else
    U r ⟨4112 + (hh.val * 64 + (d.val - 32)), by omega⟩ * S t ⟨d.val - 32, by omega⟩
      + U r ⟨4112 + (hh.val * 64 + (32 + (d.val - 32))), by omega⟩ * C t ⟨d.val - 32, by omega⟩

/-- The logarithm of the decay summed up to place `i` of a chunk. -/
def cum (lg : EReal) (i : Fin 64) : EReal := (i.val + 1) • lg

/-- The decay between two places of a chunk: nothing of a later place. -/
def dec (lg : EReal) (i j : Fin 64) : EReal := if j.val ≤ i.val then Ideal.exp (cum lg i - cum lg j) else 0

/-- What a chunk adds to the state. -/
def kvs (lg : EReal) (k : Fin 64 → Fin 64 → EReal) (v : Fin 64 → Fin 128 → EReal) (d : Fin 64) (e : Fin 128) : EReal :=
  ∑ i : Fin 64, k i d * Ideal.exp (cum lg 63 - cum lg i) * v i e

/-- A chunk's output from its queries, keys and values and the state it starts from. -/
def outc (lg : EReal) (q k : Fin 64 → Fin 64 → EReal) (v : Fin 64 → Fin 128 → EReal) (s : Fin 64 → Fin 128 → EReal)
    (i : Fin 64) (e : Fin 128) : EReal :=
  (∑ j : Fin 64, (∑ d : Fin 64, q i d * k j d) * dec lg i j * v j e) + ∑ d : Fin 64, q i d * Ideal.exp (cum lg i) * s d e

/-- The state before chunk `n`. -/
def st (lg : EReal) (k : ℕ → Fin 64 → Fin 64 → EReal) (v : ℕ → Fin 64 → Fin 128 → EReal) : ℕ → Fin 64 → Fin 128 → EReal
  | 0 => fun _ _ => 0
  | n + 1 => fun d e => st lg k v n d e * Ideal.exp (cum lg 63) + kvs lg (k n) (v n) d e

end Cert.Proof.Ret

end
-- ==== Proof.RetTab.lean ====
/-
  The decay of a retention head: the logarithm both programs take, and the kernel's tables as powers of it.
-/
module

public import proofs.«01_k».proof.Proof.RetSpec
public import Idealize.ShloMosaic.Lib.Pointwise
public import Idealize.ShloMosaic.PureOps.Ideal

@[expose] public section

noncomputable section

namespace Cert.Proof.Ret

open Idealize.ShloMosaic

/-- The logarithm of head `h`'s decay, as a real number. -/
def lr (h : Fin 4) : ℝ := Real.log (1 - (2 : ℝ) ^ (-(5 + (h.val : ℝ))))

/-- The angle of pair `p` at row `t` of the joint rotation table: the context's rows have their place as first
    coordinate; the latents' rows have 256, the grid row and the grid column. -/
def ang (t : Fin 4352) (p : Fin 32) : EReal :=
  if t.val < 256 then
    if p.val < 8 then
      (FloatOps.sitofp FTy.f32 (BitVec.ofNat 32 t.val) : Ideal .f32) * Ideal.pow (Ideal.ofBits FTy.f32 1176256512#32)
        (Ideal.div (-(FloatOps.sitofp FTy.f32 (BitVec.ofNat 32 p.val) : Ideal .f32)) (Ideal.ofBits FTy.f32 1090519040#32))
    else if p.val - 8 < 12 then
      0 * Ideal.pow (Ideal.ofBits FTy.f32 1176256512#32)
        (Ideal.div (-(FloatOps.sitofp FTy.f32 (BitVec.ofNat 32 (p.val - 8)) : Ideal .f32)) (Ideal.ofBits FTy.f32 1094713344#32))
    else
      0 * Ideal.pow (Ideal.ofBits FTy.f32 1176256512#32)
        (Ideal.div (-(FloatOps.sitofp FTy.f32 (BitVec.ofNat 32 (p.val - 8 - 12)) : Ideal .f32)) (Ideal.ofBits FTy.f32 1094713344#32))
  else
    if p.val < 8 then
      Ideal.ofBits FTy.f32 1132462080#32 * Ideal.pow (Ideal.ofBits FTy.f32 1176256512#32)
        (Ideal.div (-(FloatOps.sitofp FTy.f32 (BitVec.ofNat 32 p.val) : Ideal .f32)) (Ideal.ofBits FTy.f32 1090519040#32))
    else if p.val - 8 < 12 then
      (FloatOps.sitofp FTy.f32 (BitVec.ofNat 32 ((t.val - 256) / 64)) : Ideal .f32) * Ideal.pow (Ideal.ofBits FTy.f32 1176256512#32)
        (Ideal.div (-(FloatOps.sitofp FTy.f32 (BitVec.ofNat 32 (p.val - 8)) : Ideal .f32)) (Ideal.ofBits FTy.f32 1094713344#32))
    else
      (FloatOps.sitofp FTy.f32 (BitVec.ofNat 32 ((t.val - 256) % 64)) : Ideal .f32) * Ideal.pow (Ideal.ofBits FTy.f32 1176256512#32)
        (Ideal.div (-(FloatOps.sitofp FTy.f32 (BitVec.ofNat 32 (p.val - 8 - 12)) : Ideal .f32)) (Ideal.ofBits FTy.f32 1094713344#32))

theorem five : Ideal.ofBits FTy.f32 3231711232#32 = ((-5 : ℝ) : EReal) := by
  simp [Ideal.ofBits, Ideal.ieee]
  rw [← EReal.coe_mul]
  norm_num

theorem two : Ideal.ofBits FTy.f32 1073741824#32 = ((2 : ℝ) : EReal) := by
  simp [Ideal.ofBits, Ideal.ieee]
  rw [← EReal.coe_mul]
  norm_num

theorem sixtyfour : Ideal.ofBits FTy.f32 1115684864#32 = ((64 : ℝ) : EReal) := by
  simp [Ideal.ofBits, Ideal.ieee]
  rw [← EReal.coe_mul]
  norm_num

theorem toInt_small (n : ℕ) (hn : n < 2147483648) : (BitVec.ofNat 32 n).toInt = n := by
  rw [BitVec.toInt_eq_toNat_cond, BitVec.toNat_ofNat]
  have : n % 2 ^ 32 = n := Nat.mod_eq_of_lt (by omega)
  rw [this, if_pos (by omega)]

theorem itof (n : ℕ) (hn : n < 2147483648) : (FloatOps.sitofp FTy.f32 (BitVec.ofNat 32 n) : Ideal .f32) = ((n : ℝ) : EReal) := by
  show (((BitVec.ofNat 32 n).toInt : ℝ) : EReal) = _
  rw [toInt_small n hn]
  norm_num

/-- The logarithm as the programs write it. -/
theorem log_at (h : Fin 4) :
    Ideal.log (1 - Ideal.pow (Ideal.ofBits FTy.f32 1073741824#32)
      (Ideal.ofBits FTy.f32 3231711232#32 - (FloatOps.sitofp FTy.f32 (BitVec.ofNat 32 h.val) : Ideal .f32))) = ((lr h : ℝ) : EReal) := by
  rw [itof h.val (by omega), five, two]
  show Ideal.log (((1 : ℝ) : EReal) - Ideal.pow ((2 : ℝ) : EReal) (((-5 : ℝ) : EReal) - ((h.val : ℝ) : EReal))) = _
  rw [← EReal.coe_sub, Ideal.pow_coe_coe]
  have he : Real.rpow 2 (-5 - (h.val : ℝ)) = (2 : ℝ) ^ (-(5 + (h.val : ℝ))) := by
    show (2 : ℝ) ^ (-5 - (h.val : ℝ)) = _
    congr 1; ring
  rw [he, ← EReal.coe_sub, Ideal.log_coe, if_neg, lr]
  have : (2 : ℝ) ^ (-(5 + (h.val : ℝ))) < 1 := Real.rpow_lt_one_of_one_lt_of_neg (by norm_num) (by have := Nat.cast_nonneg (α := ℝ) h.val; linarith)
  linarith

theorem smul_coe (n : ℕ) (x : ℝ) : n • ((x : ℝ) : EReal) = ((n * x : ℝ) : EReal) := by
  rw [EReal.nsmul_eq_mul]
  norm_cast

theorem cum_coe (x : ℝ) (i : Fin 64) : cum ((x : ℝ) : EReal) i = ((((i.val : ℝ) + 1) * x : ℝ) : EReal) := by
  rw [cum, smul_coe]
  norm_num

/-- A weight of a query: the decay from the chunk's start. -/
theorem qw (x : ℝ) (i : Fin 64) :
    Ideal.exp ((Ideal.ofBits FTy.f32 1115684864#32 - (FloatOps.sitofp FTy.f32 (BitVec.ofNat 32 i.val) : Ideal .f32)) * ((x : ℝ) : EReal))
      = Ideal.exp (cum ((x : ℝ) : EReal) i.rev) := by
  rw [itof i.val (by omega), sixtyfour, cum_coe]
  show Ideal.exp ((((64 : ℝ) : EReal) - ((i.val : ℝ) : EReal)) * ((x : ℝ) : EReal)) = _
  rw [← EReal.coe_sub, ← EReal.coe_mul]
  congr 2
  rw [Fin.val_rev, Nat.cast_sub (by omega)]
  push_cast; ring

/-- A weight of a key: the decay to the chunk's end. -/
theorem kw (x : ℝ) (i : Fin 64) :
    Ideal.exp (Ideal.ofBits FTy.f32 1115684864#32 * ((x : ℝ) : EReal)
        - (Ideal.ofBits FTy.f32 1115684864#32 - (FloatOps.sitofp FTy.f32 (BitVec.ofNat 32 i.val) : Ideal .f32)) * ((x : ℝ) : EReal))
      = Ideal.exp (cum ((x : ℝ) : EReal) 63 - cum ((x : ℝ) : EReal) i.rev) := by
  rw [itof i.val (by omega), sixtyfour, cum_coe, cum_coe]
  show Ideal.exp (((64 : ℝ) : EReal) * ((x : ℝ) : EReal) - (((64 : ℝ) : EReal) - ((i.val : ℝ) : EReal)) * ((x : ℝ) : EReal)) = _
  rw [← EReal.coe_sub, ← EReal.coe_mul, ← EReal.coe_mul, ← EReal.coe_sub, ← EReal.coe_sub]
  congr 2
  rw [Fin.val_rev, Nat.cast_sub (by omega), show ((63 : Fin 64).val) = 63 from rfl]
  push_cast; ring

/-- The mask between two places. -/
theorem mw (x : ℝ) (i p : Fin 64) (z : EReal) (hz : z = 0) :
    (if (FloatOps.sitofp FTy.f32 (BitVec.ofNat 32 i.val) : Ideal .f32) ≤ (FloatOps.sitofp FTy.f32 (BitVec.ofNat 32 p.val) : Ideal .f32) then
      Ideal.exp ((Ideal.ofBits FTy.f32 1115684864#32 - (FloatOps.sitofp FTy.f32 (BitVec.ofNat 32 i.val) : Ideal .f32)) * ((x : ℝ) : EReal)
        - (Ideal.ofBits FTy.f32 1115684864#32 - (FloatOps.sitofp FTy.f32 (BitVec.ofNat 32 p.val) : Ideal .f32)) * ((x : ℝ) : EReal)) else z)
      = dec ((x : ℝ) : EReal) i.rev p.rev := by
  subst hz
  rw [itof i.val (by omega), itof p.val (by omega), sixtyfour, dec, cum_coe, cum_coe]
  have hc : (((i.val : ℝ) : EReal) ≤ ((p.val : ℝ) : EReal)) ↔ p.rev.val ≤ i.rev.val := by
    rw [EReal.coe_le_coe_iff, Nat.cast_le, Fin.val_rev, Fin.val_rev]; omega
  refine if_congr hc ?_ rfl
  show Ideal.exp ((((64 : ℝ) : EReal) - ((i.val : ℝ) : EReal)) * ((x : ℝ) : EReal) - (((64 : ℝ) : EReal) - ((p.val : ℝ) : EReal)) * ((x : ℝ) : EReal)) = _
  rw [← EReal.coe_sub, ← EReal.coe_sub, ← EReal.coe_mul, ← EReal.coe_mul, ← EReal.coe_sub, ← EReal.coe_sub]
  congr 2
  rw [Fin.val_rev, Fin.val_rev, Nat.cast_sub (by omega), Nat.cast_sub (by omega)]
  push_cast; ring

end Cert.Proof.Ret

end
-- ==== Proof.RetKerTab.lean ====
/-
  The kernel's rotation tables, decay tables and rearranged columns, element by element.
-/
module

public import proofs.«01_k».proof.Proof.RetKerDefs
public import proofs.«01_k».proof.Proof.RetTab
public import Idealize.ShloMosaic.Lib.StableHlo.ReadAt
public import Idealize.ShloMosaic.Lib.StableHlo.RunRead

@[expose] public section

noncomputable section

namespace Cert.Proof.Ret.Ker

open Cert.KernelIdeal Cert.KernelIdeal.Gen Cert.KernelIdeal.Value Idealize.ShloMosaic Idealize.ShloMosaic.TcCoe Idealize.SL.Sem
open Idealize.ShloMosaic.Pipeline

variable (m : (ℓ : Loc nD τ sig) → Buf (Elt Ideal) ℓ) (c : Dev nD)

set_option maxRecDepth 65536
set_option maxHeartbeats 8000000

theorem v105_at (t : Fin 4352) (p : Fin 32) : StableHlo.upto [hostOps0, hostOps0_1, hostOps0_2, hostOps0_3, hostOps0_4].flatten (fun b => m (c, b)) 123 (Proc.tc.devRef main_v105) (ix2 t p) = Ideal.cos (ang t p) := by
  unfold ang
  after_reads_at
  by_cases ht : t.val < 256
  · by_cases hp : p.val < 8
    · rw [dif_pos ht, if_pos ht, if_pos hp]
      after_reads_at
      rw [dif_pos hp]
      after_reads_at
      all_goals after_reads_at
    · by_cases hq : p.val - 8 < 12
      · rw [dif_pos ht, if_pos ht, if_neg hp, if_pos hq]
        after_reads_at
        rw [dif_neg hp, dif_pos hq]
        after_reads_at
        all_goals after_reads_at
      · rw [dif_pos ht, if_pos ht, if_neg hp, if_neg hq]
        after_reads_at
        rw [dif_neg hp, dif_neg hq]
        after_reads_at
        all_goals after_reads_at
  · by_cases hp : p.val < 8
    · rw [dif_neg ht, if_neg ht, if_pos hp]
      after_reads_at
      rw [dif_pos hp]
      after_reads_at
      all_goals after_reads_at
    · by_cases hq : p.val - 8 < 12
      · rw [dif_neg ht, if_neg ht, if_neg hp, if_pos hq]
        after_reads_at
        rw [dif_neg hp, dif_pos hq]
        after_reads_at
        all_goals after_reads_at
      · rw [dif_neg ht, if_neg ht, if_neg hp, if_neg hq]
        after_reads_at
        rw [dif_neg hp, dif_neg hq]
        after_reads_at
        all_goals after_reads_at

theorem v106_at (t : Fin 4352) (p : Fin 32) : StableHlo.upto [hostOps0, hostOps0_1, hostOps0_2, hostOps0_3, hostOps0_4].flatten (fun b => m (c, b)) 123 (Proc.tc.devRef main_v106) (ix2 t p) = Ideal.cos (ang t p) := by
  unfold ang
  after_reads_at
  by_cases ht : t.val < 256
  · by_cases hp : p.val < 8
    · rw [dif_pos ht, if_pos ht, if_pos hp]
      after_reads_at
      rw [dif_pos hp]
      after_reads_at
      all_goals after_reads_at
    · by_cases hq : p.val - 8 < 12
      · rw [dif_pos ht, if_pos ht, if_neg hp, if_pos hq]
        after_reads_at
        rw [dif_neg hp, dif_pos hq]
        after_reads_at
        all_goals after_reads_at
      · rw [dif_pos ht, if_pos ht, if_neg hp, if_neg hq]
        after_reads_at
        rw [dif_neg hp, dif_neg hq]
        after_reads_at
        all_goals after_reads_at
  · by_cases hp : p.val < 8
    · rw [dif_neg ht, if_neg ht, if_pos hp]
      after_reads_at
      rw [dif_pos hp]
      after_reads_at
      all_goals after_reads_at
    · by_cases hq : p.val - 8 < 12
      · rw [dif_neg ht, if_neg ht, if_neg hp, if_pos hq]
        after_reads_at
        rw [dif_neg hp, dif_pos hq]
        after_reads_at
        all_goals after_reads_at
      · rw [dif_neg ht, if_neg ht, if_neg hp, if_neg hq]
        after_reads_at
        rw [dif_neg hp, dif_neg hq]
        after_reads_at
        all_goals after_reads_at

theorem v109_at (t : Fin 4352) (p : Fin 32) : StableHlo.upto [hostOps0, hostOps0_1, hostOps0_2, hostOps0_3, hostOps0_4].flatten (fun b => m (c, b)) 127 (Proc.tc.devRef main_v109) (ix2 t p) = -Ideal.sin (ang t p) := by
  unfold ang
  after_reads_at
  by_cases ht : t.val < 256
  · by_cases hp : p.val < 8
    · rw [dif_pos ht, if_pos ht, if_pos hp]
      after_reads_at
      rw [dif_pos hp]
      after_reads_at
      all_goals after_reads_at
    · by_cases hq : p.val - 8 < 12
      · rw [dif_pos ht, if_pos ht, if_neg hp, if_pos hq]
        after_reads_at
        rw [dif_neg hp, dif_pos hq]
        after_reads_at
        all_goals after_reads_at
      · rw [dif_pos ht, if_pos ht, if_neg hp, if_neg hq]
        after_reads_at
        rw [dif_neg hp, dif_neg hq]
        after_reads_at
        all_goals after_reads_at
  · by_cases hp : p.val < 8
    · rw [dif_neg ht, if_neg ht, if_pos hp]
      after_reads_at
      rw [dif_pos hp]
      after_reads_at
      all_goals after_reads_at
    · by_cases hq : p.val - 8 < 12
      · rw [dif_neg ht, if_neg ht, if_neg hp, if_pos hq]
        after_reads_at
        rw [dif_neg hp, dif_pos hq]
        after_reads_at
        all_goals after_reads_at
      · rw [dif_neg ht, if_neg ht, if_neg hp, if_neg hq]
        after_reads_at
        rw [dif_neg hp, dif_neg hq]
        after_reads_at
        all_goals after_reads_at

theorem v110_at (t : Fin 4352) (p : Fin 32) : StableHlo.upto [hostOps0, hostOps0_1, hostOps0_2, hostOps0_3, hostOps0_4].flatten (fun b => m (c, b)) 127 (Proc.tc.devRef main_v110) (ix2 t p) = Ideal.sin (ang t p) := by
  unfold ang
  after_reads_at
  by_cases ht : t.val < 256
  · by_cases hp : p.val < 8
    · rw [dif_pos ht, if_pos ht, if_pos hp]
      after_reads_at
      rw [dif_pos hp]
      after_reads_at
      all_goals after_reads_at
    · by_cases hq : p.val - 8 < 12
      · rw [dif_pos ht, if_pos ht, if_neg hp, if_pos hq]
        after_reads_at
        rw [dif_neg hp, dif_pos hq]
        after_reads_at
        all_goals after_reads_at
      · rw [dif_pos ht, if_pos ht, if_neg hp, if_neg hq]
        after_reads_at
        rw [dif_neg hp, dif_neg hq]
        after_reads_at
        all_goals after_reads_at
  · by_cases hp : p.val < 8
    · rw [dif_neg ht, if_neg ht, if_pos hp]
      after_reads_at
      rw [dif_pos hp]
      after_reads_at
      all_goals after_reads_at
    · by_cases hq : p.val - 8 < 12
      · rw [dif_neg ht, if_neg ht, if_neg hp, if_pos hq]
        after_reads_at
        rw [dif_neg hp, dif_pos hq]
        after_reads_at
        all_goals after_reads_at
      · rw [dif_neg ht, if_neg ht, if_neg hp, if_neg hq]
        after_reads_at
        rw [dif_neg hp, dif_neg hq]
        after_reads_at
        all_goals after_reads_at

theorem v112_at (p : Fin 256) : StableHlo.upto [hostOps0, hostOps0_1, hostOps0_2, hostOps0_3, hostOps0_4].flatten (fun b => m (c, b)) 132 (Proc.tc.devRef main_v112) (ix1 p) = (1 : EReal) := by
  after_reads_at

theorem v113_at (p : Fin 256) : StableHlo.upto [hostOps0, hostOps0_1, hostOps0_2, hostOps0_3, hostOps0_4].flatten (fun b => m (c, b)) 132 (Proc.tc.devRef main_v113) (ix1 p) = (Ideal.ofBits FTy.f32 0x3E000000#32 : EReal) := by
  after_reads_at

/-- The scale of a column: keys carry the head width's inverse square root. -/
def sc (p : ℕ) : EReal := if p < 256 then 1 else Ideal.ofBits FTy.f32 0x3E000000#32

/-- The table of cosines. -/
def tc (t : Fin 4352) (p : Fin 512) : EReal :=
  (if h : p.val % 64 < 32 then Ideal.cos (ang t ⟨p.val % 64, h⟩) else Ideal.cos (ang t ⟨p.val % 64 - 32, by omega⟩)) * sc p.val

/-- The table of sines, the first half of each head negated. -/
def ts (t : Fin 4352) (p : Fin 512) : EReal :=
  (if h : p.val % 64 < 32 then -Ideal.sin (ang t ⟨p.val % 64, h⟩) else Ideal.sin (ang t ⟨p.val % 64 - 32, by omega⟩)) * sc p.val

theorem v120_at (t : Fin 4352) (p : Fin 512) : V m c main_v120 (ix2 t p) = tc t p := by
  unfold V tc sc
  after_reads_at
  by_cases h : p.val % 64 < 32
  · by_cases q : p.val < 256
    · rw [dif_pos h, dif_pos h, dif_pos q, if_pos q, v105_at, v112_at]
    · rw [dif_pos h, dif_pos h, dif_neg q, if_neg q, v105_at, v113_at]
  · by_cases q : p.val < 256
    · rw [dif_neg h, dif_neg h, dif_pos q, if_pos q, v106_at, v112_at]
    · rw [dif_neg h, dif_neg h, dif_neg q, if_neg q, v106_at, v113_at]

theorem v126_at (t : Fin 4352) (p : Fin 512) : V m c main_v126 (ix2 t p) = ts t p := by
  unfold V ts sc
  after_reads_at
  by_cases h : p.val % 64 < 32
  · by_cases q : p.val < 256
    · rw [dif_pos h, dif_pos h, dif_pos q, if_pos q, v109_at, v112_at]
    · rw [dif_pos h, dif_pos h, dif_neg q, if_neg q, v109_at, v113_at]
  · by_cases q : p.val < 256
    · rw [dif_neg h, dif_neg h, dif_pos q, if_pos q, v110_at, v112_at]
    · rw [dif_neg h, dif_neg h, dif_neg q, if_neg q, v110_at, v113_at]

end Cert.Proof.Ret.Ker

end
-- ==== Proof.RetKerCol.lean ====
/-
  The kernel's decay tables and rearranged columns, element by element.
-/
module

public import proofs.«01_k».proof.Proof.RetKerDefs
public import proofs.«01_k».proof.Proof.RetTab
public import Idealize.ShloMosaic.Lib.StableHlo.ReadAt
public import Idealize.ShloMosaic.Lib.StableHlo.RunRead

@[expose] public section

noncomputable section

namespace Cert.Proof.Ret.Ker

open Cert.KernelIdeal Cert.KernelIdeal.Gen Cert.KernelIdeal.Value Idealize.ShloMosaic Idealize.ShloMosaic.TcCoe Idealize.SL.Sem
open Idealize.ShloMosaic.Pipeline

variable (m : (ℓ : Loc nD τ sig) → Buf (Elt Ideal) ℓ) (c : Dev nD)

set_option maxRecDepth 65536
set_option maxHeartbeats 8000000

/-- The weights of the keys. -/
theorem v168_at (i : Fin 64) (h : Fin 4) (p : Fin 256) (hp : p.val / 64 = h.val) :
    V m c main_v168 (ix2 i p) = Ideal.exp (cum ((lr h : ℝ) : EReal) 63 - cum ((lr h : ℝ) : EReal) i.rev) := by
  unfold V
  after_reads_at
  rw [hp, log_at h]
  exact kw (lr h) i

/-- The weights of the queries. -/
theorem v159_at (i : Fin 64) (h : Fin 4) (p : Fin 256) (hp : p.val / 64 = h.val) :
    V m c main_v159 (ix2 i p) = Ideal.exp (cum ((lr h : ℝ) : EReal) i.rev) := by
  unfold V
  after_reads_at
  rw [hp, log_at h]
  exact qw (lr h) i

/-- The masks. -/
theorem v155_at (h : Fin 4) (i p : Fin 64) : V m c main_v155 (ix3 h i p) = dec ((lr h : ℝ) : EReal) i.rev p.rev := by
  unfold V
  after_reads_at
  rw [log_at h]
  exact mw (lr h) i p _ (by simp [constant, Ideal.ofBits, Ideal.ieee])

/-- The columns of queries and keys. -/
theorem qk_col (r : Fin 34816) (p : Fin 512) :
    V m c main_v16 (ix2 r ⟨4096 + p.val, by omega⟩) = m ((c.tc : Thread nD τ).loc main_arg0) (ix2 r ⟨4112 + p.val, by omega⟩) := by
  have e : 4096 + p.val - 1536 - 512 - 1536 - 512 = p.val := by omega
  unfold V
  after_reads_at
  rw [dif_neg (by omega), dif_neg (by omega), dif_neg (by omega), dif_neg (by omega), dif_pos (by omega)]
  after_reads_at
  simp only [e]

/-- The columns of values. -/
theorem v_col (r : Fin 34816) (p : Fin 512) :
    V m c main_v16 (ix2 r ⟨5120 + p.val, by omega⟩) = m ((c.tc : Thread nD τ).loc main_arg0) (ix2 r ⟨4624 + p.val, by omega⟩) := by
  have e : 5120 + p.val - 1536 - 512 - 1536 - 512 - 512 - 512 = p.val := by omega
  unfold V
  after_reads_at
  rw [dif_neg (by omega), dif_neg (by omega), dif_neg (by omega), dif_neg (by omega), dif_neg (by omega), dif_neg (by omega), dif_pos (by omega)]
  after_reads_at
  simp only [e]

theorem rev_math (A : Fin 34816 → Fin 7216 → EReal) (r : Fin 34816) (p : Fin 512) (c0 c1 c2 c3 : Prop) [Decidable c0] [Decidable c1] [Decidable c2] [Decidable c3]
    (b1 : p.val / 64 < 8) (b2 : p.val / 32 % 2 < 2) (b3 : p.val % 32 < 32)
    (hb : 4112 + ((if c1 then (⟨p.val / 64, b1⟩ : Fin 8).rev else (⟨p.val / 64, b1⟩ : Fin 8)).val * 64 + (if c2 then (⟨p.val / 32 % 2, b2⟩ : Fin 2).rev else (⟨p.val / 32 % 2, b2⟩ : Fin 2)).val * 32 + (if c3 then (⟨p.val % 32, b3⟩ : Fin 32).rev else (⟨p.val % 32, b3⟩ : Fin 32)).val) < 7216)
    (hb' : 4112 + (if p.val % 64 < 32 then p.val + 32 else p.val - 32) < 7216)
    (h0 : ¬ c0) (h1 : ¬ c1) (h2 : c2) (h3 : ¬ c3) :
    A (if c0 then r.rev else r) ⟨4112 + ((if c1 then (⟨p.val / 64, b1⟩ : Fin 8).rev else (⟨p.val / 64, b1⟩ : Fin 8)).val * 64 + (if c2 then (⟨p.val / 32 % 2, b2⟩ : Fin 2).rev else (⟨p.val / 32 % 2, b2⟩ : Fin 2)).val * 32 + (if c3 then (⟨p.val % 32, b3⟩ : Fin 32).rev else (⟨p.val % 32, b3⟩ : Fin 32)).val), hb⟩
      = A r ⟨4112 + (if p.val % 64 < 32 then p.val + 32 else p.val - 32), hb'⟩ := by
  refine congrArg₂ A (if_neg h0) (Fin.ext ?_)
  dsimp only
  rw [if_neg h1, if_pos h2, if_neg h3]
  simp only [Fin.val_rev]
  split <;> omega

/-- The columns of queries and keys with the halves of each head exchanged. -/
theorem rot_col (r : Fin 34816) (p : Fin 512) :
    V m c main_v16 (ix2 r ⟨4608 + p.val, by omega⟩) = m ((c.tc : Thread nD τ).loc main_arg0) (ix2 r ⟨4112 + (if p.val % 64 < 32 then p.val + 32 else p.val - 32), by split <;> omega⟩) := by
  have e : 4608 + p.val - 1536 - 512 - 1536 - 512 - 512 = p.val := by omega
  unfold V
  after_reads_at
  rw [dif_neg (by omega), dif_neg (by omega), dif_neg (by omega), dif_neg (by omega), dif_neg (by omega), dif_pos (by omega)]
  after_reads_at
  simp only [e]
  refine rev_math (fun y z => m ((c.tc : Thread nD τ).loc main_arg0) (ix2 y z)) r p _ _ _ _ _ _ _ _ _ ?_ ?_ ?_ ?_
  all_goals decide

end Cert.Proof.Ret.Ker

end
-- ==== Proof.RetKerBlk.lean ====
/-
  The blocks a grid point of the retention kernel reads, element by element, as entries of the product and of the tables.
-/
module

public import proofs.«01_k».proof.Proof.RetKerTab
public import proofs.«01_k».proof.Proof.RetKerCol
public import Idealize.ShloMosaic.Lib.Pipeline.ValueKit.Held

@[expose] public section

noncomputable section

namespace Cert.Proof.Ret.Ker

open Cert.KernelIdeal Cert.KernelIdeal.Gen Cert.KernelIdeal.Value Idealize.ShloMosaic Idealize.ShloMosaic.TcCoe Idealize.SL.Sem
open Idealize.ShloMosaic.Pipeline

/-- The block row of the product that point `t` reads and writes. -/
def rb (t : ℕ) : ℕ := if t % 17 = 0 then 128 + t / 17 else 16 * (t / 17) + (16 - t % 17)

/-- The block row of the rotation tables. -/
def tb (t : ℕ) : ℕ := if t % 17 = 0 then 0 else 1 + (16 - t % 17)

/-- The block index of every window at a grid point. -/
theorem idx (t : Fin cfg0.N) :
    win0_0.index t = ![rb t.val, 8] ∧ win0_1.index t = ![rb t.val, 9] ∧ win0_2.index t = ![rb t.val, 10] ∧ win0_3.index t = ![tb t.val, 0] ∧ win0_4.index t = ![tb t.val, 0] ∧ win0_5.index t = ![0, 0, 0] ∧ win0_6.index t = ![0, 0] ∧ win0_7.index t = ![0, 0] ∧ win0_8.index t = ![rb t.val, 0] :=
  (by decide +kernel : ∀ t : Fin grid0.N,
    win0_0.index t = ![rb t.val, 8] ∧ win0_1.index t = ![rb t.val, 9] ∧ win0_2.index t = ![rb t.val, 10] ∧ win0_3.index t = ![tb t.val, 0] ∧ win0_4.index t = ![tb t.val, 0] ∧ win0_5.index t = ![0, 0, 0] ∧ win0_6.index t = ![0, 0] ∧ win0_7.index t = ![0, 0] ∧ win0_8.index t = ![rb t.val, 0]) t

theorem rb_lt (t : Fin cfg0.N) : rb t.val < 136 := by
  have h1 := t.isLt
  have h : cfg0.N = 136 := N_0
  unfold rb
  split <;> omega

theorem tb_lt (t : Fin cfg0.N) : tb t.val < 17 := by
  unfold tb
  split <;> omega

/-- The row of the product behind row `r` of the point's block. -/
def prow (t : Fin cfg0.N) (r : Fin 256) : Fin 34816 := ⟨256 * rb t.val + r.val, by have := rb_lt t; omega⟩

/-- The row of the tables behind row `r` of the point's block. -/
def qrow (t : Fin cfg0.N) (r : Fin 256) : Fin 4352 := ⟨256 * tb t.val + r.val, by have := tb_lt t; omega⟩

variable (m : (ℓ : Loc nD τ sig) → Buf (Elt Ideal) ℓ) (c : Dev nD) (t : Fin cfg0.N)

set_option maxHeartbeats 8000000

theorem blk0 (r : Fin 256) (p : Fin 512) :
    iblk m c 0 t (ix2 r p) = m ((c.tc : Thread nD τ).loc main_arg0) (ix2 (prow t r) ⟨4112 + p.val, by omega⟩) := by
  refine Eq.trans ?_ (qk_col m c (prow t r) p)
  blk_point [iblk, idx t, prow]

theorem blk1 (r : Fin 256) (p : Fin 512) :
    iblk m c 1 t (ix2 r p) = m ((c.tc : Thread nD τ).loc main_arg0) (ix2 (prow t r) ⟨4112 + (if p.val % 64 < 32 then p.val + 32 else p.val - 32), by split <;> omega⟩) := by
  refine Eq.trans ?_ (rot_col m c (prow t r) p)
  blk_point [iblk, idx t, prow]

theorem blk2 (r : Fin 256) (p : Fin 512) :
    iblk m c 2 t (ix2 r p) = m ((c.tc : Thread nD τ).loc main_arg0) (ix2 (prow t r) ⟨4624 + p.val, by omega⟩) := by
  refine Eq.trans ?_ (v_col m c (prow t r) p)
  blk_point [iblk, idx t, prow]

theorem blk3 (r : Fin 256) (p : Fin 512) : iblk m c 3 t (ix2 r p) = tc (qrow t r) p := by
  refine Eq.trans ?_ (v120_at m c (qrow t r) p)
  blk_point [iblk, idx t, qrow]

theorem blk4 (r : Fin 256) (p : Fin 512) : iblk m c 4 t (ix2 r p) = ts (qrow t r) p := by
  refine Eq.trans ?_ (v126_at m c (qrow t r) p)
  blk_point [iblk, idx t, qrow]

theorem blk5 (h : Fin 4) (i j : Fin 64) : iblk m c 5 t (ix3 h i j) = dec ((lr h : ℝ) : EReal) i.rev j.rev := by
  refine Eq.trans ?_ (v155_at m c h i j)
  blk_point [iblk, idx t]

theorem blk6 (i : Fin 64) (h : Fin 4) (p : Fin 256) (hp : p.val / 64 = h.val) :
    iblk m c 6 t (ix2 i p) = Ideal.exp (cum ((lr h : ℝ) : EReal) i.rev) := by
  refine Eq.trans ?_ (v159_at m c i h p hp)
  blk_point [iblk, idx t]

theorem blk7 (i : Fin 64) (h : Fin 4) (p : Fin 256) (hp : p.val / 64 = h.val) :
    iblk m c 7 t (ix2 i p) = Ideal.exp (cum ((lr h : ℝ) : EReal) 63 - cum ((lr h : ℝ) : EReal) i.rev) := by
  refine Eq.trans ?_ (v168_at m c i h p hp)
  blk_point [iblk, idx t]

end Cert.Proof.Ret.Ker

end
-- ==== Proof.RetRefStep.lean ====
/-
  One trip of the reference's loop at a place: the chunk's output and the next state as the sums of the recurrence.
-/
module

public import proofs.«01_k».proof.Proof.Gen.ReferenceIdeal.Step
public import proofs.«01_k».proof.Proof.RetSpec
public import Idealize.ShloMosaic.Lib.Pointwise
public import Idealize.ShloMosaic.Lib.Pointwise.Reshape
public import Idealize.ShloMosaic.Lib.DynamicIndex
public import Idealize.ShloMosaic.Lib.Pipeline.Value
public import Idealize.ShloMosaic.PureOps.Ideal

@[expose] public section

noncomputable section

namespace Cert.Proof.Ret.Ref

open Cert.ReferenceIdeal Cert.ReferenceIdeal.Step Idealize.ShloMosaic Idealize.ShloMosaic.TcCoe Idealize.SL.Sem
open Idealize.ShloMosaic.StableHlo Cert.Proof.Ret

/-- The logarithm of head `h`'s decay. -/
def lg (h : Fin 4) : EReal := K_main_v7 (F := Ideal) (ix1 h)

variable (n : Fin 68) (s : State Ideal)

theorem b5_at (b : Fin 8) (h : Fin 4) (i d : Fin 64) : b5 n.val s (ix4 b h i d) = s.main_v176_0 (ix5 n b h i d) := by
  have hn := n.isLt
  unfold b5 b4
  rw [Host.dynamicSlice_eq_extractStridedSlice (s := S68x8x4x64x64) S1x8x4x64x64 _ _ ![n.val, 0, 0, 0, 0] _
    ⟨rfl, fun a => by fin_cases a <;> first | (show n.val + 1 ≤ 68; omega) | exact Nat.le_refl _⟩
    (fun a => by fin_cases a <;> first | exact toInt_ofNat_of_lt (by omega) | rfl)]
  pointwise []

theorem b11_at (b : Fin 8) (h : Fin 4) (i d : Fin 64) : b11 n.val s (ix4 b h i d) = s.main_v176_1 (ix5 n b h i d) := by
  have hn := n.isLt
  unfold b11 b10
  rw [Host.dynamicSlice_eq_extractStridedSlice (s := S68x8x4x64x64) S1x8x4x64x64 _ _ ![n.val, 0, 0, 0, 0] _
    ⟨rfl, fun a => by fin_cases a <;> first | (show n.val + 1 ≤ 68; omega) | exact Nat.le_refl _⟩
    (fun a => by fin_cases a <;> first | exact toInt_ofNat_of_lt (by omega) | rfl)]
  pointwise []

theorem b17_at (b : Fin 8) (h : Fin 4) (i : Fin 64) (e : Fin 128) : b17 n.val s (ix4 b h i e) = s.main_v176_2 (ix5 n b h i e) := by
  have hn := n.isLt
  unfold b17 b16
  rw [Host.dynamicSlice_eq_extractStridedSlice (s := S68x8x4x64x128) S1x8x4x64x128 _ _ ![n.val, 0, 0, 0, 0] _
    ⟨rfl, fun a => by fin_cases a <;> first | (show n.val + 1 ≤ 68; omega) | exact Nat.le_refl _⟩
    (fun a => by fin_cases a <;> first | exact toInt_ofNat_of_lt (by omega) | rfl)]
  pointwise []

theorem b22_at (b : Fin 8) (h : Fin 4) (i : Fin 64) : b22 n.val s (ix3 b h i) = lg h := by
  have hn := n.isLt
  unfold b22 b21
  rw [Host.dynamicSlice_eq_extractStridedSlice (s := S68x8x4x64) S1x8x4x64 _ _ ![n.val, 0, 0, 0] _
    ⟨rfl, fun a => by fin_cases a <;> first | (show n.val + 1 ≤ 68; omega) | exact Nat.le_refl _⟩
    (fun a => by fin_cases a <;> first | exact toInt_ofNat_of_lt (by omega) | rfl)]
  pointwise [K_main_v174, K_main_v173, K_main_v156, K_main_v155, lg]

theorem foldl_count {ι : Type} (P : ι → Prop) [DecidablePred P] (c : EReal) (l : List ι) (r : EReal) :
    l.foldl (fun r x => r + if P x then c else 0) r = r + (l.countP fun x => decide (P x)) • c := by
  induction l generalizing r with
  | nil => simp
  | cons x l ih =>
    rw [List.foldl_cons, ih, List.countP_cons]
    by_cases h : P x
    · simp only [h, if_true, decide_true]
      rw [succ_nsmul' , add_assoc]
    · simp [h]

theorem count_window : ∀ i : Fin 64, ((List.finRange 64).countP fun x => decide (63 ≤ i.val + x.val)) = i.val + 1 := by decide +kernel

theorem b25_at (b : Fin 8) (h : Fin 4) (i : Fin 64) : b25 n.val s (ix3 b h i) = cum (lg h) i := by
  have hx : ∀ y : S8x4x64.Idx, b22 n.val s y = lg (y 1) := fun y => by
    rw [eq_ix3 y]; exact b22_at n s (y 0) (y 1) (y 2)
  unfold b25 Host.reduceWindowAdd
  rw [Ideal.hostReduceWindowAdd_def]
  unfold Ideal.hostReduceWindowAdd Host.reduceWindow
  have z0 : ∀ y : S_.Idx, b24 (F := Ideal) n.val s y = 0 := fun y => by
    have e : y = ix0 := funext fun a => a.elim0
    subst e
    pointwise [b24, b23]
  have hl := fun x : Fin (Shape.numel ⟨3, ![1, 1, 64]⟩) => rowMajor_val3 ((Shape.rowMajor ⟨3, ![1, 1, 64]⟩).symm x) 64 64 rfl rfl
  have h0 : ∀ y : (⟨3, ![1, 1, 64]⟩ : Shape).Idx, (y 0).val = 0 := fun y => by have := (y 0).isLt; exact Nat.lt_one_iff.mp this
  have h1 : ∀ y : (⟨3, ![1, 1, 64]⟩ : Shape).Idx, (y 1).val = 0 := fun y => by have := (y 1).isLt; exact Nat.lt_one_iff.mp this
  have h2 : ∀ x : Fin (Shape.numel ⟨3, ![1, 1, 64]⟩), ((Shape.rowMajor ⟨3, ![1, 1, 64]⟩).symm x 2).val = x.val := fun x => by
    have a := hl x
    rw [Equiv.apply_symm_apply, h0, h1] at a
    omega
  refine (congrArg (fun f => List.foldl f _ _) (funext fun r => funext fun x => congrArg (fun a : EReal => r + a) (?_ : _ = if 63 ≤ i.val + x.val then lg h else 0))).trans
    ((foldl_count (fun x : Fin (Shape.numel ⟨3, ![1, 1, 64]⟩) => 63 ≤ i.val + x.val) (lg h) _ _).trans ?_)
  · dsimp only
    by_cases hc : 63 ≤ i.val + x.val
    · have hin : ∀ a : Fin 3, ![0, 0, 63] a ≤ (ix3 b h i a).val * ![1, 1, 1] a + ((Shape.rowMajor ⟨3, ![1, 1, 64]⟩).symm x a).val ∧
          (ix3 b h i a).val * ![1, 1, 1] a + ((Shape.rowMajor ⟨3, ![1, 1, 64]⟩).symm x a).val - ![0, 0, 63] a < ![8, 4, 64] a := by
        have hb := b.isLt
        have hh := h.isLt
        have hi := i.isLt
        have hxx : x.val < 64 := x.isLt
        intro a
        fin_cases a
        · show 0 ≤ b.val * 1 + ((Shape.rowMajor ⟨3, ![1, 1, 64]⟩).symm x 0).val ∧ b.val * 1 + ((Shape.rowMajor ⟨3, ![1, 1, 64]⟩).symm x 0).val - 0 < 8
          rw [h0]; omega
        · show 0 ≤ h.val * 1 + ((Shape.rowMajor ⟨3, ![1, 1, 64]⟩).symm x 1).val ∧ h.val * 1 + ((Shape.rowMajor ⟨3, ![1, 1, 64]⟩).symm x 1).val - 0 < 4
          rw [h1]; omega
        · show 63 ≤ i.val * 1 + ((Shape.rowMajor ⟨3, ![1, 1, 64]⟩).symm x 2).val ∧ i.val * 1 + ((Shape.rowMajor ⟨3, ![1, 1, 64]⟩).symm x 2).val - 63 < 64
          rw [h2]; omega
      rw [if_pos hc]
      refine (dif_pos hin).trans ((hx _).trans (congrArg lg (Fin.ext ?_)))
      show h.val * 1 + ((Shape.rowMajor ⟨3, ![1, 1, 64]⟩).symm x 1).val - 0 = h.val
      rw [h1]; omega
    · rw [if_neg hc]
      refine (dif_neg (fun hin => hc ?_)).trans (z0 _)
      have a : 63 ≤ i.val * 1 + ((Shape.rowMajor ⟨3, ![1, 1, 64]⟩).symm x 2).val := (hin 2).1
      rw [h2] at a
      omega
  · have hc : (List.countP (fun x : Fin (Shape.numel ⟨3, ![1, 1, 64]⟩) => decide (63 ≤ i.val + x.val)) (List.finRange (Shape.numel ⟨3, ![1, 1, 64]⟩))) = i.val + 1 := count_window i
    refine (congrArg₂ (fun (a : EReal) (b : ℕ) => a + b • lg h) (z0 _) hc).trans ?_
    rw [zero_add]
    rfl

theorem mask_le : ∀ i x : Fin 64, Scalar.select
    (IntOp.cmpi CmpIPredicate.sge (IntOp.addi (BitVec.ofNat 32 i.val) 0#32) (BitVec.ofNat 32 x.val)) 1#1 0#1 = if x.val ≤ i.val then 1#1 else 0#1 := by
  decide +kernel

theorem mask_exp (i x : Fin 64) (a : EReal) : Ideal.exp (Scalar.select (Scalar.select
    (IntOp.cmpi CmpIPredicate.sge (IntOp.addi (BitVec.ofNat 32 i.val) 0#32) (BitVec.ofNat 32 x.val)) 1#1 0#1) a
      (Ideal.ofBits FTy.f32 4286578688#32)) = if x.val ≤ i.val then Ideal.exp a else 0 := by
  rw [mask_le]
  split
  · rfl
  · show Ideal.exp (Ideal.ofBits FTy.f32 4286578688#32) = 0
    have e : Ideal.ofBits FTy.f32 4286578688#32 = ⊥ := by
      simp [Ideal.ofBits, Ideal.ieee]
    rw [e]
    rfl

theorem b62_at (b : Fin 8) (h : Fin 4) (i : Fin 64) (e : Fin 128) :
    b62 n.val s (ix4 b h i e) = outc (lg h) (fun i d => s.main_v176_0 (ix5 n b h i d)) (fun i d => s.main_v176_1 (ix5 n b h i d))
      (fun i e => s.main_v176_2 (ix5 n b h i e)) (fun d e => s.main_v176_5 (ix4 b h d e)) i e := by
  pointwise [b62, b49, b48, b26, b47, b46, b45, b44, b43, b42, b41, b40, b39, b38, b37, b36, b35, b34, b33, b32, b31, b30, b29, b28, b27,
    b61, b53, b52, b51, b50, outc, dec, b5_at, b11_at, b17_at, b25_at]
  simp only [mask_exp]

theorem b70_at (b : Fin 8) (h : Fin 4) (d : Fin 64) (e : Fin 128) :
    b70 n.val s (ix4 b h d e) = s.main_v176_5 (ix4 b h d e) * Ideal.exp (cum (lg h) 63)
      + kvs (lg h) (fun i d => s.main_v176_1 (ix5 n b h i d)) (fun i e => s.main_v176_2 (ix5 n b h i e)) d e := by
  pointwise [b70, b69, b68, b67, b66, b65, b64, b63, b60, b59, b58, b57, b56, b55, b54, kvs, b5_at, b11_at, b17_at, b25_at]

theorem b76_at (n' : Fin 68) (b : Fin 8) (h : Fin 4) (i : Fin 64) (e : Fin 128) :
    b76 n.val s (ix5 n' b h i e) = if n' = n then b62 n.val s (ix4 b h i e) else s.main_v176_6 (ix5 n' b h i e) := by
  have hn := n.isLt
  unfold b76
  rw [Host.dynamicUpdateSlice_eq_updateSlice (s := S68x8x4x64x128) (u := S1x8x4x64x128) _ _ _ _ ![n.val, 0, 0, 0, 0]
    (fun a => by
      fin_cases a
      · show (min (max (BitVec.ofNat 32 n.val).toInt 0) ((68 - 1 : ℕ) : Int)).toNat = n.val
        rw [toInt_ofNat_of_lt (by omega)]; omega
      all_goals rfl)
    ⟨rfl, fun a => by fin_cases a <;> first | (show n.val + 1 ≤ 68; omega) | exact Nat.le_refl _⟩]
  pointwise [b71]
  by_cases hc : n' = n
  · subst hc
    rw [dif_pos ⟨Nat.le_refl _, Nat.lt_succ_self _⟩, if_pos rfl]
  · rw [dif_neg (fun hh => hc (Fin.ext (by omega))), if_neg hc]

end Cert.Proof.Ret.Ref

end
-- ==== Proof.RetRefRope.lean ====
/-
  The reference's queries, keys and values at a place: rotated elements of the product, in scan order.
-/
module

public import proofs.«01_k».proof.Proof.Gen.ReferenceIdeal.Step
public import proofs.«01_k».proof.Proof.RetSpec
public import Idealize.ShloMosaic.Lib.Pointwise
public import Idealize.ShloMosaic.PureOps.Ideal

@[expose] public section

noncomputable section

namespace Cert.Proof.Ret.Ref

open Cert.ReferenceIdeal Cert.ReferenceIdeal.Step Idealize.ShloMosaic Idealize.ShloMosaic.TcCoe Idealize.SL.Sem
open Idealize.ShloMosaic.StableHlo Cert.Proof.Ret

/-- The table of cosines: context rows, then latent rows. -/
def cosT (t : Fin 4352) (p : Fin 32) : EReal :=
  if h : t.val < 256 then K_main_v54 (F := Ideal) (ix4 0 ⟨t.val, h⟩ 0 p)
  else K_main_v130 (F := Ideal) (ix4 0 (⟨t.val - 256, by omega⟩ : Fin 4096) 0 p)

/-- The table of sines. -/
def sinT (t : Fin 4352) (p : Fin 32) : EReal :=
  if h : t.val < 256 then K_main_v55 (F := Ideal) (ix4 0 ⟨t.val, h⟩ 0 p)
  else K_main_v131 (F := Ideal) (ix4 0 (⟨t.val - 256, by omega⟩ : Fin 4096) 0 p)

variable (u : FVec Ideal S34816x7216 .bf16)

/-- The product as a function of row and column. -/
def U (r : Fin 34816) (c : Fin 7216) : EReal := u (ix2 r c)

/-- The rotated element of sequence `b` at scan time `t`. -/
abbrev rp (b : Fin 8) (t : Fin 4352) (hh : Fin 8) (d : Fin 64) : EReal :=
  rope (U u) cosT sinT (lrow b t) (trow t) hh d

/-- The value element of sequence `b` at scan time `t`. -/
def vv (b : Fin 8) (t : Fin 4352) (h : Fin 4) (e : Fin 128) : EReal :=
  U u (lrow b t) ⟨4624 + (128 * h.val + e.val), by omega⟩

theorem ctx_rope (b : Fin 8) (s : Fin 256) (hh : Fin 8) (d : Fin 64) (r : Fin 34816) (hr : r.val = 32768 + (b.val * 256 + s.val)) :
    A_main_v68 (F := Ideal) u (ix4 b s hh d) = rope (U u) cosT sinT r ⟨s.val, by omega⟩ hh d := by
  obtain ⟨r, hlt⟩ := r
  dsimp only at hr
  subst hr
  have hs := s.isLt
  unfold A_main_v68 A_main_v62 A_main_v67 A_main_v59 A_main_v61 A_main_v64 A_main_v66 K_main_v58 K_main_v60 K_main_v63 K_main_v65 rope cosT sinT
  generalize K_main_v54 (F := Ideal) = c1
  generalize K_main_v55 (F := Ideal) = s1
  generalize K_main_v130 (F := Ideal) = c2
  generalize K_main_v131 (F := Ideal) = s2
  pointwise [A_main_v56, A_main_v57, A_main_v18, A_main_v17, A_main_v16, A_main_v9, A_main_v8, U]

theorem lat_rope (b : Fin 8) (s : Fin 4096) (hh : Fin 8) (d : Fin 64) (r : Fin 34816) (hr : r.val = b.val * 4096 + s.val) :
    A_main_v144 (F := Ideal) u (ix4 b s hh d) = rope (U u) cosT sinT r ⟨256 + s.val, by omega⟩ hh d := by
  obtain ⟨r, hlt⟩ := r
  dsimp only at hr
  subst hr
  have hs : ¬ 256 + s.val < 256 := by omega
  have hs2 : (⟨256 + s.val - 256, by omega⟩ : Fin 4096) = s := Fin.ext (by show 256 + s.val - 256 = s.val; omega)
  unfold A_main_v144 A_main_v138 A_main_v143 A_main_v135 A_main_v137 A_main_v140 A_main_v142 K_main_v134 K_main_v136 K_main_v139 K_main_v141 rope cosT sinT
  generalize K_main_v54 (F := Ideal) = c1
  generalize K_main_v55 (F := Ideal) = s1
  generalize K_main_v130 (F := Ideal) = c2
  generalize K_main_v131 (F := Ideal) = s2
  pointwise [A_main_v132, A_main_v133, A_main_v94, A_main_v93, A_main_v92, A_main_v80, A_main_v79, U, hs, hs2]

/-! Which axis the reversal turns round. -/

theorem m0 : ¬ ((0 : Fin 4) ∈ [(2 : Fin 4)]) := by decide
theorem m1 : ¬ ((1 : Fin 4) ∈ [(2 : Fin 4)]) := by decide
theorem m2 : (2 : Fin 4) ∈ [(2 : Fin 4)] := by decide
theorem m3 : ¬ ((3 : Fin 4) ∈ [(2 : Fin 4)]) := by decide

theorem ctx_at (b : Fin 8) (hh : Fin 8) (t : Fin 4352) (d : Fin 64) (h : t.val < 256) :
    A_main_v68 (F := Ideal) u (ix4 b (⟨t.val, h⟩ : Fin 256).rev hh d) = rp u b t hh d := by
  have e : (⟨(⟨t.val, h⟩ : Fin 256).rev.val, by omega⟩ : Fin 4352) = trow t := by
    unfold trow; rw [dif_pos h]; apply Fin.ext; show 256 - (t.val + 1) = 255 - t.val; omega
  have := ctx_rope u b (⟨t.val, h⟩ : Fin 256).rev hh d (lrow b t) (by
    unfold lrow; rw [dif_pos h]; show 32768 + (b.val * 256 + (255 - t.val)) = 32768 + (b.val * 256 + (256 - (t.val + 1))); omega)
  rw [this, e]

theorem lat_at (b : Fin 8) (hh : Fin 8) (t : Fin 4352) (d : Fin 64) (h : ¬ t.val < 256) :
    A_main_v144 (F := Ideal) u (ix4 b (⟨t.val - 256, by omega⟩ : Fin 4096).rev hh d) = rp u b t hh d := by
  have e : (⟨256 + (⟨t.val - 256, by omega⟩ : Fin 4096).rev.val, by omega⟩ : Fin 4352) = trow t := by
    unfold trow; rw [dif_neg h]; apply Fin.ext; show 256 + (4096 - (t.val - 256 + 1)) = 4607 - t.val; omega
  have := lat_rope u b (⟨t.val - 256, by omega⟩ : Fin 4096).rev hh d (lrow b t) (by
    unfold lrow; rw [dif_neg h]; show b.val * 4096 + (4351 - t.val) = b.val * 4096 + (4096 - (t.val - 256 + 1)); omega)
  rw [this, e]

/-- The queries in scan order. -/
theorem q_at (b : Fin 8) (h : Fin 4) (t : Fin 4352) (d : Fin 64) :
    A_main_v160 (F := Ideal) u (ix4 b h t d) = rp u b t ⟨h.val, by omega⟩ d := by
  have hc := ctx_at u b ⟨h.val, by omega⟩ t d
  have hl := lat_at u b ⟨h.val, by omega⟩ t d
  unfold A_main_v160 A_main_v158 A_main_v159 A_main_v70 A_main_v69 A_main_v146 A_main_v145
  generalize A_main_v68 (F := Ideal) u = x at hc hl ⊢
  generalize A_main_v144 (F := Ideal) u = y at hc hl ⊢
  generalize rp u b t ⟨h.val, by omega⟩ d = z at hc hl ⊢
  pointwise [if_neg m0, if_neg m1, if_pos m2, if_neg m3]
  split
  · exact hc ‹_›
  · exact hl ‹_›

/-- The keys in scan order. -/
theorem k_at (b : Fin 8) (h : Fin 4) (t : Fin 4352) (d : Fin 64) :
    A_main_v163 (F := Ideal) u (ix4 b h t d) = rp u b t ⟨4 + h.val, by omega⟩ d * Ideal.ofBits FTy.f32 0x3E000000#32 := by
  have hc := ctx_at u b ⟨4 + h.val, by omega⟩ t d
  have hl := lat_at u b ⟨4 + h.val, by omega⟩ t d
  unfold A_main_v163 A_main_v161 A_main_v162 A_main_v74 A_main_v72 A_main_v71 A_main_v150 A_main_v148 A_main_v147
  generalize A_main_v68 (F := Ideal) u = x at hc hl ⊢
  generalize A_main_v144 (F := Ideal) u = y at hc hl ⊢
  generalize rp u b t ⟨4 + h.val, by omega⟩ d = z at hc hl ⊢
  pointwise [K_main_v73, K_main_v149, K_main_cst_9, K_main_cst_17, if_neg m0, if_neg m1, if_pos m2, if_neg m3]
  split
  · exact congrArg (· * Ideal.ofBits FTy.f32 0x3E000000#32) (hc ‹_›)
  · exact congrArg (· * Ideal.ofBits FTy.f32 0x3E000000#32) (hl ‹_›)

/-- The values in scan order. -/
theorem v_at (b : Fin 8) (h : Fin 4) (t : Fin 4352) (e : Fin 128) :
    A_main_v166 (F := Ideal) u (ix4 b h t e) = vv u b t h e := by
  pointwise [A_main_v166, A_main_v164, A_main_v165, A_main_v78, A_main_v77, A_main_v76, A_main_v75, A_main_v154, A_main_v153,
    A_main_v152, A_main_v151, A_main_v9, A_main_v8, A_main_v80, A_main_v79, vv, U, lrow, if_neg m0, if_neg m1, if_pos m2, if_neg m3]
  split
  · apply congrArg u
    refine congrArg₂ ix2 (Fin.ext ?_) (Fin.ext ?_)
    · show 32768 + (b.val * 256 + (256 - (t.val + 1))) = 32768 + (b.val * 256 + (255 - t.val)); omega
    · show 4624 + (h.val * 128 + e.val) = 4624 + (128 * h.val + e.val); omega
  · apply congrArg u
    refine congrArg₂ ix2 (Fin.ext ?_) (Fin.ext ?_)
    · show b.val * 4096 + (4096 - (t.val - 256 + 1)) = b.val * 4096 + (4351 - t.val); omega
    · show 4624 + (h.val * 128 + e.val) = 4624 + (128 * h.val + e.val); omega

/-- The chunks first: place `i` of chunk `n` is time `64 n + i`. -/
theorem chunk64 (x : FVec Ideal S8x4x4352x64 .f32) (n : Fin 68) (b : Fin 8) (h : Fin 4) (i d : Fin 64) (hs) (ht) :
    transpose S68x8x4x64x64 [2, 0, 1, 3, 4] (shapeCast S8x4x68x64x64 x hs) ht (ix5 n b h i d)
      = x (ix4 b h (tim n i) d) := by
  pointwise [tim]

/-- The same of the values. -/
theorem chunk128 (x : FVec Ideal S8x4x4352x128 .f32) (n : Fin 68) (b : Fin 8) (h : Fin 4) (i : Fin 64) (d : Fin 128) (hs) (ht) :
    transpose S68x8x4x64x128 [2, 0, 1, 3, 4] (shapeCast S8x4x68x64x128 x hs) ht (ix5 n b h i d)
      = x (ix4 b h (tim n i) d) := by
  pointwise [tim]

/-- The queries of chunk `n`, place `i`. -/
theorem qc_at (n : Fin 68) (b : Fin 8) (h : Fin 4) (i d : Fin 64) :
    A_main_v168 (F := Ideal) u (ix5 n b h i d) = rp u b (tim n i) ⟨h.val, by omega⟩ d := by
  unfold A_main_v168 A_main_v167
  exact (chunk64 (A_main_v160 (F := Ideal) u) n b h i d _ _).trans (q_at u b h (tim n i) d)

/-- The keys of chunk `n`, place `i`. -/
theorem kc_at (n : Fin 68) (b : Fin 8) (h : Fin 4) (i d : Fin 64) :
    A_main_v170 (F := Ideal) u (ix5 n b h i d) = rp u b (tim n i) ⟨4 + h.val, by omega⟩ d * Ideal.ofBits FTy.f32 0x3E000000#32 := by
  unfold A_main_v170 A_main_v169
  exact (chunk64 (A_main_v163 (F := Ideal) u) n b h i d _ _).trans (k_at u b h (tim n i) d)

/-- The values of chunk `n`, place `i`. -/
theorem vc_at (n : Fin 68) (b : Fin 8) (h : Fin 4) (i : Fin 64) (e : Fin 128) :
    A_main_v172 (F := Ideal) u (ix5 n b h i e) = vv u b (tim n i) h e := by
  unfold A_main_v172 A_main_v171
  exact (chunk128 (A_main_v166 (F := Ideal) u) n b h i e _ _).trans (v_at u b h (tim n i) e)

end Cert.Proof.Ret.Ref

end
-- ==== Proof.RetRefIter.lean ====
/-
  The reference's loop after its 68 trips, and what the operations after it lay out.
-/
module

public import proofs.«01_k».proof.Proof.RetRefStep
public import proofs.«01_k».proof.Proof.RetRefRope

@[expose] public section

noncomputable section

namespace Cert.Proof.Ret.Ref

open Cert.ReferenceIdeal Cert.ReferenceIdeal.Step Idealize.ShloMosaic Idealize.ShloMosaic.TcCoe Idealize.SL.Sem
open Idealize.ShloMosaic.StableHlo Cert.Proof.Ret

/-- The states the loop passes through. -/
def it (u : FVec Ideal S34816x7216 .bf16) : ℕ → State Ideal
  | 0 => init u
  | n + 1 => step n (it u n)

variable (u : FVec Ideal S34816x7216 .bf16) (b : Fin 8) (h : Fin 4)

/-- The queries of chunk `n`. -/
def qn (n : ℕ) (i d : Fin 64) : EReal := if hn : n < 68 then rp u b (tim ⟨n, hn⟩ i) ⟨h.val, by omega⟩ d else 0

/-- The keys of chunk `n`. -/
def kn (n : ℕ) (i d : Fin 64) : EReal :=
  if hn : n < 68 then rp u b (tim ⟨n, hn⟩ i) ⟨4 + h.val, by omega⟩ d * Ideal.ofBits FTy.f32 0x3E000000#32 else 0

/-- The values of chunk `n`. -/
def vn (n : ℕ) (i : Fin 64) (e : Fin 128) : EReal := if hn : n < 68 then vv u b (tim ⟨n, hn⟩ i) h e else 0

theorem it_0 (n : ℕ) : (it u n).main_v176_0 = A_main_v168 u := by
  induction n with
  | zero => rfl
  | succ n ih => exact ih

theorem it_1 (n : ℕ) : (it u n).main_v176_1 = A_main_v170 u := by
  induction n with
  | zero => rfl
  | succ n ih => exact ih

theorem it_2 (n : ℕ) : (it u n).main_v176_2 = A_main_v172 u := by
  induction n with
  | zero => rfl
  | succ n ih => exact ih

theorem q_eq (n : ℕ) (hn : n < 68) : (fun i d => (it u n).main_v176_0 (ix5 ⟨n, hn⟩ b h i d)) = qn u b h n := by
  funext i d
  rw [it_0, qc_at, qn, dif_pos hn]

theorem k_eq (n : ℕ) (hn : n < 68) : (fun i d => (it u n).main_v176_1 (ix5 ⟨n, hn⟩ b h i d)) = kn u b h n := by
  funext i d
  rw [it_1, kc_at, kn, dif_pos hn]

theorem v_eq (n : ℕ) (hn : n < 68) : (fun i e => (it u n).main_v176_2 (ix5 ⟨n, hn⟩ b h i e)) = vn u b h n := by
  funext i e
  rw [it_2, vc_at, vn, dif_pos hn]

theorem zero_at (d : Fin 64) (e : Fin 128) : K_main_v157 (F := Ideal) (ix4 b h d e) = 0 := by
  pointwise [K_main_v157, K_main_cst_18]

/-- The state before trip `n`. -/
theorem it_5 (n : ℕ) (hn : n ≤ 68) (d : Fin 64) (e : Fin 128) :
    (it u n).main_v176_5 (ix4 b h d e) = st (lg h) (kn u b h) (vn u b h) n d e := by
  induction n generalizing d e with
  | zero => exact zero_at b h d e
  | succ n ih =>
    have hl : n < 68 := by omega
    refine (b70_at ⟨n, hl⟩ (it u n) b h d e).trans ?_
    rw [ih (by omega), k_eq u b h n hl, v_eq u b h n hl, st]

/-- Chunk `n'`'s output once its trip is done. -/
theorem it_6 (n : ℕ) (hn : n ≤ 68) (n' : Fin 68) (hl : n'.val < n) (i : Fin 64) (e : Fin 128) :
    (it u n).main_v176_6 (ix5 n' b h i e)
      = outc (lg h) (qn u b h n'.val) (kn u b h n'.val) (vn u b h n'.val) (st (lg h) (kn u b h) (vn u b h) n'.val) i e := by
  induction n with
  | zero => omega
  | succ n ih =>
    have hl' : n < 68 := by omega
    refine (b76_at ⟨n, hl'⟩ (it u n) n' b h i e).trans ?_
    split
    · rename_i heq
      subst heq
      rw [b62_at, q_eq u b h n hl', k_eq u b h n hl', v_eq u b h n hl']
      refine congrArg (fun s => outc (lg h) _ _ _ s i e) ?_
      funext d e
      exact it_5 u b h n (by omega) d e
    · rename_i hne
      have : n'.val ≠ n := fun hc => hne (Fin.ext hc)
      exact ih (by omega) (by omega)

end Cert.Proof.Ret.Ref

end
-- ==== Proof.RetRefTab.lean ====
/-
  The reference's rotation tables: cosines and sines of one table of angles.
-/
module

public import proofs.«01_k».proof.Proof.RetRefRope
public import proofs.«01_k».proof.Proof.RetTab

@[expose] public section

noncomputable section

namespace Cert.Proof.Ret.Ref

open Cert.ReferenceIdeal Cert.ReferenceIdeal.Step Idealize.ShloMosaic Idealize.ShloMosaic.TcCoe Idealize.SL.Sem
open Idealize.ShloMosaic.StableHlo Cert.Proof.Ret

/-- The cosines. -/
theorem cosT_at (t : Fin 4352) (p : Fin 32) : cosT t p = Ideal.cos (ang t p) := by
  unfold cosT ang
  by_cases ht : t.val < 256
  · by_cases hp : p.val < 8
    · rw [dif_pos ht, if_pos ht, if_pos hp]
      pointwise [dif_pos hp, K_main_v54, K_main_v53, K_main_v52, K_main_v29, K_main_v27, K_main_v25, K_main_v15, K_main_v12, K_main_v10, K_main_v13, K_main_v11, K_main_cst_2, K_main_v14, K_main_v28, K_main_v26, K_main_v24, K_main_v23, K_main_cst_4, K_main_v22, K_main_v20, K_main_v19, K_main_v21, K_main_cst_3, K_main_v40, K_main_v38, K_main_v36, K_main_v39, K_main_v37, K_main_v35, K_main_v34, K_main_cst_6, K_main_v33, K_main_v31, K_main_v30, K_main_v32, K_main_cst_5, K_main_v51, K_main_v49, K_main_v47, K_main_v50, K_main_v48, K_main_v46, K_main_v45, K_main_cst_8, K_main_v44, K_main_v42, K_main_v41, K_main_v43, K_main_cst_7]
    · by_cases hq : p.val - 8 < 12
      · rw [dif_pos ht, if_pos ht, if_neg hp, if_pos hq]
        pointwise [dif_neg hp, dif_pos hq, K_main_v54, K_main_v53, K_main_v52, K_main_v29, K_main_v27, K_main_v25, K_main_v15, K_main_v12, K_main_v10, K_main_v13, K_main_v11, K_main_cst_2, K_main_v14, K_main_v28, K_main_v26, K_main_v24, K_main_v23, K_main_cst_4, K_main_v22, K_main_v20, K_main_v19, K_main_v21, K_main_cst_3, K_main_v40, K_main_v38, K_main_v36, K_main_v39, K_main_v37, K_main_v35, K_main_v34, K_main_cst_6, K_main_v33, K_main_v31, K_main_v30, K_main_v32, K_main_cst_5, K_main_v51, K_main_v49, K_main_v47, K_main_v50, K_main_v48, K_main_v46, K_main_v45, K_main_cst_8, K_main_v44, K_main_v42, K_main_v41, K_main_v43, K_main_cst_7]
      · rw [dif_pos ht, if_pos ht, if_neg hp, if_neg hq]
        pointwise [dif_neg hp, dif_neg hq, K_main_v54, K_main_v53, K_main_v52, K_main_v29, K_main_v27, K_main_v25, K_main_v15, K_main_v12, K_main_v10, K_main_v13, K_main_v11, K_main_cst_2, K_main_v14, K_main_v28, K_main_v26, K_main_v24, K_main_v23, K_main_cst_4, K_main_v22, K_main_v20, K_main_v19, K_main_v21, K_main_cst_3, K_main_v40, K_main_v38, K_main_v36, K_main_v39, K_main_v37, K_main_v35, K_main_v34, K_main_cst_6, K_main_v33, K_main_v31, K_main_v30, K_main_v32, K_main_cst_5, K_main_v51, K_main_v49, K_main_v47, K_main_v50, K_main_v48, K_main_v46, K_main_v45, K_main_cst_8, K_main_v44, K_main_v42, K_main_v41, K_main_v43, K_main_cst_7]
  · by_cases hp : p.val < 8
    · rw [dif_neg ht, if_neg ht, if_pos hp]
      pointwise [dif_pos hp, K_main_v130, K_main_v129, K_main_v128, K_main_v105, K_main_v103, K_main_v101, K_main_v91, K_main_v88, K_main_v87, K_main_cst_10, K_main_v89, K_main_v83, K_main_v82, K_main_v81, K_main_v90, K_main_v86, K_main_v85, K_main_v84, K_main_v104, K_main_v102, K_main_v100, K_main_v99, K_main_cst_12, K_main_v98, K_main_v96, K_main_v95, K_main_v97, K_main_cst_11, K_main_v116, K_main_v114, K_main_v112, K_main_v115, K_main_v113, K_main_v111, K_main_v110, K_main_cst_14, K_main_v109, K_main_v107, K_main_v106, K_main_v108, K_main_cst_13, K_main_v127, K_main_v125, K_main_v123, K_main_v126, K_main_v124, K_main_v122, K_main_v121, K_main_cst_16, K_main_v120, K_main_v118, K_main_v117, K_main_v119, K_main_cst_15]
    · by_cases hq : p.val - 8 < 12
      · rw [dif_neg ht, if_neg ht, if_neg hp, if_pos hq]
        pointwise [dif_neg hp, dif_pos hq, K_main_v130, K_main_v129, K_main_v128, K_main_v105, K_main_v103, K_main_v101, K_main_v91, K_main_v88, K_main_v87, K_main_cst_10, K_main_v89, K_main_v83, K_main_v82, K_main_v81, K_main_v90, K_main_v86, K_main_v85, K_main_v84, K_main_v104, K_main_v102, K_main_v100, K_main_v99, K_main_cst_12, K_main_v98, K_main_v96, K_main_v95, K_main_v97, K_main_cst_11, K_main_v116, K_main_v114, K_main_v112, K_main_v115, K_main_v113, K_main_v111, K_main_v110, K_main_cst_14, K_main_v109, K_main_v107, K_main_v106, K_main_v108, K_main_cst_13, K_main_v127, K_main_v125, K_main_v123, K_main_v126, K_main_v124, K_main_v122, K_main_v121, K_main_cst_16, K_main_v120, K_main_v118, K_main_v117, K_main_v119, K_main_cst_15]
      · rw [dif_neg ht, if_neg ht, if_neg hp, if_neg hq]
        pointwise [dif_neg hp, dif_neg hq, K_main_v130, K_main_v129, K_main_v128, K_main_v105, K_main_v103, K_main_v101, K_main_v91, K_main_v88, K_main_v87, K_main_cst_10, K_main_v89, K_main_v83, K_main_v82, K_main_v81, K_main_v90, K_main_v86, K_main_v85, K_main_v84, K_main_v104, K_main_v102, K_main_v100, K_main_v99, K_main_cst_12, K_main_v98, K_main_v96, K_main_v95, K_main_v97, K_main_cst_11, K_main_v116, K_main_v114, K_main_v112, K_main_v115, K_main_v113, K_main_v111, K_main_v110, K_main_cst_14, K_main_v109, K_main_v107, K_main_v106, K_main_v108, K_main_cst_13, K_main_v127, K_main_v125, K_main_v123, K_main_v126, K_main_v124, K_main_v122, K_main_v121, K_main_cst_16, K_main_v120, K_main_v118, K_main_v117, K_main_v119, K_main_cst_15]

/-- The sines. -/
theorem sinT_at (t : Fin 4352) (p : Fin 32) : sinT t p = Ideal.sin (ang t p) := by
  unfold sinT ang
  by_cases ht : t.val < 256
  · by_cases hp : p.val < 8
    · rw [dif_pos ht, if_pos ht, if_pos hp]
      pointwise [dif_pos hp, K_main_v55, K_main_v53, K_main_v52, K_main_v29, K_main_v27, K_main_v25, K_main_v15, K_main_v12, K_main_v10, K_main_v13, K_main_v11, K_main_cst_2, K_main_v14, K_main_v28, K_main_v26, K_main_v24, K_main_v23, K_main_cst_4, K_main_v22, K_main_v20, K_main_v19, K_main_v21, K_main_cst_3, K_main_v40, K_main_v38, K_main_v36, K_main_v39, K_main_v37, K_main_v35, K_main_v34, K_main_cst_6, K_main_v33, K_main_v31, K_main_v30, K_main_v32, K_main_cst_5, K_main_v51, K_main_v49, K_main_v47, K_main_v50, K_main_v48, K_main_v46, K_main_v45, K_main_cst_8, K_main_v44, K_main_v42, K_main_v41, K_main_v43, K_main_cst_7]
    · by_cases hq : p.val - 8 < 12
      · rw [dif_pos ht, if_pos ht, if_neg hp, if_pos hq]
        pointwise [dif_neg hp, dif_pos hq, K_main_v55, K_main_v53, K_main_v52, K_main_v29, K_main_v27, K_main_v25, K_main_v15, K_main_v12, K_main_v10, K_main_v13, K_main_v11, K_main_cst_2, K_main_v14, K_main_v28, K_main_v26, K_main_v24, K_main_v23, K_main_cst_4, K_main_v22, K_main_v20, K_main_v19, K_main_v21, K_main_cst_3, K_main_v40, K_main_v38, K_main_v36, K_main_v39, K_main_v37, K_main_v35, K_main_v34, K_main_cst_6, K_main_v33, K_main_v31, K_main_v30, K_main_v32, K_main_cst_5, K_main_v51, K_main_v49, K_main_v47, K_main_v50, K_main_v48, K_main_v46, K_main_v45, K_main_cst_8, K_main_v44, K_main_v42, K_main_v41, K_main_v43, K_main_cst_7]
      · rw [dif_pos ht, if_pos ht, if_neg hp, if_neg hq]
        pointwise [dif_neg hp, dif_neg hq, K_main_v55, K_main_v53, K_main_v52, K_main_v29, K_main_v27, K_main_v25, K_main_v15, K_main_v12, K_main_v10, K_main_v13, K_main_v11, K_main_cst_2, K_main_v14, K_main_v28, K_main_v26, K_main_v24, K_main_v23, K_main_cst_4, K_main_v22, K_main_v20, K_main_v19, K_main_v21, K_main_cst_3, K_main_v40, K_main_v38, K_main_v36, K_main_v39, K_main_v37, K_main_v35, K_main_v34, K_main_cst_6, K_main_v33, K_main_v31, K_main_v30, K_main_v32, K_main_cst_5, K_main_v51, K_main_v49, K_main_v47, K_main_v50, K_main_v48, K_main_v46, K_main_v45, K_main_cst_8, K_main_v44, K_main_v42, K_main_v41, K_main_v43, K_main_cst_7]
  · by_cases hp : p.val < 8
    · rw [dif_neg ht, if_neg ht, if_pos hp]
      pointwise [dif_pos hp, K_main_v131, K_main_v129, K_main_v128, K_main_v105, K_main_v103, K_main_v101, K_main_v91, K_main_v88, K_main_v87, K_main_cst_10, K_main_v89, K_main_v83, K_main_v82, K_main_v81, K_main_v90, K_main_v86, K_main_v85, K_main_v84, K_main_v104, K_main_v102, K_main_v100, K_main_v99, K_main_cst_12, K_main_v98, K_main_v96, K_main_v95, K_main_v97, K_main_cst_11, K_main_v116, K_main_v114, K_main_v112, K_main_v115, K_main_v113, K_main_v111, K_main_v110, K_main_cst_14, K_main_v109, K_main_v107, K_main_v106, K_main_v108, K_main_cst_13, K_main_v127, K_main_v125, K_main_v123, K_main_v126, K_main_v124, K_main_v122, K_main_v121, K_main_cst_16, K_main_v120, K_main_v118, K_main_v117, K_main_v119, K_main_cst_15]
    · by_cases hq : p.val - 8 < 12
      · rw [dif_neg ht, if_neg ht, if_neg hp, if_pos hq]
        pointwise [dif_neg hp, dif_pos hq, K_main_v131, K_main_v129, K_main_v128, K_main_v105, K_main_v103, K_main_v101, K_main_v91, K_main_v88, K_main_v87, K_main_cst_10, K_main_v89, K_main_v83, K_main_v82, K_main_v81, K_main_v90, K_main_v86, K_main_v85, K_main_v84, K_main_v104, K_main_v102, K_main_v100, K_main_v99, K_main_cst_12, K_main_v98, K_main_v96, K_main_v95, K_main_v97, K_main_cst_11, K_main_v116, K_main_v114, K_main_v112, K_main_v115, K_main_v113, K_main_v111, K_main_v110, K_main_cst_14, K_main_v109, K_main_v107, K_main_v106, K_main_v108, K_main_cst_13, K_main_v127, K_main_v125, K_main_v123, K_main_v126, K_main_v124, K_main_v122, K_main_v121, K_main_cst_16, K_main_v120, K_main_v118, K_main_v117, K_main_v119, K_main_cst_15]
      · rw [dif_neg ht, if_neg ht, if_neg hp, if_neg hq]
        pointwise [dif_neg hp, dif_neg hq, K_main_v131, K_main_v129, K_main_v128, K_main_v105, K_main_v103, K_main_v101, K_main_v91, K_main_v88, K_main_v87, K_main_cst_10, K_main_v89, K_main_v83, K_main_v82, K_main_v81, K_main_v90, K_main_v86, K_main_v85, K_main_v84, K_main_v104, K_main_v102, K_main_v100, K_main_v99, K_main_cst_12, K_main_v98, K_main_v96, K_main_v95, K_main_v97, K_main_cst_11, K_main_v116, K_main_v114, K_main_v112, K_main_v115, K_main_v113, K_main_v111, K_main_v110, K_main_cst_14, K_main_v109, K_main_v107, K_main_v106, K_main_v108, K_main_cst_13, K_main_v127, K_main_v125, K_main_v123, K_main_v126, K_main_v124, K_main_v122, K_main_v121, K_main_cst_16, K_main_v120, K_main_v118, K_main_v117, K_main_v119, K_main_cst_15]

end Cert.Proof.Ret.Ref

end
-- ==== Proof.RetMath.lean ====
/-
  The arithmetic that joins the two programs of the retention claim: the kernel walks a chunk in place order, which is
  the scan's order reversed; its rotation tables carry the scale and the sign; its decay over a chunk is a named number.
-/
module

public import proofs.«01_k».proof.Proof.RetKerTab
public import proofs.«01_k».proof.Proof.RetRefIter
public import proofs.«01_k».proof.Proof.RetRefTab
public import Mathlib.Analysis.SpecialFunctions.Exp
public import Mathlib.Analysis.SpecialFunctions.Log.Basic

@[expose] public section

noncomputable section

namespace Cert.Proof.Ret.Ker

open Idealize.ShloMosaic

/-- A chunk's output, walked backwards. -/
theorem out_match (lg : EReal) (q k : Fin 64 → Fin 64 → EReal) (v : Fin 64 → Fin 128 → EReal) (q' k' : Fin 64 → Fin 64 → EReal)
    (v' : Fin 64 → Fin 128 → EReal) (dm w : Fin 64 → Fin 64 → EReal) (s : Fin 64 → Fin 128 → EReal)
    (hq : ∀ i d, q' i d = q i.rev d) (hk : ∀ i d, k' i d = k i.rev d) (hv : ∀ i e, v' i e = v i.rev e)
    (hd : ∀ i j, dm i j = dec lg i.rev j.rev) (hw : ∀ i d, w i d = Ideal.exp (cum lg i.rev)) (i : Fin 64) (e : Fin 128) :
    outG q' k' v' dm w s i e = outc lg q k v s i.rev e := by
  unfold outG outc
  simp only [hq, hk, hv, hd, hw]
  exact congrArg (· + _) (Equiv.sum_comp (M := EReal) Fin.revPerm (fun j => (∑ d : Fin 64, q i.rev d * k j d) * dec lg i.rev j * v j e))

/-- A chunk's new state, walked backwards. -/
theorem st_match (lg a : EReal) (k : Fin 64 → Fin 64 → EReal) (v : Fin 64 → Fin 128 → EReal) (k' : Fin 64 → Fin 64 → EReal)
    (v' : Fin 64 → Fin 128 → EReal) (w : Fin 64 → Fin 64 → EReal) (s : Fin 64 → Fin 128 → EReal)
    (ha : a = Ideal.exp (cum lg 63)) (hk : ∀ i d, k' i d = k i.rev d) (hv : ∀ i e, v' i e = v i.rev e)
    (hw : ∀ i d, w i d = Ideal.exp (cum lg 63 - cum lg i.rev)) :
    sG a s (kvG k' w v') = fun d e => s d e * Ideal.exp (cum lg 63) + kvs lg k v d e := by
  funext d e
  unfold sG kvG kvs
  simp only [hk, hv, hw, ha]
  rw [EReal.mul_comm]
  exact congrArg (_ + ·) (Equiv.sum_comp (M := EReal) Fin.revPerm (fun i => k i d * Ideal.exp (cum lg 63 - cum lg i) * v i e))

theorem eighth : Ideal.ofBits FTy.f32 0x3E000000#32 = ((1 / 8 : ℝ) : EReal) := by
  simp [Ideal.ofBits, Ideal.ieee]
  rw [← EReal.coe_mul]
  norm_num

theorem sc_nonneg (p : ℕ) : 0 ≤ sc p := by
  unfold sc
  split
  · exact zero_le_one
  · rw [eighth]; exact_mod_cast (by norm_num : (0 : ℝ) ≤ 1 / 8)

theorem sc_ne_top (p : ℕ) : sc p ≠ ⊤ := by
  unfold sc
  split
  · exact EReal.coe_ne_top 1
  · rw [eighth]; exact EReal.coe_ne_top _

theorem lo_math (a b C S s : EReal) (h0 : 0 ≤ s) (h1 : s ≠ ⊤) : a * (C * s) + b * (-S * s) = (a * C - b * S) * s := by
  rw [sub_eq_add_neg, EReal.right_distrib_of_nonneg_of_ne_top h0 h1]
  simp only [neg_mul, mul_neg, mul_assoc]

theorem hi_math (a b C S s : EReal) (h0 : 0 ≤ s) (h1 : s ≠ ⊤) : a * (C * s) + b * (S * s) = (b * S + a * C) * s := by
  rw [EReal.right_distrib_of_nonneg_of_ne_top h0 h1, mul_assoc, mul_assoc, add_comm]

/-- The kernel's rotated element is the reference's times the scale. -/
theorem rope_math (A : Fin 34816 → Fin 7216 → EReal) (r : Fin 34816) (t : Fin 4352) (hh : Fin 8) (d : Fin 64) (p : Fin 512)
    (hp : p.val = 64 * hh.val + d.val) (x y : Fin 7216) (hx : x.val = 4112 + p.val)
    (hy : y.val = 4112 + (if p.val % 64 < 32 then p.val + 32 else p.val - 32)) :
    A r x * tc t p + A r y * ts t p = rope A Ref.cosT Ref.sinT r t hh d * sc p.val := by
  have hm : p.val % 64 = d.val := by omega
  unfold tc ts rope
  by_cases hd : d.val < 32
  · have hl : p.val % 64 < 32 := by omega
    rw [dif_pos hl, dif_pos hl, dif_pos hd, lo_math _ _ _ _ _ (sc_nonneg _) (sc_ne_top _), Ref.cosT_at, Ref.sinT_at]
    rw [if_pos hl] at hy
    have b1 : 4112 + (hh.val * 64 + d.val) < 7216 := by omega
    have e1 : x = ⟨4112 + (hh.val * 64 + d.val), b1⟩ := Fin.ext (by simp only; omega)
    have b2 : 4112 + (hh.val * 64 + (32 + d.val)) < 7216 := by omega
    have e2 : y = ⟨4112 + (hh.val * 64 + (32 + d.val)), b2⟩ := Fin.ext (by simp only; omega)
    have e3 : (⟨p.val % 64, hl⟩ : Fin 32) = ⟨d.val, hd⟩ := Fin.ext hm
    rw [e1, e2, e3]
  · have hl : ¬ p.val % 64 < 32 := by omega
    rw [dif_neg hl, dif_neg hl, dif_neg hd, hi_math _ _ _ _ _ (sc_nonneg _) (sc_ne_top _), Ref.cosT_at, Ref.sinT_at]
    rw [if_neg hl] at hy
    have b1 : 4112 + (hh.val * 64 + (32 + (d.val - 32))) < 7216 := by omega
    have e1 : x = ⟨4112 + (hh.val * 64 + (32 + (d.val - 32))), b1⟩ := Fin.ext (by simp only; omega)
    have b2 : 4112 + (hh.val * 64 + (d.val - 32)) < 7216 := by omega
    have e2 : y = ⟨4112 + (hh.val * 64 + (d.val - 32)), b2⟩ := Fin.ext (by simp only; omega)
    have e3 : (⟨p.val % 64 - 32, by omega⟩ : Fin 32) = ⟨d.val - 32, by omega⟩ := Fin.ext (by simp only; omega)
    rw [e1, e2, e3]

/-- The decay over a chunk as a real. -/
theorem exp_end (h : Fin 4) (x : ℝ) (hx : (1 - (2 : ℝ) ^ (-(5 + (h.val : ℝ)))) = x) (h0 : 0 < x) :
    Ideal.exp (cum ((lr h : ℝ) : EReal) 63) = ((x ^ 64 : ℝ) : EReal) := by
  rw [cum_coe, Ideal.exp_coe]
  congr 1
  unfold lr
  rw [hx]
  have e : (((63 : Fin 64).val : ℝ) + 1) * Real.log x = ((64 : ℕ) : ℝ) * Real.log x := by
    congr 1
    norm_num
  rw [e, Real.exp_nat_mul, Real.exp_log h0]

theorem a0_eq : a0 = Ideal.exp (cum ((lr 0 : ℝ) : EReal) 63) := by
  refine (IdealRules.named_const.ideal_named_scalar _ _ _ _ rfl).trans ?_
  rw [exp_end 0 (31 / 32) (by rw [show -(5 + (((0 : Fin 4).val : ℕ) : ℝ)) = ((-5 : ℤ) : ℝ) by norm_num, Real.rpow_intCast]; norm_num) (by norm_num)]
  congr 1
  norm_num

theorem a1_eq : a1 = Ideal.exp (cum ((lr 1 : ℝ) : EReal) 63) := by
  refine (IdealRules.named_const.ideal_named_scalar _ _ _ _ rfl).trans ?_
  rw [exp_end 1 (63 / 64) (by rw [show -(5 + (((1 : Fin 4).val : ℕ) : ℝ)) = ((-6 : ℤ) : ℝ) by norm_num, Real.rpow_intCast]; norm_num) (by norm_num)]
  congr 1
  norm_num

theorem a2_eq : a2 = Ideal.exp (cum ((lr 2 : ℝ) : EReal) 63) := by
  refine (IdealRules.named_const.ideal_named_scalar _ _ _ _ rfl).trans ?_
  rw [exp_end 2 (127 / 128) (by rw [show -(5 + (((2 : Fin 4).val : ℕ) : ℝ)) = ((-7 : ℤ) : ℝ) by norm_num, Real.rpow_intCast]; norm_num) (by norm_num)]
  congr 1
  norm_num

theorem a3_eq : a3 = Ideal.exp (cum ((lr 3 : ℝ) : EReal) 63) := by
  refine (IdealRules.named_const.ideal_named_scalar _ _ _ _ rfl).trans ?_
  rw [exp_end 3 (255 / 256) (by rw [show -(5 + (((3 : Fin 4).val : ℕ) : ℝ)) = ((-8 : ℤ) : ℝ) by norm_num, Real.rpow_intCast]; norm_num) (by norm_num)]
  congr 1
  norm_num

end Cert.Proof.Ret.Ker

namespace Cert.Proof.Ret.Ref

open Cert.ReferenceIdeal Cert.ReferenceIdeal.Step Idealize.ShloMosaic

/-- The reference's logarithm of a head's decay. -/
theorem lg_eq (h : Fin 4) : lg h = ((lr h : ℝ) : EReal) := by
  refine Eq.trans ?_ (log_at h)
  pointwise [lg, K_main_v7, K_main_v6, K_main_v5, K_main_v4, K_main_v3, K_main_v2, K_main_v1, K_main_v0, K_main_cst, K_main_cst_0, K_main_cst_1]

end Cert.Proof.Ret.Ref

end
-- ==== Proof.RetRefOut.lean ====
/-
  Where the operations after the reference's loop put a chunk's output.
-/
module

public import proofs.«01_k».proof.Proof.RetRefIter

@[expose] public section

noncomputable section

namespace Cert.Proof.Ret.Ref

open Cert.ReferenceIdeal Cert.ReferenceIdeal.Step Idealize.ShloMosaic Idealize.ShloMosaic.TcCoe Idealize.SL.Sem
open Idealize.ShloMosaic.StableHlo Cert.Proof.Ret

/-- The scan's outputs in time order. -/
theorem chunks_back (x : FVec Ideal S68x8x4x64x128 .f32) (b : Fin 8) (h : Fin 4) (n : Fin 68) (i : Fin 64) (e : Fin 128) (p0) (p1) :
    (shapeCast S8x4x4352x128 (transpose S8x4x68x64x128 [1, 2, 0, 3, 4] x p0) p1) (ix4 b h (tim n i) e) = x (ix5 n b h i e) := by
  pointwise [tim]

/-- The latent rows of the result. -/
theorem lat_out (y : FVec Ideal S8x4x4352x128 .f32) (b : Fin 8) (h : Fin 4) (r : Fin 4096) (e : Fin 128) (p0) (p1) (p2) (p3) :
    (shapeCast S32768x512 (shapeCast S8x4096x512 (transpose S8x4096x4x128 [0, 2, 1, 3] (Host.reverse [2] (extractStridedSlice S8x4x4096x128 ![0, 0, 256, 0] (y) p0)) p1) p2) p3) (ix2 ⟨b.val * 4096 + r.val, by omega⟩ ⟨h.val * 128 + e.val, by omega⟩) = y (ix4 b h ⟨256 + (4095 - r.val), by omega⟩ e) := by
  pointwise []
  exact congrArg (fun t => y (ix4 b h t e)) (Fin.ext (by show 256 + (4096 - (r.val + 1)) = 256 + (4095 - r.val); omega))

/-- The context rows of the result. -/
theorem ctx_out (y : FVec Ideal S8x4x4352x128 .f32) (b : Fin 8) (h : Fin 4) (r : Fin 256) (e : Fin 128) (p0) (p1) (p2) (p3) :
    (shapeCast S2048x512 (shapeCast S8x256x512 (transpose S8x256x4x128 [0, 2, 1, 3] (Host.reverse [2] (extractStridedSlice S8x4x256x128 ![0, 0, 0, 0] (y) p0)) p1) p2) p3) (ix2 ⟨b.val * 256 + r.val, by omega⟩ ⟨h.val * 128 + e.val, by omega⟩) = y (ix4 b h ⟨255 - r.val, by omega⟩ e) := by
  pointwise []
  exact congrArg (fun t => y (ix4 b h t e)) (Fin.ext (by show 256 - (r.val + 1) = 255 - r.val; omega))

theorem at_t (Y : FVec Ideal S8x4x4352x128 .f32) (b : Fin 8) (h : Fin 4) (t t' : Fin 4352) (e : Fin 128) (ht : t = t') :
    Y (ix4 b h t e) = Y (ix4 b h t' e) := by
  rw [ht]

theorem cat_lat (A : FVec Ideal S32768x512 .f32) (B : FVec Ideal S2048x512 .f32) (r : Fin 34816) (c : Fin 512) (hr : r.val < 32768) (p) :
    concatenate S34816x512 0 [⟨S32768x512, A⟩, ⟨S2048x512, B⟩] p (ix2 r c) = A (ix2 ⟨r.val, hr⟩ c) := by
  pointwise [dif_pos hr]

theorem cat_ctx (A : FVec Ideal S32768x512 .f32) (B : FVec Ideal S2048x512 .f32) (r : Fin 34816) (c : Fin 512) (hr : ¬ r.val < 32768) (p) :
    concatenate S34816x512 0 [⟨S32768x512, A⟩, ⟨S2048x512, B⟩] p (ix2 r c) = B (ix2 ⟨r.val - 32768, by omega⟩ c) := by
  pointwise [dif_neg hr]

/-- Place `i` of chunk `n` of the scan's outputs is at the row it was read from. -/
theorem out_at (s : State Ideal) (b : Fin 8) (h : Fin 4) (n : Fin 68) (i : Fin 64) (e : Fin 128) :
    R_main_v189 s (ix2 (lrow b (tim n i)) ⟨h.val * 128 + e.val, by omega⟩) = s.main_v176_6 (ix5 n b h i e) := by
  unfold R_main_v189
  by_cases ht : (tim n i).val < 256
  · have hv : (lrow b (tim n i)).val = 32768 + (b.val * 256 + (255 - (tim n i).val)) := by rw [lrow, dif_pos ht]
    refine (cat_ctx _ _ _ _ (by omega) _).trans ?_
    have e1 : (⟨(lrow b (tim n i)).val - 32768, by omega⟩ : Fin 2048) = ⟨b.val * 256 + (⟨255 - (tim n i).val, by omega⟩ : Fin 256).val, by
        show b.val * 256 + (255 - (tim n i).val) < 2048; omega⟩ := Fin.ext (by show (lrow b (tim n i)).val - 32768 = b.val * 256 + (255 - (tim n i).val); omega)
    rw [e1]
    refine (ctx_out _ b h ⟨255 - (tim n i).val, by omega⟩ e _ _ _ _).trans ?_
    refine Eq.trans ?_ (chunks_back s.main_v176_6 b h n i e Gen.transposes_S68x8x4x64x128_S8x4x68x64x128_1_2_0_3_4 Gen.shapeCasts_S8x4x68x64x128_S8x4x4352x128)
    exact at_t _ b h _ _ e (Fin.ext (by show 255 - (255 - (tim n i).val) = (tim n i).val; omega))
  · have h4 := (tim n i).isLt
    have hv : (lrow b (tim n i)).val = b.val * 4096 + (4351 - (tim n i).val) := by rw [lrow, dif_neg ht]
    refine (cat_lat _ _ _ _ (by omega) _).trans ?_
    have e1 : (⟨(lrow b (tim n i)).val, by omega⟩ : Fin 32768) = ⟨b.val * 4096 + (⟨4351 - (tim n i).val, by omega⟩ : Fin 4096).val, by
        show b.val * 4096 + (4351 - (tim n i).val) < 32768; omega⟩ := Fin.ext hv
    rw [e1]
    refine (lat_out _ b h ⟨4351 - (tim n i).val, by omega⟩ e _ _ _ _).trans ?_
    refine Eq.trans ?_ (chunks_back s.main_v176_6 b h n i e Gen.transposes_S68x8x4x64x128_S8x4x68x64x128_1_2_0_3_4 Gen.shapeCasts_S8x4x68x64x128_S8x4x4352x128)
    exact at_t _ b h _ _ e (Fin.ext (by show 256 + (4095 - (4351 - (tim n i).val)) = (tim n i).val; omega))

end Cert.Proof.Ret.Ref

end
-- ==== Proof.RetKerPt.lean ====
/-
  One grid point of the retention kernel is four chunks of the reference's recurrence, for each of the four heads.
-/
module

public import proofs.«01_k».proof.Proof.RetMath
public import proofs.«01_k».proof.Proof.RetRefOut

@[expose] public section

noncomputable section

namespace Cert.Proof.Ret.Ker

open Cert.KernelIdeal Cert.KernelIdeal.Gen Idealize.ShloMosaic

set_option maxHeartbeats 4000000

/-- What the blocks of the point of sequence `b` and four chunks `j` hold. -/
structure Blk (u : FVec Ideal S34816x7216 .bf16) (b : Fin 8) (j : ℕ) (pr : Fin 256 → Fin 34816) (tr : Fin 256 → Fin 4352)
    (x0 x1 x2 : FVec Ideal S256x512 .bf16) (x3 x4 : FVec Ideal S256x512 .f32) (x5 : FVec Ideal S4x64x64 .f32) (x6 x7 : FVec Ideal S64x256 .f32) : Prop where
  lt : j < 17
  e0 : ∀ (r : Fin 256) (p : Fin 512), x0 (ix2 r p) = Ref.U u (pr r) ⟨4112 + p.val, by omega⟩
  e1 : ∀ (r : Fin 256) (p : Fin 512), x1 (ix2 r p) = Ref.U u (pr r) ⟨4112 + (if p.val % 64 < 32 then p.val + 32 else p.val - 32), by split <;> omega⟩
  e2 : ∀ (r : Fin 256) (p : Fin 512), x2 (ix2 r p) = Ref.U u (pr r) ⟨4624 + p.val, by omega⟩
  e3 : ∀ (r : Fin 256) (p : Fin 512), x3 (ix2 r p) = tc (tr r) p
  e4 : ∀ (r : Fin 256) (p : Fin 512), x4 (ix2 r p) = ts (tr r) p
  e5 : ∀ (h : Fin 4) (i j : Fin 64), x5 (ix3 h i j) = dec ((lr h : ℝ) : EReal) i.rev j.rev
  e6 : ∀ (i : Fin 64) (h : Fin 4) (p : Fin 256), p.val / 64 = h.val → x6 (ix2 i p) = Ideal.exp (cum ((lr h : ℝ) : EReal) i.rev)
  e7 : ∀ (i : Fin 64) (h : Fin 4) (p : Fin 256), p.val / 64 = h.val → x7 (ix2 i p) = Ideal.exp (cum ((lr h : ℝ) : EReal) 63 - cum ((lr h : ℝ) : EReal) i.rev)
  rl : ∀ (k o : ℕ) (hn : 4 * j + k < 68), o + 64 * k = 192 → ∀ (i : Fin 64) (r : Fin 256), r.val = o + i.val → pr r = lrow b (tim ⟨4 * j + k, hn⟩ i.rev)
  rt : ∀ (k o : ℕ) (hn : 4 * j + k < 68), o + 64 * k = 192 → ∀ (i : Fin 64) (r : Fin 256), r.val = o + i.val → tr r = trow (tim ⟨4 * j + k, hn⟩ i.rev)

section
variable {u : FVec Ideal S34816x7216 .bf16} {b : Fin 8} {j : ℕ} {pr : Fin 256 → Fin 34816} {tr : Fin 256 → Fin 4352}
  {x0 x1 x2 : FVec Ideal S256x512 .bf16} {x3 x4 : FVec Ideal S256x512 .f32} {x5 : FVec Ideal S4x64x64 .f32} {x6 x7 : FVec Ideal S64x256 .f32}
  (B : Blk u b j pr tr x0 x1 x2 x3 x4 x5 x6 x7)
include B

theorem q_match (k o p : ℕ) (h : Fin 4) (hok : o + 64 * k = 192) (hp : p = 64 * h.val) (ho : o ≤ 192) (hp' : p ≤ 192) (i d : Fin 64) :
    qK x0 x1 x3 x4 o p ho hp' i d = Ref.qn u b h (4 * j + k) i.rev d := by
  have hj := B.lt
  have hn : 4 * j + k < 68 := by omega
  unfold qK P
  rw [B.e0, B.e1, B.e3, B.e4, B.rl k o hn hok i _ rfl, B.rt k o hn hok i _ rfl, Ref.qn, dif_pos hn]
  refine (rope_math (Ref.U u) _ _ ⟨h.val, by omega⟩ d _ (by simp only; omega) _ _ rfl rfl).trans ?_
  rw [sc, if_pos (by simp only; omega), mul_one]

theorem k_match (k o p : ℕ) (h : Fin 4) (hok : o + 64 * k = 192) (hp : p = 64 * h.val) (ho : o ≤ 192) (hp' : p ≤ 192) (i d : Fin 64) :
    kK x0 x1 x3 x4 o p ho hp' i d = Ref.kn u b h (4 * j + k) i.rev d := by
  have hj := B.lt
  have hn : 4 * j + k < 68 := by omega
  unfold kK P
  rw [B.e0, B.e1, B.e3, B.e4, B.rl k o hn hok i _ rfl, B.rt k o hn hok i _ rfl, Ref.kn, dif_pos hn]
  refine (rope_math (Ref.U u) _ _ ⟨4 + h.val, by omega⟩ d _ (by simp only; omega) _ _ rfl rfl).trans ?_
  rw [sc, if_neg (by simp only; omega)]

theorem v_match (k o p : ℕ) (h : Fin 4) (hok : o + 64 * k = 192) (hp : p = 128 * h.val) (ho : o ≤ 192) (hp' : p ≤ 384) (i : Fin 64) (e : Fin 128) :
    vK x2 o p ho hp' i e = Ref.vn u b h (4 * j + k) i.rev e := by
  have hj := B.lt
  have hn : 4 * j + k < 68 := by omega
  unfold vK
  rw [B.e2, B.rl k o hn hok i _ rfl, Ref.vn, dif_pos hn, Ref.vv]
  exact congrArg (Ref.U u _) (Fin.ext (by simp only; omega))

/-- One chunk of one head advances the state. -/
theorem s_step (a : EReal) (k o p p2 : ℕ) (h : Fin 4) (ha : a = Ideal.exp (cum ((lr h : ℝ) : EReal) 63)) (hok : o + 64 * k = 192) (hp : p = 64 * h.val) (hp2 : p2 = 128 * h.val) (ho : o ≤ 192) (hp' : p ≤ 192) (hp2' : p2 ≤ 384) :
    sG a (st ((lr h : ℝ) : EReal) (Ref.kn u b h) (Ref.vn u b h) (4 * j + k)) (kvG (kK x0 x1 x3 x4 o p ho hp') (wK x7 p hp') (vK x2 o p2 ho hp2'))
      = st ((lr h : ℝ) : EReal) (Ref.kn u b h) (Ref.vn u b h) (4 * j + k + 1) :=
  st_match _ a _ _ _ _ _ _ ha (k_match B k o p h hok hp ho hp') (v_match B k o p2 h hok hp2 ho hp2')
    (fun i d => B.e7 i h _ (by simp only; omega))

/-- One chunk of one head writes the reference's output. -/
theorem o_step (k o p p2 : ℕ) (h : Fin 4) (hok : o + 64 * k = 192) (hp : p = 64 * h.val) (hp2 : p2 = 128 * h.val) (ho : o ≤ 192) (hp' : p ≤ 192) (hp2' : p2 ≤ 384)
    (i : Fin 64) (e : Fin 128) (r : Fin 256) (z : Fin 512) (hr : r.val = o + i.val) (hz : z.val = p2 + e.val) :
    Cert.ReferenceIdeal.Step.R_main_v189 (Ref.it u 68) (ix2 (pr r) z)
      = outG (qK x0 x1 x3 x4 o p ho hp') (kK x0 x1 x3 x4 o p ho hp') (vK x2 o p2 ho hp2') (mK x5 h) (wK x6 p hp')
        (st ((lr h : ℝ) : EReal) (Ref.kn u b h) (Ref.vn u b h) (4 * j + k)) i e := by
  have hj := B.lt
  have hn : 4 * j + k < 68 := by omega
  have ez : z = (⟨h.val * 128 + e.val, by omega⟩ : Fin 512) := Fin.ext (by simp only; omega)
  rw [B.rl k o hn hok i r hr, ez]
  refine (Ref.out_at (Ref.it u 68) b h ⟨4 * j + k, hn⟩ i.rev e).trans ?_
  refine (Ref.it_6 u b h 68 (Nat.le_refl _) ⟨4 * j + k, hn⟩ hn i.rev e).trans ?_
  rw [Ref.lg_eq]
  exact (out_match _ _ _ _ _ _ _ _ _ _ (q_match B k o p h hok hp ho hp') (k_match B k o p h hok hp ho hp') (v_match B k o p2 h hok hp2 ho hp2')
    (fun i j => B.e5 h i j) (fun i d => B.e6 i h _ (by simp only; omega)) i e).symm

variable {S : Fin 4 → Fin 64 → Fin 128 → EReal} (hS : ∀ h, S h = st ((lr h : ℝ) : EReal) (Ref.kn u b h) (Ref.vn u b h) (4 * j))
include hS

theorem s10_eq : s10 x0 x1 x2 x3 x4 x7 S = st ((lr 0 : ℝ) : EReal) (Ref.kn u b 0) (Ref.vn u b 0) (4 * j + 1) := by
  unfold s10
  rw [hS 0]
  exact s_step B a0 0 192 0 0 0 a0_eq (by decide) (by decide) (by decide) (by decide) (by decide) (by decide)

theorem s20_eq : s20 x0 x1 x2 x3 x4 x7 S = st ((lr 0 : ℝ) : EReal) (Ref.kn u b 0) (Ref.vn u b 0) (4 * j + 2) := by
  unfold s20
  rw [s10_eq B hS]
  exact s_step B a0 1 128 0 0 0 a0_eq (by decide) (by decide) (by decide) (by decide) (by decide) (by decide)

theorem s30_eq : s30 x0 x1 x2 x3 x4 x7 S = st ((lr 0 : ℝ) : EReal) (Ref.kn u b 0) (Ref.vn u b 0) (4 * j + 3) := by
  unfold s30
  rw [s20_eq B hS]
  exact s_step B a0 2 64 0 0 0 a0_eq (by decide) (by decide) (by decide) (by decide) (by decide) (by decide)

theorem s40_eq : s40 x0 x1 x2 x3 x4 x7 S = st ((lr 0 : ℝ) : EReal) (Ref.kn u b 0) (Ref.vn u b 0) (4 * j + 4) := by
  unfold s40
  rw [s30_eq B hS]
  exact s_step B a0 3 0 0 0 0 a0_eq (by decide) (by decide) (by decide) (by decide) (by decide) (by decide)

theorem s11_eq : s11 x0 x1 x2 x3 x4 x7 S = st ((lr 1 : ℝ) : EReal) (Ref.kn u b 1) (Ref.vn u b 1) (4 * j + 1) := by
  unfold s11
  rw [hS 1]
  exact s_step B a1 0 192 64 128 1 a1_eq (by decide) (by decide) (by decide) (by decide) (by decide) (by decide)

theorem s21_eq : s21 x0 x1 x2 x3 x4 x7 S = st ((lr 1 : ℝ) : EReal) (Ref.kn u b 1) (Ref.vn u b 1) (4 * j + 2) := by
  unfold s21
  rw [s11_eq B hS]
  exact s_step B a1 1 128 64 128 1 a1_eq (by decide) (by decide) (by decide) (by decide) (by decide) (by decide)

theorem s31_eq : s31 x0 x1 x2 x3 x4 x7 S = st ((lr 1 : ℝ) : EReal) (Ref.kn u b 1) (Ref.vn u b 1) (4 * j + 3) := by
  unfold s31
  rw [s21_eq B hS]
  exact s_step B a1 2 64 64 128 1 a1_eq (by decide) (by decide) (by decide) (by decide) (by decide) (by decide)

theorem s41_eq : s41 x0 x1 x2 x3 x4 x7 S = st ((lr 1 : ℝ) : EReal) (Ref.kn u b 1) (Ref.vn u b 1) (4 * j + 4) := by
  unfold s41
  rw [s31_eq B hS]
  exact s_step B a1 3 0 64 128 1 a1_eq (by decide) (by decide) (by decide) (by decide) (by decide) (by decide)

theorem s12_eq : s12 x0 x1 x2 x3 x4 x7 S = st ((lr 2 : ℝ) : EReal) (Ref.kn u b 2) (Ref.vn u b 2) (4 * j + 1) := by
  unfold s12
  rw [hS 2]
  exact s_step B a2 0 192 128 256 2 a2_eq (by decide) (by decide) (by decide) (by decide) (by decide) (by decide)

theorem s22_eq : s22 x0 x1 x2 x3 x4 x7 S = st ((lr 2 : ℝ) : EReal) (Ref.kn u b 2) (Ref.vn u b 2) (4 * j + 2) := by
  unfold s22
  rw [s12_eq B hS]
  exact s_step B a2 1 128 128 256 2 a2_eq (by decide) (by decide) (by decide) (by decide) (by decide) (by decide)

theorem s32_eq : s32 x0 x1 x2 x3 x4 x7 S = st ((lr 2 : ℝ) : EReal) (Ref.kn u b 2) (Ref.vn u b 2) (4 * j + 3) := by
  unfold s32
  rw [s22_eq B hS]
  exact s_step B a2 2 64 128 256 2 a2_eq (by decide) (by decide) (by decide) (by decide) (by decide) (by decide)

theorem s42_eq : s42 x0 x1 x2 x3 x4 x7 S = st ((lr 2 : ℝ) : EReal) (Ref.kn u b 2) (Ref.vn u b 2) (4 * j + 4) := by
  unfold s42
  rw [s32_eq B hS]
  exact s_step B a2 3 0 128 256 2 a2_eq (by decide) (by decide) (by decide) (by decide) (by decide) (by decide)

theorem s13_eq : s13 x0 x1 x2 x3 x4 x7 S = st ((lr 3 : ℝ) : EReal) (Ref.kn u b 3) (Ref.vn u b 3) (4 * j + 1) := by
  unfold s13
  rw [hS 3]
  exact s_step B a3 0 192 192 384 3 a3_eq (by decide) (by decide) (by decide) (by decide) (by decide) (by decide)

theorem s23_eq : s23 x0 x1 x2 x3 x4 x7 S = st ((lr 3 : ℝ) : EReal) (Ref.kn u b 3) (Ref.vn u b 3) (4 * j + 2) := by
  unfold s23
  rw [s13_eq B hS]
  exact s_step B a3 1 128 192 384 3 a3_eq (by decide) (by decide) (by decide) (by decide) (by decide) (by decide)

theorem s33_eq : s33 x0 x1 x2 x3 x4 x7 S = st ((lr 3 : ℝ) : EReal) (Ref.kn u b 3) (Ref.vn u b 3) (4 * j + 3) := by
  unfold s33
  rw [s23_eq B hS]
  exact s_step B a3 2 64 192 384 3 a3_eq (by decide) (by decide) (by decide) (by decide) (by decide) (by decide)

theorem s43_eq : s43 x0 x1 x2 x3 x4 x7 S = st ((lr 3 : ℝ) : EReal) (Ref.kn u b 3) (Ref.vn u b 3) (4 * j + 4) := by
  unfold s43
  rw [s33_eq B hS]
  exact s_step B a3 3 0 192 384 3 a3_eq (by decide) (by decide) (by decide) (by decide) (by decide) (by decide)

theorem o00_eq (i : Fin 64) (e : Fin 128) (r : Fin 256) (z : Fin 512) (hr : r.val = 192 + i.val) (hz : z.val = 0 + e.val) :
    Cert.ReferenceIdeal.Step.R_main_v189 (Ref.it u 68) (ix2 (pr r) z) = o00 x0 x1 x2 x3 x4 x5 x6 S i e := by
  unfold o00
  rw [hS 0]
  exact o_step B 0 192 0 0 0 (by decide) (by decide) (by decide) (by decide) (by decide) (by decide) i e r z hr hz

theorem o01_eq (i : Fin 64) (e : Fin 128) (r : Fin 256) (z : Fin 512) (hr : r.val = 192 + i.val) (hz : z.val = 128 + e.val) :
    Cert.ReferenceIdeal.Step.R_main_v189 (Ref.it u 68) (ix2 (pr r) z) = o01 x0 x1 x2 x3 x4 x5 x6 S i e := by
  unfold o01
  rw [hS 1]
  exact o_step B 0 192 64 128 1 (by decide) (by decide) (by decide) (by decide) (by decide) (by decide) i e r z hr hz

theorem o02_eq (i : Fin 64) (e : Fin 128) (r : Fin 256) (z : Fin 512) (hr : r.val = 192 + i.val) (hz : z.val = 256 + e.val) :
    Cert.ReferenceIdeal.Step.R_main_v189 (Ref.it u 68) (ix2 (pr r) z) = o02 x0 x1 x2 x3 x4 x5 x6 S i e := by
  unfold o02
  rw [hS 2]
  exact o_step B 0 192 128 256 2 (by decide) (by decide) (by decide) (by decide) (by decide) (by decide) i e r z hr hz

theorem o03_eq (i : Fin 64) (e : Fin 128) (r : Fin 256) (z : Fin 512) (hr : r.val = 192 + i.val) (hz : z.val = 384 + e.val) :
    Cert.ReferenceIdeal.Step.R_main_v189 (Ref.it u 68) (ix2 (pr r) z) = o03 x0 x1 x2 x3 x4 x5 x6 S i e := by
  unfold o03
  rw [hS 3]
  exact o_step B 0 192 192 384 3 (by decide) (by decide) (by decide) (by decide) (by decide) (by decide) i e r z hr hz

theorem o10_eq (i : Fin 64) (e : Fin 128) (r : Fin 256) (z : Fin 512) (hr : r.val = 128 + i.val) (hz : z.val = 0 + e.val) :
    Cert.ReferenceIdeal.Step.R_main_v189 (Ref.it u 68) (ix2 (pr r) z) = o10 x0 x1 x2 x3 x4 x5 x6 x7 S i e := by
  unfold o10
  rw [s10_eq B hS]
  exact o_step B 1 128 0 0 0 (by decide) (by decide) (by decide) (by decide) (by decide) (by decide) i e r z hr hz

theorem o11_eq (i : Fin 64) (e : Fin 128) (r : Fin 256) (z : Fin 512) (hr : r.val = 128 + i.val) (hz : z.val = 128 + e.val) :
    Cert.ReferenceIdeal.Step.R_main_v189 (Ref.it u 68) (ix2 (pr r) z) = o11 x0 x1 x2 x3 x4 x5 x6 x7 S i e := by
  unfold o11
  rw [s11_eq B hS]
  exact o_step B 1 128 64 128 1 (by decide) (by decide) (by decide) (by decide) (by decide) (by decide) i e r z hr hz

theorem o12_eq (i : Fin 64) (e : Fin 128) (r : Fin 256) (z : Fin 512) (hr : r.val = 128 + i.val) (hz : z.val = 256 + e.val) :
    Cert.ReferenceIdeal.Step.R_main_v189 (Ref.it u 68) (ix2 (pr r) z) = o12 x0 x1 x2 x3 x4 x5 x6 x7 S i e := by
  unfold o12
  rw [s12_eq B hS]
  exact o_step B 1 128 128 256 2 (by decide) (by decide) (by decide) (by decide) (by decide) (by decide) i e r z hr hz

theorem o13_eq (i : Fin 64) (e : Fin 128) (r : Fin 256) (z : Fin 512) (hr : r.val = 128 + i.val) (hz : z.val = 384 + e.val) :
    Cert.ReferenceIdeal.Step.R_main_v189 (Ref.it u 68) (ix2 (pr r) z) = o13 x0 x1 x2 x3 x4 x5 x6 x7 S i e := by
  unfold o13
  rw [s13_eq B hS]
  exact o_step B 1 128 192 384 3 (by decide) (by decide) (by decide) (by decide) (by decide) (by decide) i e r z hr hz

theorem o20_eq (i : Fin 64) (e : Fin 128) (r : Fin 256) (z : Fin 512) (hr : r.val = 64 + i.val) (hz : z.val = 0 + e.val) :
    Cert.ReferenceIdeal.Step.R_main_v189 (Ref.it u 68) (ix2 (pr r) z) = o20 x0 x1 x2 x3 x4 x5 x6 x7 S i e := by
  unfold o20
  rw [s20_eq B hS]
  exact o_step B 2 64 0 0 0 (by decide) (by decide) (by decide) (by decide) (by decide) (by decide) i e r z hr hz

theorem o21_eq (i : Fin 64) (e : Fin 128) (r : Fin 256) (z : Fin 512) (hr : r.val = 64 + i.val) (hz : z.val = 128 + e.val) :
    Cert.ReferenceIdeal.Step.R_main_v189 (Ref.it u 68) (ix2 (pr r) z) = o21 x0 x1 x2 x3 x4 x5 x6 x7 S i e := by
  unfold o21
  rw [s21_eq B hS]
  exact o_step B 2 64 64 128 1 (by decide) (by decide) (by decide) (by decide) (by decide) (by decide) i e r z hr hz

theorem o22_eq (i : Fin 64) (e : Fin 128) (r : Fin 256) (z : Fin 512) (hr : r.val = 64 + i.val) (hz : z.val = 256 + e.val) :
    Cert.ReferenceIdeal.Step.R_main_v189 (Ref.it u 68) (ix2 (pr r) z) = o22 x0 x1 x2 x3 x4 x5 x6 x7 S i e := by
  unfold o22
  rw [s22_eq B hS]
  exact o_step B 2 64 128 256 2 (by decide) (by decide) (by decide) (by decide) (by decide) (by decide) i e r z hr hz

theorem o23_eq (i : Fin 64) (e : Fin 128) (r : Fin 256) (z : Fin 512) (hr : r.val = 64 + i.val) (hz : z.val = 384 + e.val) :
    Cert.ReferenceIdeal.Step.R_main_v189 (Ref.it u 68) (ix2 (pr r) z) = o23 x0 x1 x2 x3 x4 x5 x6 x7 S i e := by
  unfold o23
  rw [s23_eq B hS]
  exact o_step B 2 64 192 384 3 (by decide) (by decide) (by decide) (by decide) (by decide) (by decide) i e r z hr hz

theorem o30_eq (i : Fin 64) (e : Fin 128) (r : Fin 256) (z : Fin 512) (hr : r.val = 0 + i.val) (hz : z.val = 0 + e.val) :
    Cert.ReferenceIdeal.Step.R_main_v189 (Ref.it u 68) (ix2 (pr r) z) = o30 x0 x1 x2 x3 x4 x5 x6 x7 S i e := by
  unfold o30
  rw [s30_eq B hS]
  exact o_step B 3 0 0 0 0 (by decide) (by decide) (by decide) (by decide) (by decide) (by decide) i e r z hr hz

theorem o31_eq (i : Fin 64) (e : Fin 128) (r : Fin 256) (z : Fin 512) (hr : r.val = 0 + i.val) (hz : z.val = 128 + e.val) :
    Cert.ReferenceIdeal.Step.R_main_v189 (Ref.it u 68) (ix2 (pr r) z) = o31 x0 x1 x2 x3 x4 x5 x6 x7 S i e := by
  unfold o31
  rw [s31_eq B hS]
  exact o_step B 3 0 64 128 1 (by decide) (by decide) (by decide) (by decide) (by decide) (by decide) i e r z hr hz

theorem o32_eq (i : Fin 64) (e : Fin 128) (r : Fin 256) (z : Fin 512) (hr : r.val = 0 + i.val) (hz : z.val = 256 + e.val) :
    Cert.ReferenceIdeal.Step.R_main_v189 (Ref.it u 68) (ix2 (pr r) z) = o32 x0 x1 x2 x3 x4 x5 x6 x7 S i e := by
  unfold o32
  rw [s32_eq B hS]
  exact o_step B 3 0 128 256 2 (by decide) (by decide) (by decide) (by decide) (by decide) (by decide) i e r z hr hz

theorem o33_eq (i : Fin 64) (e : Fin 128) (r : Fin 256) (z : Fin 512) (hr : r.val = 0 + i.val) (hz : z.val = 384 + e.val) :
    Cert.ReferenceIdeal.Step.R_main_v189 (Ref.it u 68) (ix2 (pr r) z) = o33 x0 x1 x2 x3 x4 x5 x6 x7 S i e := by
  unfold o33
  rw [s33_eq B hS]
  exact o_step B 3 0 192 384 3 (by decide) (by decide) (by decide) (by decide) (by decide) (by decide) i e r z hr hz

end

end Cert.Proof.Ret.Ker

end
-- ==== Proof.RetKerOutA.lean ====
/-
  The output block of a sequence's first grid point.
-/
module

public import proofs.«01_k».proof.Proof.RetKerDefs

@[expose] public section

noncomputable section

namespace Cert.Proof.Ret.Ker

open Cert.KernelIdeal Cert.KernelIdeal.Gen Cert.KernelIdeal.Value Idealize.ShloMosaic Idealize.ShloMosaic.TcCoe Idealize.SL.Sem
open Idealize.ShloMosaic.Pipeline

variable (m : (ℓ : Loc nD τ sig) → Buf (Elt Ideal) ℓ) (c : Dev nD)

set_option maxHeartbeats 8000000 in
/-- The point's output block, from an empty state. -/
theorem outA (t : Fin cfg0.N) (h0 : t.val % 17 = 0) (y : S256x512.Idx) (G : Fin 256 → Fin 512 → EReal)
    (x0 x1 x2 : FVec Ideal S256x512 .bf16) (x3 x4 : FVec Ideal S256x512 .f32) (x5 : FVec Ideal S4x64x64 .f32) (x6 x7 : FVec Ideal S64x256 .f32)
    (e0 : iblk m c 0 t = x0) (e1 : iblk m c 1 t = x1) (e2 : iblk m c 2 t = x2) (e3 : iblk m c 3 t = x3) (e4 : iblk m c 4 t = x4)
    (e5 : iblk m c 5 t = x5) (e6 : iblk m c 6 t = x6) (e7 : iblk m c 7 t = x7) (S : Fin 4 → Fin 64 → Fin 128 → EReal)
    (hS : S = fun _ _ _ => 0)
    (g00 : ∀ (i : Fin 64) (e : Fin 128) (r : Fin 256) (z : Fin 512), r.val = 192 + i.val → z.val = 0 + e.val → G r z = o00 x0 x1 x2 x3 x4 x5 x6 S i e)
    (g01 : ∀ (i : Fin 64) (e : Fin 128) (r : Fin 256) (z : Fin 512), r.val = 192 + i.val → z.val = 128 + e.val → G r z = o01 x0 x1 x2 x3 x4 x5 x6 S i e)
    (g02 : ∀ (i : Fin 64) (e : Fin 128) (r : Fin 256) (z : Fin 512), r.val = 192 + i.val → z.val = 256 + e.val → G r z = o02 x0 x1 x2 x3 x4 x5 x6 S i e)
    (g03 : ∀ (i : Fin 64) (e : Fin 128) (r : Fin 256) (z : Fin 512), r.val = 192 + i.val → z.val = 384 + e.val → G r z = o03 x0 x1 x2 x3 x4 x5 x6 S i e)
    (g10 : ∀ (i : Fin 64) (e : Fin 128) (r : Fin 256) (z : Fin 512), r.val = 128 + i.val → z.val = 0 + e.val → G r z = o10 x0 x1 x2 x3 x4 x5 x6 x7 S i e)
    (g11 : ∀ (i : Fin 64) (e : Fin 128) (r : Fin 256) (z : Fin 512), r.val = 128 + i.val → z.val = 128 + e.val → G r z = o11 x0 x1 x2 x3 x4 x5 x6 x7 S i e)
    (g12 : ∀ (i : Fin 64) (e : Fin 128) (r : Fin 256) (z : Fin 512), r.val = 128 + i.val → z.val = 256 + e.val → G r z = o12 x0 x1 x2 x3 x4 x5 x6 x7 S i e)
    (g13 : ∀ (i : Fin 64) (e : Fin 128) (r : Fin 256) (z : Fin 512), r.val = 128 + i.val → z.val = 384 + e.val → G r z = o13 x0 x1 x2 x3 x4 x5 x6 x7 S i e)
    (g20 : ∀ (i : Fin 64) (e : Fin 128) (r : Fin 256) (z : Fin 512), r.val = 64 + i.val → z.val = 0 + e.val → G r z = o20 x0 x1 x2 x3 x4 x5 x6 x7 S i e)
    (g21 : ∀ (i : Fin 64) (e : Fin 128) (r : Fin 256) (z : Fin 512), r.val = 64 + i.val → z.val = 128 + e.val → G r z = o21 x0 x1 x2 x3 x4 x5 x6 x7 S i e)
    (g22 : ∀ (i : Fin 64) (e : Fin 128) (r : Fin 256) (z : Fin 512), r.val = 64 + i.val → z.val = 256 + e.val → G r z = o22 x0 x1 x2 x3 x4 x5 x6 x7 S i e)
    (g23 : ∀ (i : Fin 64) (e : Fin 128) (r : Fin 256) (z : Fin 512), r.val = 64 + i.val → z.val = 384 + e.val → G r z = o23 x0 x1 x2 x3 x4 x5 x6 x7 S i e)
    (g30 : ∀ (i : Fin 64) (e : Fin 128) (r : Fin 256) (z : Fin 512), r.val = 0 + i.val → z.val = 0 + e.val → G r z = o30 x0 x1 x2 x3 x4 x5 x6 x7 S i e)
    (g31 : ∀ (i : Fin 64) (e : Fin 128) (r : Fin 256) (z : Fin 512), r.val = 0 + i.val → z.val = 128 + e.val → G r z = o31 x0 x1 x2 x3 x4 x5 x6 x7 S i e)
    (g32 : ∀ (i : Fin 64) (e : Fin 128) (r : Fin 256) (z : Fin 512), r.val = 0 + i.val → z.val = 256 + e.val → G r z = o32 x0 x1 x2 x3 x4 x5 x6 x7 S i e)
    (g33 : ∀ (i : Fin 64) (e : Fin 128) (r : Fin 256) (z : Fin 512), r.val = 0 + i.val → z.val = 384 + e.val → G r z = o33 x0 x1 x2 x3 x4 x5 x6 x7 S i e)
    : (outsAt0 m c t.val t.isLt).1 y = G (y 0) (y 1) := by
  rw [outsAt0_A m c t h0, e0, e1, e2, e3, e4, e5, e6, e7]
  clear e0 e1 e2 e3 e4 e5 e6 e7
  frame_out
  simp only [readCov_zero]
  canon_tiles x h
  · refine Eq.trans ?_ (g33 (x 0) (x 1) (y 0) (y 1) (h0.trans (Nat.zero_add _).symm) h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g32 (x 0) (x 1) (y 0) (y 1) (h0.trans (Nat.zero_add _).symm) h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g31 (x 0) (x 1) (y 0) (y 1) (h0.trans (Nat.zero_add _).symm) h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g30 (x 0) (x 1) (y 0) (y 1) (h0.trans (Nat.zero_add _).symm) (h1.trans (Nat.zero_add _).symm)).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g23 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g22 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g21 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g20 (x 0) (x 1) (y 0) (y 1) h0 (h1.trans (Nat.zero_add _).symm)).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g13 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g12 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g11 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g10 (x 0) (x 1) (y 0) (y 1) h0 (h1.trans (Nat.zero_add _).symm)).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g03 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g02 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g01 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g00 (x 0) (x 1) (y 0) (y 1) h0 (h1.trans (Nat.zero_add _).symm)).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]

end Cert.Proof.Ret.Ker

end
-- ==== Proof.RetKerOutB.lean ====
/-
  The output block of a later grid point.
-/
module

public import proofs.«01_k».proof.Proof.RetKerDefs

@[expose] public section

noncomputable section

namespace Cert.Proof.Ret.Ker

open Cert.KernelIdeal Cert.KernelIdeal.Gen Cert.KernelIdeal.Value Idealize.ShloMosaic Idealize.ShloMosaic.TcCoe Idealize.SL.Sem
open Idealize.ShloMosaic.Pipeline

variable (m : (ℓ : Loc nD τ sig) → Buf (Elt Ideal) ℓ) (c : Dev nD)

set_option maxHeartbeats 8000000 in
/-- The point's output block, from the state the point before left. -/
theorem outB (t : Fin cfg0.N) (h0 : ¬ t.val % 17 = 0) (y : S256x512.Idx) (G : Fin 256 → Fin 512 → EReal)
    (x0 x1 x2 : FVec Ideal S256x512 .bf16) (x3 x4 : FVec Ideal S256x512 .f32) (x5 : FVec Ideal S4x64x64 .f32) (x6 x7 : FVec Ideal S64x256 .f32)
    (e0 : iblk m c 0 t = x0) (e1 : iblk m c 1 t = x1) (e2 : iblk m c 2 t = x2) (e3 : iblk m c 3 t = x3) (e4 : iblk m c 4 t = x4)
    (e5 : iblk m c 5 t = x5) (e6 : iblk m c 6 t = x6) (e7 : iblk m c 7 t = x7) (S : Fin 4 → Fin 64 → Fin 128 → EReal)
    (X : FVec Ideal S4x64x128 .f32) (hX : (outsAt0 m c (t.val - 1) (Nat.lt_of_le_of_lt (Nat.sub_le _ _) t.isLt)).2 = X)
    (hS : S = fun h d e => X (ix3 h d e))
    (g00 : ∀ (i : Fin 64) (e : Fin 128) (r : Fin 256) (z : Fin 512), r.val = 192 + i.val → z.val = 0 + e.val → G r z = o00 x0 x1 x2 x3 x4 x5 x6 S i e)
    (g01 : ∀ (i : Fin 64) (e : Fin 128) (r : Fin 256) (z : Fin 512), r.val = 192 + i.val → z.val = 128 + e.val → G r z = o01 x0 x1 x2 x3 x4 x5 x6 S i e)
    (g02 : ∀ (i : Fin 64) (e : Fin 128) (r : Fin 256) (z : Fin 512), r.val = 192 + i.val → z.val = 256 + e.val → G r z = o02 x0 x1 x2 x3 x4 x5 x6 S i e)
    (g03 : ∀ (i : Fin 64) (e : Fin 128) (r : Fin 256) (z : Fin 512), r.val = 192 + i.val → z.val = 384 + e.val → G r z = o03 x0 x1 x2 x3 x4 x5 x6 S i e)
    (g10 : ∀ (i : Fin 64) (e : Fin 128) (r : Fin 256) (z : Fin 512), r.val = 128 + i.val → z.val = 0 + e.val → G r z = o10 x0 x1 x2 x3 x4 x5 x6 x7 S i e)
    (g11 : ∀ (i : Fin 64) (e : Fin 128) (r : Fin 256) (z : Fin 512), r.val = 128 + i.val → z.val = 128 + e.val → G r z = o11 x0 x1 x2 x3 x4 x5 x6 x7 S i e)
    (g12 : ∀ (i : Fin 64) (e : Fin 128) (r : Fin 256) (z : Fin 512), r.val = 128 + i.val → z.val = 256 + e.val → G r z = o12 x0 x1 x2 x3 x4 x5 x6 x7 S i e)
    (g13 : ∀ (i : Fin 64) (e : Fin 128) (r : Fin 256) (z : Fin 512), r.val = 128 + i.val → z.val = 384 + e.val → G r z = o13 x0 x1 x2 x3 x4 x5 x6 x7 S i e)
    (g20 : ∀ (i : Fin 64) (e : Fin 128) (r : Fin 256) (z : Fin 512), r.val = 64 + i.val → z.val = 0 + e.val → G r z = o20 x0 x1 x2 x3 x4 x5 x6 x7 S i e)
    (g21 : ∀ (i : Fin 64) (e : Fin 128) (r : Fin 256) (z : Fin 512), r.val = 64 + i.val → z.val = 128 + e.val → G r z = o21 x0 x1 x2 x3 x4 x5 x6 x7 S i e)
    (g22 : ∀ (i : Fin 64) (e : Fin 128) (r : Fin 256) (z : Fin 512), r.val = 64 + i.val → z.val = 256 + e.val → G r z = o22 x0 x1 x2 x3 x4 x5 x6 x7 S i e)
    (g23 : ∀ (i : Fin 64) (e : Fin 128) (r : Fin 256) (z : Fin 512), r.val = 64 + i.val → z.val = 384 + e.val → G r z = o23 x0 x1 x2 x3 x4 x5 x6 x7 S i e)
    (g30 : ∀ (i : Fin 64) (e : Fin 128) (r : Fin 256) (z : Fin 512), r.val = 0 + i.val → z.val = 0 + e.val → G r z = o30 x0 x1 x2 x3 x4 x5 x6 x7 S i e)
    (g31 : ∀ (i : Fin 64) (e : Fin 128) (r : Fin 256) (z : Fin 512), r.val = 0 + i.val → z.val = 128 + e.val → G r z = o31 x0 x1 x2 x3 x4 x5 x6 x7 S i e)
    (g32 : ∀ (i : Fin 64) (e : Fin 128) (r : Fin 256) (z : Fin 512), r.val = 0 + i.val → z.val = 256 + e.val → G r z = o32 x0 x1 x2 x3 x4 x5 x6 x7 S i e)
    (g33 : ∀ (i : Fin 64) (e : Fin 128) (r : Fin 256) (z : Fin 512), r.val = 0 + i.val → z.val = 384 + e.val → G r z = o33 x0 x1 x2 x3 x4 x5 x6 x7 S i e)
    : (outsAt0 m c t.val t.isLt).1 y = G (y 0) (y 1) := by
  rw [outsAt0_B m c t h0, e0, e1, e2, e3, e4, e5, e6, e7, hX]
  clear e0 e1 e2 e3 e4 e5 e6 e7 hX
  frame_out
  simp only [read_unread_whole]
  canon_tiles x h
  · refine Eq.trans ?_ (g33 (x 0) (x 1) (y 0) (y 1) (h0.trans (Nat.zero_add _).symm) h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g32 (x 0) (x 1) (y 0) (y 1) (h0.trans (Nat.zero_add _).symm) h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g31 (x 0) (x 1) (y 0) (y 1) (h0.trans (Nat.zero_add _).symm) h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g30 (x 0) (x 1) (y 0) (y 1) (h0.trans (Nat.zero_add _).symm) (h1.trans (Nat.zero_add _).symm)).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g23 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g22 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g21 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g20 (x 0) (x 1) (y 0) (y 1) h0 (h1.trans (Nat.zero_add _).symm)).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g13 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g12 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g11 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g10 (x 0) (x 1) (y 0) (y 1) h0 (h1.trans (Nat.zero_add _).symm)).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g03 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g02 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g01 (x 0) (x 1) (y 0) (y 1) h0 h1).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · refine Eq.trans ?_ (g00 (x 0) (x 1) (y 0) (y 1) h0 (h1.trans (Nat.zero_add _).symm)).symm
    subst hS
    clear g00 g01 g02 g03 g10 g11 g12 g13 g20 g21 g22 g23 g30 g31 g32 g33 h0 h1 x0_lt x1_lt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]

end Cert.Proof.Ret.Ker

end
-- ==== Proof.RetKerState.lean ====
/-
  The state a grid point leaves.
-/
module

public import proofs.«01_k».proof.Proof.RetKerDefs

@[expose] public section

noncomputable section

namespace Cert.Proof.Ret.Ker

open Cert.KernelIdeal Cert.KernelIdeal.Gen Cert.KernelIdeal.Value Idealize.ShloMosaic Idealize.ShloMosaic.TcCoe Idealize.SL.Sem
open Idealize.ShloMosaic.Pipeline

variable (m : (ℓ : Loc nD τ sig) → Buf (Elt Ideal) ℓ) (c : Dev nD)

set_option maxHeartbeats 8000000 in
/-- The state the point leaves, from an empty state. -/
theorem stA (t : Fin cfg0.N) (h0 : t.val % 17 = 0) (y : S4x64x128.Idx) (G : S4x64x128.Idx → EReal)
    (x0 x1 x2 : FVec Ideal S256x512 .bf16) (x3 x4 : FVec Ideal S256x512 .f32) (x7 : FVec Ideal S64x256 .f32)
    (e0 : iblk m c 0 t = x0) (e1 : iblk m c 1 t = x1) (e2 : iblk m c 2 t = x2) (e3 : iblk m c 3 t = x3) (e4 : iblk m c 4 t = x4)
    (e7 : iblk m c 7 t = x7) (S : Fin 4 → Fin 64 → Fin 128 → EReal)
    (hS : S = fun _ _ _ => 0)
    (g0 : ∀ (i : Fin 64) (e : Fin 128), G (ix3 0 i e) = s40 x0 x1 x2 x3 x4 x7 S i e)
    (g1 : ∀ (i : Fin 64) (e : Fin 128), G (ix3 1 i e) = s41 x0 x1 x2 x3 x4 x7 S i e)
    (g2 : ∀ (i : Fin 64) (e : Fin 128), G (ix3 2 i e) = s42 x0 x1 x2 x3 x4 x7 S i e)
    (g3 : ∀ (i : Fin 64) (e : Fin 128), G (ix3 3 i e) = s43 x0 x1 x2 x3 x4 x7 S i e)
    : (outsAt0 m c t.val t.isLt).2 y = G y := by
  rw [outsAt0_A m c t h0, e0, e1, e2, e3, e4, e7]
  clear e0 e1 e2 e3 e4 e7
  frame_out
  simp only [readCov_zero]
  refine (canon_app [_, _, _, _] [_] y (View.cover_of_tiled_head _ _ _ (by rfl) y)).trans ?_
  canon_tiles x h
  · have hx0 : (x 0).val = 0 := by omega
    have hy : y = ix3 3 (x 1) (x 2) := by
      rw [eq_ix3 y]; exact congr (congrArg₂ ix3 (Fin.ext (h0.trans (by rw [hx0]; rfl))) (Fin.ext h1)) (Fin.ext h2)
    refine Eq.trans ?_ ((congrArg G hy).trans (g3 (x 1) (x 2))).symm
    subst hS
    clear g0 g1 g2 g3 h0 h1 h2 hx0 x0_lt x1_lt x2_lt hy
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · have hx0 : (x 0).val = 0 := by omega
    have hy : y = ix3 2 (x 1) (x 2) := by
      rw [eq_ix3 y]; exact congr (congrArg₂ ix3 (Fin.ext (h0.trans (by rw [hx0]; rfl))) (Fin.ext h1)) (Fin.ext h2)
    refine Eq.trans ?_ ((congrArg G hy).trans (g2 (x 1) (x 2))).symm
    subst hS
    clear g0 g1 g2 g3 h0 h1 h2 hx0 x0_lt x1_lt x2_lt hy
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · have hx0 : (x 0).val = 0 := by omega
    have hy : y = ix3 1 (x 1) (x 2) := by
      rw [eq_ix3 y]; exact congr (congrArg₂ ix3 (Fin.ext (h0.trans (by rw [hx0]; rfl))) (Fin.ext h1)) (Fin.ext h2)
    refine Eq.trans ?_ ((congrArg G hy).trans (g1 (x 1) (x 2))).symm
    subst hS
    clear g0 g1 g2 g3 h0 h1 h2 hx0 x0_lt x1_lt x2_lt hy
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · have hx0 : (x 0).val = 0 := by omega
    have hy : y = ix3 0 (x 1) (x 2) := by
      rw [eq_ix3 y]; exact congr (congrArg₂ ix3 (Fin.ext (h0.trans (by rw [hx0]; rfl))) (Fin.ext h1)) (Fin.ext h2)
    refine Eq.trans ?_ ((congrArg G hy).trans (g0 (x 1) (x 2))).symm
    subst hS
    clear g0 g1 g2 g3 h0 h1 h2 hx0 x0_lt x1_lt x2_lt hy
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]

set_option maxHeartbeats 8000000 in
/-- The state the point leaves, from the state the point before left. -/
theorem stB (t : Fin cfg0.N) (h0 : ¬ t.val % 17 = 0) (y : S4x64x128.Idx) (G : S4x64x128.Idx → EReal)
    (x0 x1 x2 : FVec Ideal S256x512 .bf16) (x3 x4 : FVec Ideal S256x512 .f32) (x7 : FVec Ideal S64x256 .f32)
    (e0 : iblk m c 0 t = x0) (e1 : iblk m c 1 t = x1) (e2 : iblk m c 2 t = x2) (e3 : iblk m c 3 t = x3) (e4 : iblk m c 4 t = x4)
    (e7 : iblk m c 7 t = x7) (S : Fin 4 → Fin 64 → Fin 128 → EReal)
    (X : FVec Ideal S4x64x128 .f32) (hX : (outsAt0 m c (t.val - 1) (Nat.lt_of_le_of_lt (Nat.sub_le _ _) t.isLt)).2 = X)
    (hS : S = fun h d e => X (ix3 h d e))
    (g0 : ∀ (i : Fin 64) (e : Fin 128), G (ix3 0 i e) = s40 x0 x1 x2 x3 x4 x7 S i e)
    (g1 : ∀ (i : Fin 64) (e : Fin 128), G (ix3 1 i e) = s41 x0 x1 x2 x3 x4 x7 S i e)
    (g2 : ∀ (i : Fin 64) (e : Fin 128), G (ix3 2 i e) = s42 x0 x1 x2 x3 x4 x7 S i e)
    (g3 : ∀ (i : Fin 64) (e : Fin 128), G (ix3 3 i e) = s43 x0 x1 x2 x3 x4 x7 S i e)
    : (outsAt0 m c t.val t.isLt).2 y = G y := by
  rw [outsAt0_B m c t h0, e0, e1, e2, e3, e4, e7, hX]
  clear e0 e1 e2 e3 e4 e7 hX
  frame_out
  simp only [read_unread_whole]
  canon_tiles x h
  · have hx0 : (x 0).val = 0 := by omega
    have hy : y = ix3 3 (x 1) (x 2) := by
      rw [eq_ix3 y]; exact congr (congrArg₂ ix3 (Fin.ext (h0.trans (by rw [hx0]; rfl))) (Fin.ext h1)) (Fin.ext h2)
    refine Eq.trans ?_ ((congrArg G hy).trans (g3 (x 1) (x 2))).symm
    subst hS
    clear g0 g1 g2 g3 h0 h1 h2 hx0 x0_lt x1_lt x2_lt hy
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · have hx0 : (x 0).val = 0 := by omega
    have hy : y = ix3 2 (x 1) (x 2) := by
      rw [eq_ix3 y]; exact congr (congrArg₂ ix3 (Fin.ext (h0.trans (by rw [hx0]; rfl))) (Fin.ext h1)) (Fin.ext h2)
    refine Eq.trans ?_ ((congrArg G hy).trans (g2 (x 1) (x 2))).symm
    subst hS
    clear g0 g1 g2 g3 h0 h1 h2 hx0 x0_lt x1_lt x2_lt hy
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · have hx0 : (x 0).val = 0 := by omega
    have hy : y = ix3 1 (x 1) (x 2) := by
      rw [eq_ix3 y]; exact congr (congrArg₂ ix3 (Fin.ext (h0.trans (by rw [hx0]; rfl))) (Fin.ext h1)) (Fin.ext h2)
    refine Eq.trans ?_ ((congrArg G hy).trans (g1 (x 1) (x 2))).symm
    subst hS
    clear g0 g1 g2 g3 h0 h1 h2 hx0 x0_lt x1_lt x2_lt hy
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]
  · have hx0 : (x 0).val = 0 := by omega
    have hy : y = ix3 0 (x 1) (x 2) := by
      rw [eq_ix3 y]; exact congr (congrArg₂ ix3 (Fin.ext (h0.trans (by rw [hx0]; rfl))) (Fin.ext h1)) (Fin.ext h2)
    refine Eq.trans ?_ ((congrArg G hy).trans (g0 (x 1) (x 2))).symm
    subst hS
    clear g0 g1 g2 g3 h0 h1 h2 hx0 x0_lt x1_lt x2_lt hy
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, P, qK, kK, vK, wK, mK, kvG, outG, sG, a0, a1, a2, a3, s10, s11, s12, s13, s20, s21, s22, s23, s30, s31, s32, s33, s40, s41, s42, s43, o00, o01, o02, o03, o10, o11, o12, o13, o20, o21, o22, o23, o30, o31, o32, o33]

end Cert.Proof.Ret.Ker

end
-- ==== Proof.RetKerAll.lean ====
/-
  The retention kernel's result array is the reference's: the state carried through a sequence's grid points is the
  recurrence's, so every block the kernel writes holds the reference's output.
-/
module

public import proofs.«01_k».proof.Proof.RetKerBlk
public import proofs.«01_k».proof.Proof.RetKerPt
public import proofs.«01_k».proof.Proof.RetKerOutA
public import proofs.«01_k».proof.Proof.RetKerOutB
public import proofs.«01_k».proof.Proof.RetKerState

@[expose] public section

noncomputable section

namespace Cert.Proof.Ret.Ker

open Cert.KernelIdeal Cert.KernelIdeal.Gen Cert.KernelIdeal.Value Idealize.ShloMosaic Idealize.ShloMosaic.TcCoe Idealize.SL.Sem
open Idealize.ShloMosaic.Pipeline

variable (m : (ℓ : Loc nD τ sig) → Buf (Elt Ideal) ℓ) (c : Dev nD)

set_option maxHeartbeats 8000000

/-- The blocks of the point of sequence `b` and four chunks `j`. -/
theorem blkOf (t : Fin cfg0.N) (b : Fin 8) (j : ℕ) (hj : j < 17) (ht : t.val = 17 * b.val + j) :
    Blk (m ((c.tc : Thread nD τ).loc main_arg0)) b j (prow t) (qrow t) (iblk m c 0 t) (iblk m c 1 t) (iblk m c 2 t) (iblk m c 3 t) (iblk m c 4 t) (iblk m c 5 t) (iblk m c 6 t) (iblk m c 7 t) where
  lt := hj
  e0 := blk0 m c t
  e1 := blk1 m c t
  e2 := blk2 m c t
  e3 := blk3 m c t
  e4 := blk4 m c t
  e5 := blk5 m c t
  e6 := blk6 m c t
  e7 := blk7 m c t
  rl := by
    intro k o hn hok i r hr
    have hm : t.val % 17 = j := by omega
    have hd : t.val / 17 = b.val := by omega
    have hi := i.isLt
    have hv : (tim ⟨4 * j + k, hn⟩ i.rev).val = (4 * j + k) * 64 + (64 - (i.val + 1)) := by simp only [tim, Fin.val_rev]
    have e1 : (prow t r).val = 256 * rb t.val + r.val := rfl
    have e2 : rb t.val = if j = 0 then 128 + b.val else 16 * b.val + (16 - j) := by rw [rb, hm, hd]
    refine Fin.ext ?_
    rw [e1, e2]
    by_cases h0 : j = 0
    · have hlt : (tim ⟨4 * j + k, hn⟩ i.rev).val < 256 := by omega
      have e3 : (lrow b (tim ⟨4 * j + k, hn⟩ i.rev)).val = 32768 + (b.val * 256 + (255 - (tim ⟨4 * j + k, hn⟩ i.rev).val)) := by rw [lrow, dif_pos hlt]
      rw [if_pos h0, e3, hv]
      omega
    · have hlt : ¬ (tim ⟨4 * j + k, hn⟩ i.rev).val < 256 := by omega
      have e3 : (lrow b (tim ⟨4 * j + k, hn⟩ i.rev)).val = b.val * 4096 + (4351 - (tim ⟨4 * j + k, hn⟩ i.rev).val) := by rw [lrow, dif_neg hlt]
      rw [if_neg h0, e3, hv]
      omega
  rt := by
    intro k o hn hok i r hr
    have hm : t.val % 17 = j := by omega
    have hi := i.isLt
    have hv : (tim ⟨4 * j + k, hn⟩ i.rev).val = (4 * j + k) * 64 + (64 - (i.val + 1)) := by simp only [tim, Fin.val_rev]
    have e1 : (qrow t r).val = 256 * tb t.val + r.val := rfl
    have e2 : tb t.val = if j = 0 then 0 else 1 + (16 - j) := by rw [tb, hm]
    refine Fin.ext ?_
    rw [e1, e2]
    by_cases h0 : j = 0
    · have hlt : (tim ⟨4 * j + k, hn⟩ i.rev).val < 256 := by omega
      have e3 : (trow (tim ⟨4 * j + k, hn⟩ i.rev)).val = 255 - (tim ⟨4 * j + k, hn⟩ i.rev).val := by rw [trow, dif_pos hlt]
      rw [if_pos h0, e3, hv]
      omega
    · have hlt : ¬ (tim ⟨4 * j + k, hn⟩ i.rev).val < 256 := by omega
      have e3 : (trow (tim ⟨4 * j + k, hn⟩ i.rev)).val = 4607 - (tim ⟨4 * j + k, hn⟩ i.rev).val := by rw [trow, dif_neg hlt]
      rw [if_neg h0, e3, hv]
      omega

/-- The scratch after a point named by another number. -/
theorem sc_cast (n n' : ℕ) (h : n < cfg0.N) (h' : n' < cfg0.N) (e : n = n') : (outsAt0 m c n h).2 = (outsAt0 m c n' h').2 := by
  subst e
  rfl

/-- The carried scratch after a point: the recurrence's state after the point's four chunks. -/
theorem held (b : Fin 8) (j : ℕ) (hj : j < 17) : ∀ (t : Fin cfg0.N) (ht : t.val = 17 * b.val + j) (h : Fin 4) (d : Fin 64) (e : Fin 128),
    (outsAt0 m c t.val t.isLt).2 (ix3 h d e) = st ((lr h : ℝ) : EReal) (Ref.kn (m ((c.tc : Thread nD τ).loc main_arg0)) b h) (Ref.vn (m ((c.tc : Thread nD τ).loc main_arg0)) b h) (4 * j + 4) d e := by
  induction j with
  | zero =>
    intro t ht h d e
    have B := blkOf m c t b 0 hj ht
    have hS : ∀ h : Fin 4, (fun _ _ _ => 0 : Fin 4 → Fin 64 → Fin 128 → EReal) h = st ((lr h : ℝ) : EReal) (Ref.kn (m ((c.tc : Thread nD τ).loc main_arg0)) b h) (Ref.vn (m ((c.tc : Thread nD τ).loc main_arg0)) b h) (4 * 0) := fun h => rfl
    exact stA m c t (by omega) (ix3 h d e) (fun y => st ((lr (y 0) : ℝ) : EReal) (Ref.kn (m ((c.tc : Thread nD τ).loc main_arg0)) b (y 0)) (Ref.vn (m ((c.tc : Thread nD τ).loc main_arg0)) b (y 0)) (4 * 0 + 4) (y 1) (y 2))
      (iblk m c 0 t) (iblk m c 1 t) (iblk m c 2 t) (iblk m c 3 t) (iblk m c 4 t) (iblk m c 7 t) rfl rfl rfl rfl rfl rfl (fun _ _ _ => 0) rfl
        (fun i e => (congrFun (congrFun (s40_eq B hS) i) e).symm)
        (fun i e => (congrFun (congrFun (s41_eq B hS) i) e).symm)
        (fun i e => (congrFun (congrFun (s42_eq B hS) i) e).symm)
        (fun i e => (congrFun (congrFun (s43_eq B hS) i) e).symm)
  | succ j ih =>
    intro t ht h d e
    have B := blkOf m c t b (j + 1) hj ht
    have hp : t.val - 1 < cfg0.N := Nat.lt_of_le_of_lt (Nat.sub_le _ _) t.isLt
    have hS : ∀ h : Fin 4, (fun h d e => (outsAt0 m c (t.val - 1) hp).2 (ix3 h d e) : Fin 4 → Fin 64 → Fin 128 → EReal) h = st ((lr h : ℝ) : EReal) (Ref.kn (m ((c.tc : Thread nD τ).loc main_arg0)) b h) (Ref.vn (m ((c.tc : Thread nD τ).loc main_arg0)) b h) (4 * (j + 1)) := by
      intro h
      funext d e
      exact ih (by omega) ⟨t.val - 1, hp⟩ (by simp only; omega) h d e
    exact stB m c t (by omega) (ix3 h d e) (fun y => st ((lr (y 0) : ℝ) : EReal) (Ref.kn (m ((c.tc : Thread nD τ).loc main_arg0)) b (y 0)) (Ref.vn (m ((c.tc : Thread nD τ).loc main_arg0)) b (y 0)) (4 * (j + 1) + 4) (y 1) (y 2))
      (iblk m c 0 t) (iblk m c 1 t) (iblk m c 2 t) (iblk m c 3 t) (iblk m c 4 t) (iblk m c 7 t) rfl rfl rfl rfl rfl rfl (fun h d e => (outsAt0 m c (t.val - 1) hp).2 (ix3 h d e)) _ rfl rfl
        (fun i e => (congrFun (congrFun (s40_eq B hS) i) e).symm)
        (fun i e => (congrFun (congrFun (s41_eq B hS) i) e).symm)
        (fun i e => (congrFun (congrFun (s42_eq B hS) i) e).symm)
        (fun i e => (congrFun (congrFun (s43_eq B hS) i) e).symm)

/-- The block a point writes: the reference's output rows. -/
theorem written (t : Fin cfg0.N) (y : S256x512.Idx) :
    (outsAt0 m c t.val t.isLt).1 y = Cert.ReferenceIdeal.Step.R_main_v189 (Ref.it (m ((c.tc : Thread nD τ).loc main_arg0)) 68) (ix2 (prow t (y 0)) (y 1)) := by
  have hN : t.val < 136 := lt_of_lt_of_eq t.isLt N_0
  obtain ⟨b, hb⟩ : ∃ b : Fin 8, b.val = t.val / 17 := ⟨⟨t.val / 17, by omega⟩, rfl⟩
  obtain ⟨j, hjv⟩ : ∃ j : ℕ, j = t.val % 17 := ⟨_, rfl⟩
  have hj : j < 17 := by omega
  have ht : t.val = 17 * b.val + j := by omega
  have B := blkOf m c t b j hj ht
  by_cases h0 : t.val % 17 = 0
  · have hS : ∀ h : Fin 4, (fun _ _ _ => 0 : Fin 4 → Fin 64 → Fin 128 → EReal) h = st ((lr h : ℝ) : EReal) (Ref.kn (m ((c.tc : Thread nD τ).loc main_arg0)) b h) (Ref.vn (m ((c.tc : Thread nD τ).loc main_arg0)) b h) (4 * j) := by
      intro h
      rw [show j = 0 by omega]
      rfl
    exact outA m c t h0 y (fun r z => Cert.ReferenceIdeal.Step.R_main_v189 (Ref.it (m ((c.tc : Thread nD τ).loc main_arg0)) 68) (ix2 (prow t r) z))
      (iblk m c 0 t) (iblk m c 1 t) (iblk m c 2 t) (iblk m c 3 t) (iblk m c 4 t) (iblk m c 5 t) (iblk m c 6 t) (iblk m c 7 t) rfl rfl rfl rfl rfl rfl rfl rfl (fun _ _ _ => 0) rfl
        (fun i e r z hr hz => o00_eq B hS i e r z hr hz)
        (fun i e r z hr hz => o01_eq B hS i e r z hr hz)
        (fun i e r z hr hz => o02_eq B hS i e r z hr hz)
        (fun i e r z hr hz => o03_eq B hS i e r z hr hz)
        (fun i e r z hr hz => o10_eq B hS i e r z hr hz)
        (fun i e r z hr hz => o11_eq B hS i e r z hr hz)
        (fun i e r z hr hz => o12_eq B hS i e r z hr hz)
        (fun i e r z hr hz => o13_eq B hS i e r z hr hz)
        (fun i e r z hr hz => o20_eq B hS i e r z hr hz)
        (fun i e r z hr hz => o21_eq B hS i e r z hr hz)
        (fun i e r z hr hz => o22_eq B hS i e r z hr hz)
        (fun i e r z hr hz => o23_eq B hS i e r z hr hz)
        (fun i e r z hr hz => o30_eq B hS i e r z hr hz)
        (fun i e r z hr hz => o31_eq B hS i e r z hr hz)
        (fun i e r z hr hz => o32_eq B hS i e r z hr hz)
        (fun i e r z hr hz => o33_eq B hS i e r z hr hz)
  · have hp : t.val - 1 < cfg0.N := Nat.lt_of_le_of_lt (Nat.sub_le _ _) t.isLt
    have hS : ∀ h : Fin 4, (fun h d e => (outsAt0 m c (t.val - 1) hp).2 (ix3 h d e) : Fin 4 → Fin 64 → Fin 128 → EReal) h = st ((lr h : ℝ) : EReal) (Ref.kn (m ((c.tc : Thread nD τ).loc main_arg0)) b h) (Ref.vn (m ((c.tc : Thread nD τ).loc main_arg0)) b h) (4 * j) := by
      intro h
      funext d e
      rw [show 4 * j = 4 * (j - 1) + 4 by omega]
      exact held m c b (j - 1) (by omega) ⟨t.val - 1, hp⟩ (by simp only; omega) h d e
    exact outB m c t h0 y (fun r z => Cert.ReferenceIdeal.Step.R_main_v189 (Ref.it (m ((c.tc : Thread nD τ).loc main_arg0)) 68) (ix2 (prow t r) z))
      (iblk m c 0 t) (iblk m c 1 t) (iblk m c 2 t) (iblk m c 3 t) (iblk m c 4 t) (iblk m c 5 t) (iblk m c 6 t) (iblk m c 7 t) rfl rfl rfl rfl rfl rfl rfl rfl (fun h d e => (outsAt0 m c (t.val - 1) hp).2 (ix3 h d e)) _ rfl rfl
        (fun i e r z hr hz => o00_eq B hS i e r z hr hz)
        (fun i e r z hr hz => o01_eq B hS i e r z hr hz)
        (fun i e r z hr hz => o02_eq B hS i e r z hr hz)
        (fun i e r z hr hz => o03_eq B hS i e r z hr hz)
        (fun i e r z hr hz => o10_eq B hS i e r z hr hz)
        (fun i e r z hr hz => o11_eq B hS i e r z hr hz)
        (fun i e r z hr hz => o12_eq B hS i e r z hr hz)
        (fun i e r z hr hz => o13_eq B hS i e r z hr hz)
        (fun i e r z hr hz => o20_eq B hS i e r z hr hz)
        (fun i e r z hr hz => o21_eq B hS i e r z hr hz)
        (fun i e r z hr hz => o22_eq B hS i e r z hr hz)
        (fun i e r z hr hz => o23_eq B hS i e r z hr hz)
        (fun i e r z hr hz => o30_eq B hS i e r z hr hz)
        (fun i e r z hr hz => o31_eq B hS i e r z hr hz)
        (fun i e r z hr hz => o32_eq B hS i e r z hr hz)
        (fun i e r z hr hz => o33_eq B hS i e r z hr hz)

/-- The array that the kernel leaves is the reference's result. -/
theorem final : (dats m 0 c).arrAt 8 cfg0.N = Cert.ReferenceIdeal.Step.R_main_v189 (Ref.it (m ((c.tc : Thread nD τ).loc main_arg0)) 68) := by
  refine (dats m 0 c).arrAt_eq_of_covers 8 _ (by decide +kernel) fun t hf y => ?_
  blk_simp
  rw [after0_8]
  have he : ((cfg0.win 8).blk t).view.emb y = ix2 (prow t (y 0)) (y 1) := by
    blk_ext! [idx t, prow]
  refine Eq.trans ?_ (congrArg (Cert.ReferenceIdeal.Step.R_main_v189 (Ref.it (m ((c.tc : Thread nD τ).loc main_arg0)) 68)) he).symm
  exact written m c t y

end Cert.Proof.Ret.Ker

end
-- ==== Proof.RetRefEntry.lean ====
/-
  What the reference's operations before its loop leave: the queries, keys and values in scan order.
-/
module

public import proofs.«01_k».proof.Proof.Gen.ReferenceIdeal.Run
public import proofs.«01_k».proof.Proof.Gen.ReferenceIdeal.Step

@[expose] public section

noncomputable section

namespace Cert.Proof.Ret.Run

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- Two operands joined, each replaced by an equal one. -/
theorem cc {φ : EltTy} {S S1 S2 : Shape} {d : Fin S.rank} (a a' : Vec F S1 φ) (b b' : Vec F S2 φ) (h) (ha : a = a') (hb : b = b') :
    concatenate S d [⟨S1, a⟩, ⟨S2, b⟩] h = concatenate S d [⟨S1, a'⟩, ⟨S2, b'⟩] h := by
  subst ha; subst hb; rfl

/-- Three operands joined, each replaced by an equal one. -/
theorem cc3 {φ : EltTy} {S S1 S2 S3 : Shape} {d : Fin S.rank} (a a' : Vec F S1 φ) (b b' : Vec F S2 φ) (c c' : Vec F S3 φ) (h)
    (ha : a = a') (hb : b = b') (hc : c = c') :
    concatenate S d [⟨S1, a⟩, ⟨S2, b⟩, ⟨S3, c⟩] h = concatenate S d [⟨S1, a'⟩, ⟨S2, b'⟩, ⟨S3, c'⟩] h := by
  subst ha; subst hb; subst hc; rfl

variable (m : (ℓ : Loc nD τ sig) → Buf (Elt F) ℓ) (c : Dev nD)

set_option maxRecDepth 65536
set_option maxHeartbeats 4000000

theorem r15 : concatenate S256x3 1 [⟨S256x1, upto hostOps0 (launchContents m c) 19 (Proc.devRef .tc (![main_v12, main_v13, main_v14] 0))⟩, ⟨S256x1, upto hostOps0 (launchContents m c) 19 (Proc.devRef .tc (![main_v12, main_v13, main_v14] 1))⟩, ⟨S256x1, upto hostOps0 (launchContents m c) 19 (Proc.devRef .tc (![main_v12, main_v13, main_v14] 2))⟩] concatenates_S256x1_S256x1_S256x1_S256x3_d1 = K_main_v15 (F := F) := by
  unfold K_main_v15
  refine cc3 _ _ _ _ _ _ _ ?_ ?_ ?_
  · show upto hostOps0 (launchContents m c) 19 (Proc.devRef .tc main_v12) = _
    after_reads_simp
    rfl
  · show upto hostOps0 (launchContents m c) 19 (Proc.devRef .tc main_v13) = _
    after_reads_simp
    rfl
  · show upto hostOps0 (launchContents m c) 19 (Proc.devRef .tc main_v14) = _
    after_reads_simp
    rfl

theorem p29 : upto hostOps0 (launchContents m c) 62 (Proc.devRef .tc main_v29) = K_main_v29 (F := F) := by
  have h := congrArg (fun z : Vec F S256x3 .f32 => (mulf (broadcastInDim S256x8 ![0, 1] bcast_S256x1_S256x8_0_1 (extractStridedSlice S256x1 ![0, 0] z slices_S256x3_S256x1_0_0)) (K_main_v28 (F := F)))) (r15 m c)
  after_reads_simp
  exact h

theorem p40 : upto hostOps0 (launchContents m c) 62 (Proc.devRef .tc main_v40) = K_main_v40 (F := F) := by
  have h := congrArg (fun z : Vec F S256x3 .f32 => (mulf (broadcastInDim S256x12 ![0, 1] bcast_S256x1_S256x12_0_1 (extractStridedSlice S256x1 ![0, 1] z slices_S256x3_S256x1_0_1)) (K_main_v39 (F := F)))) (r15 m c)
  after_reads_simp
  exact h

theorem p51 : upto hostOps0 (launchContents m c) 62 (Proc.devRef .tc main_v51) = K_main_v51 (F := F) := by
  have h := congrArg (fun z : Vec F S256x3 .f32 => (mulf (broadcastInDim S256x12 ![0, 1] bcast_S256x1_S256x12_0_1 (extractStridedSlice S256x1 ![0, 2] z slices_S256x3_S256x1_0_2)) (K_main_v50 (F := F)))) (r15 m c)
  after_reads_simp
  exact h

theorem r52 : concatenate S256x32 1 [⟨S256x8, upto hostOps0 (launchContents m c) 62 (Proc.devRef .tc (![main_v29, main_v40, main_v51] 0))⟩, ⟨S256x12, upto hostOps0 (launchContents m c) 62 (Proc.devRef .tc (![main_v29, main_v40, main_v51] 1))⟩, ⟨S256x12, upto hostOps0 (launchContents m c) 62 (Proc.devRef .tc (![main_v29, main_v40, main_v51] 2))⟩] concatenates_S256x8_S256x12_S256x12_S256x32_d1 = K_main_v52 (F := F) := by
  unfold K_main_v52
  refine cc3 _ _ _ _ _ _ _ ?_ ?_ ?_
  · exact p29 m c
  · exact p40 m c
  · exact p51 m c

theorem r91 : concatenate S4096x3 1 [⟨S4096x1, upto hostOps0 (launchContents m c) 103 (Proc.devRef .tc (![main_v88, main_v89, main_v90] 0))⟩, ⟨S4096x1, upto hostOps0 (launchContents m c) 103 (Proc.devRef .tc (![main_v88, main_v89, main_v90] 1))⟩, ⟨S4096x1, upto hostOps0 (launchContents m c) 103 (Proc.devRef .tc (![main_v88, main_v89, main_v90] 2))⟩] concatenates_S4096x1_S4096x1_S4096x1_S4096x3_d1 = K_main_v91 (F := F) := by
  unfold K_main_v91
  refine cc3 _ _ _ _ _ _ _ ?_ ?_ ?_
  · show upto hostOps0 (launchContents m c) 103 (Proc.devRef .tc main_v88) = _
    after_reads_simp
    rfl
  · show upto hostOps0 (launchContents m c) 103 (Proc.devRef .tc main_v89) = _
    after_reads_simp
    rfl
  · show upto hostOps0 (launchContents m c) 103 (Proc.devRef .tc main_v90) = _
    after_reads_simp
    rfl

theorem p105 : upto hostOps0 (launchContents m c) 146 (Proc.devRef .tc main_v105) = K_main_v105 (F := F) := by
  have h := congrArg (fun z : Vec F S4096x3 .f32 => (mulf (broadcastInDim S4096x8 ![0, 1] bcast_S4096x1_S4096x8_0_1 (extractStridedSlice S4096x1 ![0, 0] z slices_S4096x3_S4096x1_0_0)) (K_main_v104 (F := F)))) (r91 m c)
  after_reads_simp
  exact h

theorem p116 : upto hostOps0 (launchContents m c) 146 (Proc.devRef .tc main_v116) = K_main_v116 (F := F) := by
  have h := congrArg (fun z : Vec F S4096x3 .f32 => (mulf (broadcastInDim S4096x12 ![0, 1] bcast_S4096x1_S4096x12_0_1 (extractStridedSlice S4096x1 ![0, 1] z slices_S4096x3_S4096x1_0_1)) (K_main_v115 (F := F)))) (r91 m c)
  after_reads_simp
  exact h

theorem p127 : upto hostOps0 (launchContents m c) 146 (Proc.devRef .tc main_v127) = K_main_v127 (F := F) := by
  have h := congrArg (fun z : Vec F S4096x3 .f32 => (mulf (broadcastInDim S4096x12 ![0, 1] bcast_S4096x1_S4096x12_0_1 (extractStridedSlice S4096x1 ![0, 2] z slices_S4096x3_S4096x1_0_2)) (K_main_v126 (F := F)))) (r91 m c)
  after_reads_simp
  exact h

theorem r128 : concatenate S4096x32 1 [⟨S4096x8, upto hostOps0 (launchContents m c) 146 (Proc.devRef .tc (![main_v105, main_v116, main_v127] 0))⟩, ⟨S4096x12, upto hostOps0 (launchContents m c) 146 (Proc.devRef .tc (![main_v105, main_v116, main_v127] 1))⟩, ⟨S4096x12, upto hostOps0 (launchContents m c) 146 (Proc.devRef .tc (![main_v105, main_v116, main_v127] 2))⟩] concatenates_S4096x8_S4096x12_S4096x12_S4096x32_d1 = K_main_v128 (F := F) := by
  unfold K_main_v128
  refine cc3 _ _ _ _ _ _ _ ?_ ?_ ?_
  · exact p105 m c
  · exact p116 m c
  · exact p127 m c

theorem r62 : upto hostOps0 (launchContents m c) 78 (Proc.devRef .tc main_v62) = A_main_v62 (m ((c.tc : Thread nD τ).loc main_arg0)) := by
  have h := congrArg (fun z : Vec F S256x32 .f32 => (subf ((mulf ((A_main_v56 (m ((c.tc : Thread nD τ).loc main_arg0)))) (broadcastInDim S8x256x8x32 ![0, 1, 2, 3] bcast_S1x256x1x32_S8x256x8x32_0_1_2_3 (Host.cos (broadcastInDim S1x256x1x32 ![1, 3] bcast_S256x32_S1x256x1x32_1_3 z))))) ((mulf ((A_main_v57 (m ((c.tc : Thread nD τ).loc main_arg0)))) (broadcastInDim S8x256x8x32 ![0, 1, 2, 3] bcast_S1x256x1x32_S8x256x8x32_0_1_2_3 (Host.sin (broadcastInDim S1x256x1x32 ![1, 3] bcast_S256x32_S1x256x1x32_1_3 z))))))) (r52 m c)
  after_reads_simp
  exact h

theorem r67 : upto hostOps0 (launchContents m c) 78 (Proc.devRef .tc main_v67) = A_main_v67 (m ((c.tc : Thread nD τ).loc main_arg0)) := by
  have h := congrArg (fun z : Vec F S256x32 .f32 => (addf ((mulf ((A_main_v56 (m ((c.tc : Thread nD τ).loc main_arg0)))) (broadcastInDim S8x256x8x32 ![0, 1, 2, 3] bcast_S1x256x1x32_S8x256x8x32_0_1_2_3 (Host.sin (broadcastInDim S1x256x1x32 ![1, 3] bcast_S256x32_S1x256x1x32_1_3 z))))) ((mulf ((A_main_v57 (m ((c.tc : Thread nD τ).loc main_arg0)))) (broadcastInDim S8x256x8x32 ![0, 1, 2, 3] bcast_S1x256x1x32_S8x256x8x32_0_1_2_3 (Host.cos (broadcastInDim S1x256x1x32 ![1, 3] bcast_S256x32_S1x256x1x32_1_3 z))))))) (r52 m c)
  after_reads_simp
  exact h

theorem r138 : upto hostOps0 (launchContents m c) 162 (Proc.devRef .tc main_v138) = A_main_v138 (m ((c.tc : Thread nD τ).loc main_arg0)) := by
  have h := congrArg (fun z : Vec F S4096x32 .f32 => (subf ((mulf ((A_main_v132 (m ((c.tc : Thread nD τ).loc main_arg0)))) (broadcastInDim S8x4096x8x32 ![0, 1, 2, 3] bcast_S1x4096x1x32_S8x4096x8x32_0_1_2_3 (Host.cos (broadcastInDim S1x4096x1x32 ![1, 3] bcast_S4096x32_S1x4096x1x32_1_3 z))))) ((mulf ((A_main_v133 (m ((c.tc : Thread nD τ).loc main_arg0)))) (broadcastInDim S8x4096x8x32 ![0, 1, 2, 3] bcast_S1x4096x1x32_S8x4096x8x32_0_1_2_3 (Host.sin (broadcastInDim S1x4096x1x32 ![1, 3] bcast_S4096x32_S1x4096x1x32_1_3 z))))))) (r128 m c)
  after_reads_simp
  exact h

theorem r143 : upto hostOps0 (launchContents m c) 162 (Proc.devRef .tc main_v143) = A_main_v143 (m ((c.tc : Thread nD τ).loc main_arg0)) := by
  have h := congrArg (fun z : Vec F S4096x32 .f32 => (addf ((mulf ((A_main_v132 (m ((c.tc : Thread nD τ).loc main_arg0)))) (broadcastInDim S8x4096x8x32 ![0, 1, 2, 3] bcast_S1x4096x1x32_S8x4096x8x32_0_1_2_3 (Host.sin (broadcastInDim S1x4096x1x32 ![1, 3] bcast_S4096x32_S1x4096x1x32_1_3 z))))) ((mulf ((A_main_v133 (m ((c.tc : Thread nD τ).loc main_arg0)))) (broadcastInDim S8x4096x8x32 ![0, 1, 2, 3] bcast_S1x4096x1x32_S8x4096x8x32_0_1_2_3 (Host.cos (broadcastInDim S1x4096x1x32 ![1, 3] bcast_S4096x32_S1x4096x1x32_1_3 z))))))) (r128 m c)
  after_reads_simp
  exact h

theorem e0 : entryContents preI m c (Proc.devRef .tc main_v176_0) = A_main_v168 (m ((c.tc : Thread nD τ).loc main_arg0)) := by
  simp only [entryContents, afterL_cons, afterL_nil]; after_reads_simp
  refine congrArg (fun z => transpose S68x8x4x64x64 [2,0,1,3,4] (shapeCast S8x4x68x64x64 z shapeCasts_S8x4x4352x64_S8x4x68x64x64) transposes_S8x4x68x64x64_S68x8x4x64x64_2_0_1_3_4) (cc _ _ _ _ _ ?_ ?_)
  · have h := congrArg (fun z : Vec F S8x256x8x64 .f32 => (Host.reverse [2] ((transpose S8x4x256x64 [0, 2, 1, 3] ((extractStridedSlice S8x256x4x64 ![0, 0, 0, 0] (z) slices_S8x256x8x64_S8x256x4x64_0_0_0_0)) transposes_S8x256x4x64_S8x4x256x64_0_2_1_3)))) (cc _ _ _ _ concatenates_S8x256x8x32_S8x256x8x32_S8x256x8x64_d3 (r62 m c) (r67 m c))
    after_reads_simp
    exact h
  · have h := congrArg (fun z : Vec F S8x4096x8x64 .f32 => (Host.reverse [2] ((transpose S8x4x4096x64 [0, 2, 1, 3] ((extractStridedSlice S8x4096x4x64 ![0, 0, 0, 0] (z) slices_S8x4096x8x64_S8x4096x4x64_0_0_0_0)) transposes_S8x4096x4x64_S8x4x4096x64_0_2_1_3)))) (cc _ _ _ _ concatenates_S8x4096x8x32_S8x4096x8x32_S8x4096x8x64_d3 (r138 m c) (r143 m c))
    after_reads_simp
    exact h

theorem e1 : entryContents preI m c (Proc.devRef .tc main_v176_1) = A_main_v170 (m ((c.tc : Thread nD τ).loc main_arg0)) := by
  simp only [entryContents, afterL_cons, afterL_nil]; after_reads_simp
  refine congrArg (fun z => transpose S68x8x4x64x64 [2,0,1,3,4] (shapeCast S8x4x68x64x64 z shapeCasts_S8x4x4352x64_S8x4x68x64x64) transposes_S8x4x68x64x64_S68x8x4x64x64_2_0_1_3_4) (cc _ _ _ _ _ ?_ ?_)
  · have h := congrArg (fun z : Vec F S8x256x8x64 .f32 => (Host.reverse [2] ((mulf ((transpose S8x4x256x64 [0, 2, 1, 3] ((extractStridedSlice S8x256x4x64 ![0, 0, 4, 0] (z) slices_S8x256x8x64_S8x256x4x64_0_0_4_0)) transposes_S8x256x4x64_S8x4x256x64_0_2_1_3)) (K_main_v73 (F := F)))))) (cc _ _ _ _ concatenates_S8x256x8x32_S8x256x8x32_S8x256x8x64_d3 (r62 m c) (r67 m c))
    after_reads_simp
    exact h
  · have h := congrArg (fun z : Vec F S8x4096x8x64 .f32 => (Host.reverse [2] ((mulf ((transpose S8x4x4096x64 [0, 2, 1, 3] ((extractStridedSlice S8x4096x4x64 ![0, 0, 4, 0] (z) slices_S8x4096x8x64_S8x4096x4x64_0_0_4_0)) transposes_S8x4096x4x64_S8x4x4096x64_0_2_1_3)) (K_main_v149 (F := F)))))) (cc _ _ _ _ concatenates_S8x4096x8x32_S8x4096x8x32_S8x4096x8x64_d3 (r138 m c) (r143 m c))
    after_reads_simp
    exact h

theorem e2 : entryContents preI m c (Proc.devRef .tc main_v176_2) = A_main_v172 (m ((c.tc : Thread nD τ).loc main_arg0)) := by
  simp only [entryContents, afterL_cons, afterL_nil]; after_reads_simp
  refine congrArg (fun z => transpose S68x8x4x64x128 [2,0,1,3,4] (shapeCast S8x4x68x64x128 z shapeCasts_S8x4x4352x128_S8x4x68x64x128) transposes_S8x4x68x64x128_S68x8x4x64x128_2_0_1_3_4) (cc _ _ _ _ _ ?_ ?_)
  · after_reads_simp
    rfl
  · after_reads_simp
    rfl

theorem e3 : entryContents preI m c (Proc.devRef .tc main_v176_3) = K_main_v174 (F := F) := by
  simp only [entryContents, afterL_cons, afterL_nil]; after_reads_simp
  rfl

theorem e4 : entryContents preI m c (Proc.devRef .tc main_v176_4) = constantI S_ 32 (BitVec.ofNat 32 0) := by
  simp only [entryContents, afterL_cons, afterL_nil]; after_reads_simp
  rfl

theorem e5 : entryContents preI m c (Proc.devRef .tc main_v176_5) = K_main_v157 (F := F) := by
  simp only [entryContents, afterL_cons, afterL_nil]; after_reads_simp
  rfl

theorem e6 : entryContents preI m c (Proc.devRef .tc main_v176_6) = K_main_v175 (F := F) := by
  simp only [entryContents, afterL_cons, afterL_nil]; after_reads_simp
  rfl

end Cert.Proof.Ret.Run

end
-- ==== Proof.RetRefRun.lean ====
/-
  The reference's run as its loop's step iterated 68 times from what its first operations leave.
-/
module

public import proofs.«01_k».proof.Proof.Gen.ReferenceIdeal.Run
public import proofs.«01_k».proof.Proof.Gen.ReferenceIdeal.Step
public import proofs.«01_k».proof.Proof.RetRefEntry

@[expose] public section

noncomputable section

namespace Cert.Proof.Ret.Run

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v176_5) = s.main_v176_5
  f_6 : V0 (Proc.devRef .tc main_v176_6) = s.main_v176_6
  f_0 : V0 (Proc.devRef .tc main_v176_0) = s.main_v176_0
  f_1 : V0 (Proc.devRef .tc main_v176_1) = s.main_v176_1
  f_2 : V0 (Proc.devRef .tc main_v176_2) = s.main_v176_2
  n_4 : V0 (Proc.devRef .tc main_v176_4) = constantI S_ 32 (BitVec.ofNat 32 j)
  k_3 : V0 (Proc.devRef .tc main_v176_3) = Cert.ReferenceIdeal.Step.K_main_v174 (F := F)

variable {V0 s j}

set_option maxRecDepth 8192 in
theorem al_0 (h : Holds V0 s j) : (constantI S_ 32 0#32 : (Proc.devRef .tc main_while0b_call6_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call6_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call6_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call6_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x8x4x64x64 (V0 (Proc.devRef .tc main_v176_0)) (fun k => (((![V0 (Proc.devRef .tc main_v176_4), constantI S_ 32 0#32, constantI S_ 32 0#32, constantI S_ 32 0#32, constantI S_ 32 0#32] : Fin 5 → (⟨S_, .i32⟩ : BufTy).Contents (Elt F))) k (Shape.Idx.first h_S_)).toInt) sliceFits_S68x8x4x64x64_S1x8x4x64x64 : (Proc.devRef .tc main_while0b_call6_v0 : DevRef τ sig).ty.Contents (Elt F)) = Cert.ReferenceIdeal.Step.b4 j s := by
  unfold Cert.ReferenceIdeal.Step.b4
  rw [← al_0 h, ← al_1 h, ← al_2 h, ← al_3 h, h.f_0, h.n_4]
  try rfl
set_option maxRecDepth 8192 in
theorem al_5 (h : Holds V0 s j) : (res_main_while0b_v190 V0 : (Proc.devRef .tc main_while0b_v190 : DevRef τ sig).ty.Contents (Elt F)) = Cert.ReferenceIdeal.Step.b5 j s := by
  unfold res_main_while0b_v190 Cert.ReferenceIdeal.Step.b5
  rw [← al_4 h]
  try rfl
set_option maxRecDepth 8192 in
theorem al_6 (h : Holds V0 s j) : (constantI S_ 32 0#32 : (Proc.devRef .tc main_while0b_call7_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call7_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call7_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call7_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x8x4x64x64 (V0 (Proc.devRef .tc main_v176_1)) (fun k => (((![V0 (Proc.devRef .tc main_v176_4), constantI S_ 32 0#32, constantI S_ 32 0#32, constantI S_ 32 0#32, constantI S_ 32 0#32] : Fin 5 → (⟨S_, .i32⟩ : BufTy).Contents (Elt F))) k (Shape.Idx.first h_S_)).toInt) sliceFits_S68x8x4x64x64_S1x8x4x64x64 : (Proc.devRef .tc main_while0b_call7_v0 : DevRef τ sig).ty.Contents (Elt F)) = Cert.ReferenceIdeal.Step.b10 j s := by
  unfold Cert.ReferenceIdeal.Step.b10
  rw [← al_6 h, ← al_7 h, ← al_8 h, ← al_9 h, h.f_1, h.n_4]
  try rfl
set_option maxRecDepth 8192 in
theorem al_11 (h : Holds V0 s j) : (res_main_while0b_v191 V0 : (Proc.devRef .tc main_while0b_v191 : DevRef τ sig).ty.Contents (Elt F)) = Cert.ReferenceIdeal.Step.b11 j s := by
  unfold res_main_while0b_v191 Cert.ReferenceIdeal.Step.b11
  rw [← al_10 h]
  try rfl
set_option maxRecDepth 8192 in
theorem al_12 (h : Holds V0 s j) : (constantI S_ 32 0#32 : (Proc.devRef .tc main_while0b_call8_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call8_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call8_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call8_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x8x4x64x128 (V0 (Proc.devRef .tc main_v176_2)) (fun k => (((![V0 (Proc.devRef .tc main_v176_4), constantI S_ 32 0#32, constantI S_ 32 0#32, constantI S_ 32 0#32, constantI S_ 32 0#32] : Fin 5 → (⟨S_, .i32⟩ : BufTy).Contents (Elt F))) k (Shape.Idx.first h_S_)).toInt) sliceFits_S68x8x4x64x128_S1x8x4x64x128 : (Proc.devRef .tc main_while0b_call8_v0 : DevRef τ sig).ty.Contents (Elt F)) = Cert.ReferenceIdeal.Step.b16 j s := by
  unfold Cert.ReferenceIdeal.Step.b16
  rw [← al_12 h, ← al_13 h, ← al_14 h, ← al_15 h, h.f_2, h.n_4]
  try rfl
set_option maxRecDepth 8192 in
theorem al_17 (h : Holds V0 s j) : (res_main_while0b_v192 V0 : (Proc.devRef .tc main_while0b_v192 : DevRef τ sig).ty.Contents (Elt F)) = Cert.ReferenceIdeal.Step.b17 j s := by
  unfold res_main_while0b_v192 Cert.ReferenceIdeal.Step.b17
  rw [← al_16 h]
  try rfl
set_option maxRecDepth 8192 in
theorem al_18 (h : Holds V0 s j) : (constantI S_ 32 0#32 : (Proc.devRef .tc main_while0b_call9_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call9_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call9_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x8x4x64 (V0 (Proc.devRef .tc main_v176_3)) (fun k => (((![V0 (Proc.devRef .tc main_v176_4), constantI S_ 32 0#32, constantI S_ 32 0#32, constantI S_ 32 0#32] : Fin 4 → (⟨S_, .i32⟩ : BufTy).Contents (Elt F))) k (Shape.Idx.first h_S_)).toInt) sliceFits_S68x8x4x64_S1x8x4x64 : (Proc.devRef .tc main_while0b_call9_v0 : DevRef τ sig).ty.Contents (Elt F)) = Cert.ReferenceIdeal.Step.b21 j s := by
  unfold Cert.ReferenceIdeal.Step.b21
  rw [← al_18 h, ← al_19 h, ← al_20 h, h.k_3, h.n_4]
  try rfl
set_option maxRecDepth 8192 in
theorem al_22 (h : Holds V0 s j) : (shapeCast S8x4x64 (Host.dynamicSlice S1x8x4x64 (V0 (Proc.devRef .tc main_v176_3)) (fun k => (((![V0 (Proc.devRef .tc main_v176_4), constantI S_ 32 0#32, constantI S_ 32 0#32, constantI S_ 32 0#32] : Fin 4 → (⟨S_, .i32⟩ : BufTy).Contents (Elt F))) k (Shape.Idx.first h_S_)).toInt) sliceFits_S68x8x4x64_S1x8x4x64) shapeCasts_S1x8x4x64_S8x4x64 : (Proc.devRef .tc main_while0b_v193 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (constant S_ .f32 0x00000000#32 : (Proc.devRef .tc main_while0b_call10_call0_cst : DevRef τ sig).ty.Contents (Elt F)) = Cert.ReferenceIdeal.Step.b23 j s := by
  unfold Cert.ReferenceIdeal.Step.b23
  rfl
set_option maxRecDepth 8192 in
theorem al_24 (h : Holds V0 s j) : (broadcastInDim S_ ![] bcast_S_S_ (constant S_ .f32 0x00000000#32) : (Proc.devRef .tc main_while0b_call10_call0_v0 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (res_main_while0b_v194 V0 : (Proc.devRef .tc main_while0b_v194 : DevRef τ sig).ty.Contents (Elt F)) = Cert.ReferenceIdeal.Step.b25 j s := by
  unfold res_main_while0b_v194 Cert.ReferenceIdeal.Step.b25
  rw [← al_22 h, ← al_24 h]
  try rfl
set_option maxRecDepth 8192 in
theorem al_26 (h : Holds V0 s j) : (Host.dotGeneral dot_S8x4x64x64_S8x4x64x64_S8x4x64x64_3_3_2_2_01_01 none (res_main_while0b_v190 V0) (res_main_while0b_v191 V0) : (Proc.devRef .tc main_while0b_v195 : DevRef τ sig).ty.Contents (Elt F)) = Cert.ReferenceIdeal.Step.b26 j s := by
  unfold Cert.ReferenceIdeal.Step.b26
  rw [← al_5 h, ← al_11 h]
  try rfl
set_option maxRecDepth 8192 in
theorem al_27 (h : Holds V0 s j) : (constantI S_ 1 1#1 : (Proc.devRef .tc main_while0b_c_26 : DevRef τ sig).ty.Contents (Elt F)) = Cert.ReferenceIdeal.Step.b27 j s := by
  unfold Cert.ReferenceIdeal.Step.b27
  rfl
set_option maxRecDepth 8192 in
theorem al_28 (h : Holds V0 s j) : (broadcastInDim S64x64 ![] bcast_S_S64x64 (constantI S_ 1 1#1) : (Proc.devRef .tc main_while0b_v196 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (iotaInDim S64x64 32 0 : (Proc.devRef .tc main_while0b_call11_v0 : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call11_c : DevRef τ sig).ty.Contents (Elt F)) = Cert.ReferenceIdeal.Step.b30 j s := by
  unfold Cert.ReferenceIdeal.Step.b30
  rfl
set_option maxRecDepth 8192 in
theorem al_31 (h : Holds V0 s j) : (broadcastInDim S64x64 ![] bcast_S_S64x64 (constantI S_ 32 0#32) : (Proc.devRef .tc main_while0b_call11_v1 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (addi (iotaInDim S64x64 32 0) (broadcastInDim S64x64 ![] bcast_S_S64x64 (constantI S_ 32 0#32)) : (Proc.devRef .tc main_while0b_call11_v2 : DevRef τ sig).ty.Contents (Elt F)) = Cert.ReferenceIdeal.Step.b32 j s := by
  unfold Cert.ReferenceIdeal.Step.b32
  rw [← al_29 h, ← al_31 h]
  try rfl
set_option maxRecDepth 8192 in
theorem al_33 (h : Holds V0 s j) : (iotaInDim S64x64 32 1 : (Proc.devRef .tc main_while0b_call11_v3 : DevRef τ sig).ty.Contents (Elt F)) = Cert.ReferenceIdeal.Step.b33 j s := by
  unfold Cert.ReferenceIdeal.Step.b33
  rfl
set_option maxRecDepth 8192 in
theorem al_34 (h : Holds V0 s j) : (cmpi .sge (addi (iotaInDim S64x64 32 0) (broadcastInDim S64x64 ![] bcast_S_S64x64 (constantI S_ 32 0#32))) (iotaInDim S64x64 32 1) : (Proc.devRef .tc main_while0b_call11_v4 : DevRef τ sig).ty.Contents (Elt F)) = Cert.ReferenceIdeal.Step.b34 j s := by
  unfold Cert.ReferenceIdeal.Step.b34
  rw [← al_32 h, ← al_33 h]
  try rfl
set_option maxRecDepth 8192 in
theorem al_35 (h : Holds V0 s j) : (constantI S_ 1 0#1 : (Proc.devRef .tc main_while0b_call11_c_0 : DevRef τ sig).ty.Contents (Elt F)) = Cert.ReferenceIdeal.Step.b35 j s := by
  unfold Cert.ReferenceIdeal.Step.b35
  rfl
set_option maxRecDepth 8192 in
theorem al_36 (h : Holds V0 s j) : (broadcastInDim S64x64 ![] bcast_S_S64x64 (constantI S_ 1 0#1) : (Proc.devRef .tc main_while0b_call11_v5 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : (Proc.devRef .tc main_while0b_v197 : DevRef τ sig).ty.Contents (Elt F)) = Cert.ReferenceIdeal.Step.b37 j s := by
  unfold Cert.ReferenceIdeal.Step.b37
  rw [← al_34 h, ← al_28 h, ← al_36 h]
  try rfl
set_option maxRecDepth 8192 in
theorem al_38 (h : Holds V0 s j) : (broadcastInDim S8x4x64x1 ![0, 1, 2] bcast_S8x4x64_S8x4x64x1_0_1_2 (res_main_while0b_v194 V0) : (Proc.devRef .tc main_while0b_v198 : DevRef τ sig).ty.Contents (Elt F)) = Cert.ReferenceIdeal.Step.b38 j s := by
  unfold Cert.ReferenceIdeal.Step.b38
  rw [← al_25 h]
  try rfl
set_option maxRecDepth 8192 in
theorem al_39 (h : Holds V0 s j) : (broadcastInDim S8x4x1x64 ![0, 1, 3] bcast_S8x4x64_S8x4x1x64_0_1_3 (res_main_while0b_v194 V0) : (Proc.devRef .tc main_while0b_v199 : DevRef τ sig).ty.Contents (Elt F)) = Cert.ReferenceIdeal.Step.b39 j s := by
  unfold Cert.ReferenceIdeal.Step.b39
  rw [← al_25 h]
  try rfl
set_option maxRecDepth 8192 in
theorem al_40 (h : Holds V0 s j) : (broadcastInDim S8x4x64x64 ![0, 1, 2, 3] bcast_S8x4x64x1_S8x4x64x64_0_1_2_3 (broadcastInDim S8x4x64x1 ![0, 1, 2] bcast_S8x4x64_S8x4x64x1_0_1_2 (res_main_while0b_v194 V0)) : (Proc.devRef .tc main_while0b_v200 : DevRef τ sig).ty.Contents (Elt F)) = Cert.ReferenceIdeal.Step.b40 j s := by
  unfold Cert.ReferenceIdeal.Step.b40
  rw [← al_38 h]
  try rfl
set_option maxRecDepth 8192 in
theorem al_41 (h : Holds V0 s j) : (broadcastInDim S8x4x64x64 ![0, 1, 2, 3] bcast_S8x4x1x64_S8x4x64x64_0_1_2_3 (broadcastInDim S8x4x1x64 ![0, 1, 3] bcast_S8x4x64_S8x4x1x64_0_1_3 (res_main_while0b_v194 V0)) : (Proc.devRef .tc main_while0b_v201 : DevRef τ sig).ty.Contents (Elt F)) = Cert.ReferenceIdeal.Step.b41 j s := by
  unfold Cert.ReferenceIdeal.Step.b41
  rw [← al_39 h]
  try rfl
set_option maxRecDepth 8192 in
theorem al_42 (h : Holds V0 s j) : (subf (broadcastInDim S8x4x64x64 ![0, 1, 2, 3] bcast_S8x4x64x1_S8x4x64x64_0_1_2_3 (broadcastInDim S8x4x64x1 ![0, 1, 2] bcast_S8x4x64_S8x4x64x1_0_1_2 (res_main_while0b_v194 V0))) (broadcastInDim S8x4x64x64 ![0, 1, 2, 3] bcast_S8x4x1x64_S8x4x64x64_0_1_2_3 (broadcastInDim S8x4x1x64 ![0, 1, 3] bcast_S8x4x64_S8x4x1x64_0_1_3 (res_main_while0b_v194 V0))) : (Proc.devRef .tc main_while0b_v202 : DevRef τ sig).ty.Contents (Elt F)) = Cert.ReferenceIdeal.Step.b42 j s := by
  unfold Cert.ReferenceIdeal.Step.b42
  rw [← al_40 h, ← al_41 h]
  try rfl
set_option maxRecDepth 8192 in
theorem al_43 (h : Holds V0 s j) : (constant S_ .f32 0xFF800000#32 : (Proc.devRef .tc main_while0b_cst_27 : DevRef τ sig).ty.Contents (Elt F)) = Cert.ReferenceIdeal.Step.b43 j s := by
  unfold Cert.ReferenceIdeal.Step.b43
  rfl
set_option maxRecDepth 8192 in
theorem al_44 (h : Holds V0 s j) : (broadcastInDim S8x4x64x64 ![] bcast_S_S8x4x64x64 (constant S_ .f32 0xFF800000#32) : (Proc.devRef .tc main_while0b_v203 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (broadcastInDim S8x4x64x64 ![2, 3] bcast_S64x64_S8x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))) : (Proc.devRef .tc main_while0b_call12_v0 : DevRef τ sig).ty.Contents (Elt F)) = Cert.ReferenceIdeal.Step.b45 j s := by
  unfold Cert.ReferenceIdeal.Step.b45
  rw [← al_37 h]
  try rfl
set_option maxRecDepth 8192 in
theorem al_46 (h : Holds V0 s j) : (select (broadcastInDim S8x4x64x64 ![2, 3] bcast_S64x64_S8x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (subf (broadcastInDim S8x4x64x64 ![0, 1, 2, 3] bcast_S8x4x64x1_S8x4x64x64_0_1_2_3 (broadcastInDim S8x4x64x1 ![0, 1, 2] bcast_S8x4x64_S8x4x64x1_0_1_2 (res_main_while0b_v194 V0))) (broadcastInDim S8x4x64x64 ![0, 1, 2, 3] bcast_S8x4x1x64_S8x4x64x64_0_1_2_3 (broadcastInDim S8x4x1x64 ![0, 1, 3] bcast_S8x4x64_S8x4x1x64_0_1_3 (res_main_while0b_v194 V0)))) (broadcastInDim S8x4x64x64 ![] bcast_S_S8x4x64x64 (constant S_ .f32 0xFF800000#32)) : (Proc.devRef .tc main_while0b_v204 : DevRef τ sig).ty.Contents (Elt F)) = Cert.ReferenceIdeal.Step.b46 j s := by
  unfold Cert.ReferenceIdeal.Step.b46
  rw [← al_45 h, ← al_42 h, ← al_44 h]
  try rfl
set_option maxRecDepth 8192 in
theorem al_47 (h : Holds V0 s j) : (Host.exp (select (broadcastInDim S8x4x64x64 ![2, 3] bcast_S64x64_S8x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (subf (broadcastInDim S8x4x64x64 ![0, 1, 2, 3] bcast_S8x4x64x1_S8x4x64x64_0_1_2_3 (broadcastInDim S8x4x64x1 ![0, 1, 2] bcast_S8x4x64_S8x4x64x1_0_1_2 (res_main_while0b_v194 V0))) (broadcastInDim S8x4x64x64 ![0, 1, 2, 3] bcast_S8x4x1x64_S8x4x64x64_0_1_2_3 (broadcastInDim S8x4x1x64 ![0, 1, 3] bcast_S8x4x64_S8x4x1x64_0_1_3 (res_main_while0b_v194 V0)))) (broadcastInDim S8x4x64x64 ![] bcast_S_S8x4x64x64 (constant S_ .f32 0xFF800000#32))) : (Proc.devRef .tc main_while0b_v205 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (mulf (Host.dotGeneral dot_S8x4x64x64_S8x4x64x64_S8x4x64x64_3_3_2_2_01_01 none (res_main_while0b_v190 V0) (res_main_while0b_v191 V0)) (Host.exp (select (broadcastInDim S8x4x64x64 ![2, 3] bcast_S64x64_S8x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (subf (broadcastInDim S8x4x64x64 ![0, 1, 2, 3] bcast_S8x4x64x1_S8x4x64x64_0_1_2_3 (broadcastInDim S8x4x64x1 ![0, 1, 2] bcast_S8x4x64_S8x4x64x1_0_1_2 (res_main_while0b_v194 V0))) (broadcastInDim S8x4x64x64 ![0, 1, 2, 3] bcast_S8x4x1x64_S8x4x64x64_0_1_2_3 (broadcastInDim S8x4x1x64 ![0, 1, 3] bcast_S8x4x64_S8x4x1x64_0_1_3 (res_main_while0b_v194 V0)))) (broadcastInDim S8x4x64x64 ![] bcast_S_S8x4x64x64 (constant S_ .f32 0xFF800000#32)))) : (Proc.devRef .tc main_while0b_v206 : DevRef τ sig).ty.Contents (Elt F)) = Cert.ReferenceIdeal.Step.b48 j s := by
  unfold Cert.ReferenceIdeal.Step.b48
  rw [← al_26 h, ← al_47 h]
  try rfl
set_option maxRecDepth 8192 in
theorem al_49 (h : Holds V0 s j) : (Host.dotGeneral dot_S8x4x64x64_S8x4x64x128_S8x4x64x128_3_2_2_3_01_01 none (mulf (Host.dotGeneral dot_S8x4x64x64_S8x4x64x64_S8x4x64x64_3_3_2_2_01_01 none (res_main_while0b_v190 V0) (res_main_while0b_v191 V0)) (Host.exp (select (broadcastInDim S8x4x64x64 ![2, 3] bcast_S64x64_S8x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (subf (broadcastInDim S8x4x64x64 ![0, 1, 2, 3] bcast_S8x4x64x1_S8x4x64x64_0_1_2_3 (broadcastInDim S8x4x64x1 ![0, 1, 2] bcast_S8x4x64_S8x4x64x1_0_1_2 (res_main_while0b_v194 V0))) (broadcastInDim S8x4x64x64 ![0, 1, 2, 3] bcast_S8x4x1x64_S8x4x64x64_0_1_2_3 (broadcastInDim S8x4x1x64 ![0, 1, 3] bcast_S8x4x64_S8x4x1x64_0_1_3 (res_main_while0b_v194 V0)))) (broadcastInDim S8x4x64x64 ![] bcast_S_S8x4x64x64 (constant S_ .f32 0xFF800000#32))))) (res_main_while0b_v192 V0) : (Proc.devRef .tc main_while0b_v207 : DevRef τ sig).ty.Contents (Elt F)) = Cert.ReferenceIdeal.Step.b49 j s := by
  unfold Cert.ReferenceIdeal.Step.b49
  rw [← al_48 h, ← al_17 h]
  try rfl
set_option maxRecDepth 8192 in
theorem al_50 (h : Holds V0 s j) : (Host.exp (res_main_while0b_v194 V0) : (Proc.devRef .tc main_while0b_v208 : DevRef τ sig).ty.Contents (Elt F)) = Cert.ReferenceIdeal.Step.b50 j s := by
  unfold Cert.ReferenceIdeal.Step.b50
  rw [← al_25 h]
  try rfl
set_option maxRecDepth 8192 in
theorem al_51 (h : Holds V0 s j) : (broadcastInDim S8x4x64x1 ![0, 1, 2] bcast_S8x4x64_S8x4x64x1_0_1_2 (Host.exp (res_main_while0b_v194 V0)) : (Proc.devRef .tc main_while0b_v209 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (broadcastInDim S8x4x64x64 ![0, 1, 2, 3] bcast_S8x4x64x1_S8x4x64x64_0_1_2_3 (broadcastInDim S8x4x64x1 ![0, 1, 2] bcast_S8x4x64_S8x4x64x1_0_1_2 (Host.exp (res_main_while0b_v194 V0))) : (Proc.devRef .tc main_while0b_v210 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (mulf (res_main_while0b_v190 V0) (broadcastInDim S8x4x64x64 ![0, 1, 2, 3] bcast_S8x4x64x1_S8x4x64x64_0_1_2_3 (broadcastInDim S8x4x64x1 ![0, 1, 2] bcast_S8x4x64_S8x4x64x1_0_1_2 (Host.exp (res_main_while0b_v194 V0)))) : (Proc.devRef .tc main_while0b_v211 : DevRef τ sig).ty.Contents (Elt F)) = Cert.ReferenceIdeal.Step.b53 j s := by
  unfold Cert.ReferenceIdeal.Step.b53
  rw [← al_5 h, ← al_52 h]
  try rfl
set_option maxRecDepth 8192 in
theorem al_54 (h : Holds V0 s j) : (extractStridedSlice S8x4x1 ![0, 0, 63] (res_main_while0b_v194 V0) slices_S8x4x64_S8x4x1_0_0_63 : (Proc.devRef .tc main_while0b_v212 : DevRef τ sig).ty.Contents (Elt F)) = Cert.ReferenceIdeal.Step.b54 j s := by
  unfold Cert.ReferenceIdeal.Step.b54
  rw [← al_25 h]
  try rfl
set_option maxRecDepth 8192 in
theorem al_55 (h : Holds V0 s j) : (broadcastInDim S8x4x64 ![0, 1, 2] bcast_S8x4x1_S8x4x64_0_1_2 (extractStridedSlice S8x4x1 ![0, 0, 63] (res_main_while0b_v194 V0) slices_S8x4x64_S8x4x1_0_0_63) : (Proc.devRef .tc main_while0b_v213 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (subf (broadcastInDim S8x4x64 ![0, 1, 2] bcast_S8x4x1_S8x4x64_0_1_2 (extractStridedSlice S8x4x1 ![0, 0, 63] (res_main_while0b_v194 V0) slices_S8x4x64_S8x4x1_0_0_63)) (res_main_while0b_v194 V0) : (Proc.devRef .tc main_while0b_v214 : DevRef τ sig).ty.Contents (Elt F)) = Cert.ReferenceIdeal.Step.b56 j s := by
  unfold Cert.ReferenceIdeal.Step.b56
  rw [← al_55 h, ← al_25 h]
  try rfl
set_option maxRecDepth 8192 in
theorem al_57 (h : Holds V0 s j) : (Host.exp (subf (broadcastInDim S8x4x64 ![0, 1, 2] bcast_S8x4x1_S8x4x64_0_1_2 (extractStridedSlice S8x4x1 ![0, 0, 63] (res_main_while0b_v194 V0) slices_S8x4x64_S8x4x1_0_0_63)) (res_main_while0b_v194 V0)) : (Proc.devRef .tc main_while0b_v215 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (broadcastInDim S8x4x64x1 ![0, 1, 2] bcast_S8x4x64_S8x4x64x1_0_1_2 (Host.exp (subf (broadcastInDim S8x4x64 ![0, 1, 2] bcast_S8x4x1_S8x4x64_0_1_2 (extractStridedSlice S8x4x1 ![0, 0, 63] (res_main_while0b_v194 V0) slices_S8x4x64_S8x4x1_0_0_63)) (res_main_while0b_v194 V0))) : (Proc.devRef .tc main_while0b_v216 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (broadcastInDim S8x4x64x64 ![0, 1, 2, 3] bcast_S8x4x64x1_S8x4x64x64_0_1_2_3 (broadcastInDim S8x4x64x1 ![0, 1, 2] bcast_S8x4x64_S8x4x64x1_0_1_2 (Host.exp (subf (broadcastInDim S8x4x64 ![0, 1, 2] bcast_S8x4x1_S8x4x64_0_1_2 (extractStridedSlice S8x4x1 ![0, 0, 63] (res_main_while0b_v194 V0) slices_S8x4x64_S8x4x1_0_0_63)) (res_main_while0b_v194 V0)))) : (Proc.devRef .tc main_while0b_v217 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (mulf (res_main_while0b_v191 V0) (broadcastInDim S8x4x64x64 ![0, 1, 2, 3] bcast_S8x4x64x1_S8x4x64x64_0_1_2_3 (broadcastInDim S8x4x64x1 ![0, 1, 2] bcast_S8x4x64_S8x4x64x1_0_1_2 (Host.exp (subf (broadcastInDim S8x4x64 ![0, 1, 2] bcast_S8x4x1_S8x4x64_0_1_2 (extractStridedSlice S8x4x1 ![0, 0, 63] (res_main_while0b_v194 V0) slices_S8x4x64_S8x4x1_0_0_63)) (res_main_while0b_v194 V0))))) : (Proc.devRef .tc main_while0b_v218 : DevRef τ sig).ty.Contents (Elt F)) = Cert.ReferenceIdeal.Step.b60 j s := by
  unfold Cert.ReferenceIdeal.Step.b60
  rw [← al_11 h, ← al_59 h]
  try rfl
set_option maxRecDepth 8192 in
theorem al_61 (h : Holds V0 s j) : (Host.dotGeneral dot_S8x4x64x64_S8x4x64x128_S8x4x64x128_3_2_2_3_01_01 none (mulf (res_main_while0b_v190 V0) (broadcastInDim S8x4x64x64 ![0, 1, 2, 3] bcast_S8x4x64x1_S8x4x64x64_0_1_2_3 (broadcastInDim S8x4x64x1 ![0, 1, 2] bcast_S8x4x64_S8x4x64x1_0_1_2 (Host.exp (res_main_while0b_v194 V0))))) (V0 (Proc.devRef .tc main_v176_5)) : (Proc.devRef .tc main_while0b_v219 : DevRef τ sig).ty.Contents (Elt F)) = Cert.ReferenceIdeal.Step.b61 j s := by
  unfold Cert.ReferenceIdeal.Step.b61
  rw [← al_53 h, h.f_5]
  try rfl
set_option maxRecDepth 8192 in
theorem al_62 (h : Holds V0 s j) : (addf (Host.dotGeneral dot_S8x4x64x64_S8x4x64x128_S8x4x64x128_3_2_2_3_01_01 none (mulf (Host.dotGeneral dot_S8x4x64x64_S8x4x64x64_S8x4x64x64_3_3_2_2_01_01 none (res_main_while0b_v190 V0) (res_main_while0b_v191 V0)) (Host.exp (select (broadcastInDim S8x4x64x64 ![2, 3] bcast_S64x64_S8x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (subf (broadcastInDim S8x4x64x64 ![0, 1, 2, 3] bcast_S8x4x64x1_S8x4x64x64_0_1_2_3 (broadcastInDim S8x4x64x1 ![0, 1, 2] bcast_S8x4x64_S8x4x64x1_0_1_2 (res_main_while0b_v194 V0))) (broadcastInDim S8x4x64x64 ![0, 1, 2, 3] bcast_S8x4x1x64_S8x4x64x64_0_1_2_3 (broadcastInDim S8x4x1x64 ![0, 1, 3] bcast_S8x4x64_S8x4x1x64_0_1_3 (res_main_while0b_v194 V0)))) (broadcastInDim S8x4x64x64 ![] bcast_S_S8x4x64x64 (constant S_ .f32 0xFF800000#32))))) (res_main_while0b_v192 V0)) (Host.dotGeneral dot_S8x4x64x64_S8x4x64x128_S8x4x64x128_3_2_2_3_01_01 none (mulf (res_main_while0b_v190 V0) (broadcastInDim S8x4x64x64 ![0, 1, 2, 3] bcast_S8x4x64x1_S8x4x64x64_0_1_2_3 (broadcastInDim S8x4x64x1 ![0, 1, 2] bcast_S8x4x64_S8x4x64x1_0_1_2 (Host.exp (res_main_while0b_v194 V0))))) (V0 (Proc.devRef .tc main_v176_5))) : (Proc.devRef .tc main_while0b_v220 : DevRef τ sig).ty.Contents (Elt F)) = Cert.ReferenceIdeal.Step.b62 j s := by
  unfold Cert.ReferenceIdeal.Step.b62
  rw [← al_49 h, ← al_61 h]
  try rfl
set_option maxRecDepth 8192 in
theorem al_63 (h : Holds V0 s j) : (extractStridedSlice S8x4x1 ![0, 0, 63] (res_main_while0b_v194 V0) slices_S8x4x64_S8x4x1_0_0_63 : (Proc.devRef .tc main_while0b_v221 : DevRef τ sig).ty.Contents (Elt F)) = Cert.ReferenceIdeal.Step.b63 j s := by
  unfold Cert.ReferenceIdeal.Step.b63
  rw [← al_25 h]
  try rfl
set_option maxRecDepth 8192 in
theorem al_64 (h : Holds V0 s j) : (shapeCast S8x4 (extractStridedSlice S8x4x1 ![0, 0, 63] (res_main_while0b_v194 V0) slices_S8x4x64_S8x4x1_0_0_63) shapeCasts_S8x4x1_S8x4 : (Proc.devRef .tc main_while0b_v222 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (Host.exp (shapeCast S8x4 (extractStridedSlice S8x4x1 ![0, 0, 63] (res_main_while0b_v194 V0) slices_S8x4x64_S8x4x1_0_0_63) shapeCasts_S8x4x1_S8x4) : (Proc.devRef .tc main_while0b_v223 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (broadcastInDim S8x4x1x1 ![0, 1] bcast_S8x4_S8x4x1x1_0_1 (Host.exp (shapeCast S8x4 (extractStridedSlice S8x4x1 ![0, 0, 63] (res_main_while0b_v194 V0) slices_S8x4x64_S8x4x1_0_0_63) shapeCasts_S8x4x1_S8x4)) : (Proc.devRef .tc main_while0b_v224 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (broadcastInDim S8x4x64x128 ![0, 1, 2, 3] bcast_S8x4x1x1_S8x4x64x128_0_1_2_3 (broadcastInDim S8x4x1x1 ![0, 1] bcast_S8x4_S8x4x1x1_0_1 (Host.exp (shapeCast S8x4 (extractStridedSlice S8x4x1 ![0, 0, 63] (res_main_while0b_v194 V0) slices_S8x4x64_S8x4x1_0_0_63) shapeCasts_S8x4x1_S8x4))) : (Proc.devRef .tc main_while0b_v225 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (mulf (V0 (Proc.devRef .tc main_v176_5)) (broadcastInDim S8x4x64x128 ![0, 1, 2, 3] bcast_S8x4x1x1_S8x4x64x128_0_1_2_3 (broadcastInDim S8x4x1x1 ![0, 1] bcast_S8x4_S8x4x1x1_0_1 (Host.exp (shapeCast S8x4 (extractStridedSlice S8x4x1 ![0, 0, 63] (res_main_while0b_v194 V0) slices_S8x4x64_S8x4x1_0_0_63) shapeCasts_S8x4x1_S8x4)))) : (Proc.devRef .tc main_while0b_v226 : DevRef τ sig).ty.Contents (Elt F)) = Cert.ReferenceIdeal.Step.b68 j s := by
  unfold Cert.ReferenceIdeal.Step.b68
  rw [← al_67 h, h.f_5]
  try rfl
set_option maxRecDepth 8192 in
theorem al_69 (h : Holds V0 s j) : (Host.dotGeneral dot_S8x4x64x64_S8x4x64x128_S8x4x64x128_2_2_3_3_01_01 none (mulf (res_main_while0b_v191 V0) (broadcastInDim S8x4x64x64 ![0, 1, 2, 3] bcast_S8x4x64x1_S8x4x64x64_0_1_2_3 (broadcastInDim S8x4x64x1 ![0, 1, 2] bcast_S8x4x64_S8x4x64x1_0_1_2 (Host.exp (subf (broadcastInDim S8x4x64 ![0, 1, 2] bcast_S8x4x1_S8x4x64_0_1_2 (extractStridedSlice S8x4x1 ![0, 0, 63] (res_main_while0b_v194 V0) slices_S8x4x64_S8x4x1_0_0_63)) (res_main_while0b_v194 V0)))))) (res_main_while0b_v192 V0) : (Proc.devRef .tc main_while0b_v227 : DevRef τ sig).ty.Contents (Elt F)) = Cert.ReferenceIdeal.Step.b69 j s := by
  unfold Cert.ReferenceIdeal.Step.b69
  rw [← al_60 h, ← al_17 h]
  try rfl
set_option maxRecDepth 8192 in
theorem al_70 (h : Holds V0 s j) : (addf (mulf (V0 (Proc.devRef .tc main_v176_5)) (broadcastInDim S8x4x64x128 ![0, 1, 2, 3] bcast_S8x4x1x1_S8x4x64x128_0_1_2_3 (broadcastInDim S8x4x1x1 ![0, 1] bcast_S8x4_S8x4x1x1_0_1 (Host.exp (shapeCast S8x4 (extractStridedSlice S8x4x1 ![0, 0, 63] (res_main_while0b_v194 V0) slices_S8x4x64_S8x4x1_0_0_63) shapeCasts_S8x4x1_S8x4))))) (Host.dotGeneral dot_S8x4x64x64_S8x4x64x128_S8x4x64x128_2_2_3_3_01_01 none (mulf (res_main_while0b_v191 V0) (broadcastInDim S8x4x64x64 ![0, 1, 2, 3] bcast_S8x4x64x1_S8x4x64x64_0_1_2_3 (broadcastInDim S8x4x64x1 ![0, 1, 2] bcast_S8x4x64_S8x4x64x1_0_1_2 (Host.exp (subf (broadcastInDim S8x4x64 ![0, 1, 2] bcast_S8x4x1_S8x4x64_0_1_2 (extractStridedSlice S8x4x1 ![0, 0, 63] (res_main_while0b_v194 V0) slices_S8x4x64_S8x4x1_0_0_63)) (res_main_while0b_v194 V0)))))) (res_main_while0b_v192 V0)) : (Proc.devRef .tc main_while0b_v228 : DevRef τ sig).ty.Contents (Elt F)) = Cert.ReferenceIdeal.Step.b70 j s := by
  unfold Cert.ReferenceIdeal.Step.b70
  rw [← al_68 h, ← al_69 h]
  try rfl
set_option maxRecDepth 8192 in
theorem al_71 (h : Holds V0 s j) : (broadcastInDim S1x8x4x64x128 ![1, 2, 3, 4] bcast_S8x4x64x128_S1x8x4x64x128_1_2_3_4 (addf (Host.dotGeneral dot_S8x4x64x64_S8x4x64x128_S8x4x64x128_3_2_2_3_01_01 none (mulf (Host.dotGeneral dot_S8x4x64x64_S8x4x64x64_S8x4x64x64_3_3_2_2_01_01 none (res_main_while0b_v190 V0) (res_main_while0b_v191 V0)) (Host.exp (select (broadcastInDim S8x4x64x64 ![2, 3] bcast_S64x64_S8x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (subf (broadcastInDim S8x4x64x64 ![0, 1, 2, 3] bcast_S8x4x64x1_S8x4x64x64_0_1_2_3 (broadcastInDim S8x4x64x1 ![0, 1, 2] bcast_S8x4x64_S8x4x64x1_0_1_2 (res_main_while0b_v194 V0))) (broadcastInDim S8x4x64x64 ![0, 1, 2, 3] bcast_S8x4x1x64_S8x4x64x64_0_1_2_3 (broadcastInDim S8x4x1x64 ![0, 1, 3] bcast_S8x4x64_S8x4x1x64_0_1_3 (res_main_while0b_v194 V0)))) (broadcastInDim S8x4x64x64 ![] bcast_S_S8x4x64x64 (constant S_ .f32 0xFF800000#32))))) (res_main_while0b_v192 V0)) (Host.dotGeneral dot_S8x4x64x64_S8x4x64x128_S8x4x64x128_3_2_2_3_01_01 none (mulf (res_main_while0b_v190 V0) (broadcastInDim S8x4x64x64 ![0, 1, 2, 3] bcast_S8x4x64x1_S8x4x64x64_0_1_2_3 (broadcastInDim S8x4x64x1 ![0, 1, 2] bcast_S8x4x64_S8x4x64x1_0_1_2 (Host.exp (res_main_while0b_v194 V0))))) (V0 (Proc.devRef .tc main_v176_5)))) : (Proc.devRef .tc main_while0b_call13_v0 : DevRef τ sig).ty.Contents (Elt F)) = Cert.ReferenceIdeal.Step.b71 j s := by
  unfold Cert.ReferenceIdeal.Step.b71
  rw [← al_62 h]
  try rfl
set_option maxRecDepth 8192 in
theorem al_72 (h : Holds V0 s j) : (constantI S_ 32 0#32 : (Proc.devRef .tc main_while0b_call13_c : DevRef τ sig).ty.Contents (Elt F)) = Cert.ReferenceIdeal.Step.b72 j s := by
  unfold Cert.ReferenceIdeal.Step.b72
  rfl
set_option maxRecDepth 8192 in
theorem al_73 (h : Holds V0 s j) : (constantI S_ 32 0#32 : (Proc.devRef .tc main_while0b_call13_c_0 : DevRef τ sig).ty.Contents (Elt F)) = Cert.ReferenceIdeal.Step.b73 j s := by
  unfold Cert.ReferenceIdeal.Step.b73
  rfl
set_option maxRecDepth 8192 in
theorem al_74 (h : Holds V0 s j) : (constantI S_ 32 0#32 : (Proc.devRef .tc main_while0b_call13_c_1 : DevRef τ sig).ty.Contents (Elt F)) = Cert.ReferenceIdeal.Step.b74 j s := by
  unfold Cert.ReferenceIdeal.Step.b74
  rfl
set_option maxRecDepth 8192 in
theorem al_75 (h : Holds V0 s j) : (constantI S_ 32 0#32 : (Proc.devRef .tc main_while0b_call13_c_2 : DevRef τ sig).ty.Contents (Elt F)) = Cert.ReferenceIdeal.Step.b75 j s := by
  unfold Cert.ReferenceIdeal.Step.b75
  rfl
set_option maxRecDepth 8192 in
theorem al_76 (h : Holds V0 s j) : (Host.dynamicUpdateSlice (V0 (Proc.devRef .tc main_v176_6)) (broadcastInDim S1x8x4x64x128 ![1, 2, 3, 4] bcast_S8x4x64x128_S1x8x4x64x128_1_2_3_4 (addf (Host.dotGeneral dot_S8x4x64x64_S8x4x64x128_S8x4x64x128_3_2_2_3_01_01 none (mulf (Host.dotGeneral dot_S8x4x64x64_S8x4x64x64_S8x4x64x64_3_3_2_2_01_01 none (res_main_while0b_v190 V0) (res_main_while0b_v191 V0)) (Host.exp (select (broadcastInDim S8x4x64x64 ![2, 3] bcast_S64x64_S8x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (subf (broadcastInDim S8x4x64x64 ![0, 1, 2, 3] bcast_S8x4x64x1_S8x4x64x64_0_1_2_3 (broadcastInDim S8x4x64x1 ![0, 1, 2] bcast_S8x4x64_S8x4x64x1_0_1_2 (res_main_while0b_v194 V0))) (broadcastInDim S8x4x64x64 ![0, 1, 2, 3] bcast_S8x4x1x64_S8x4x64x64_0_1_2_3 (broadcastInDim S8x4x1x64 ![0, 1, 3] bcast_S8x4x64_S8x4x1x64_0_1_3 (res_main_while0b_v194 V0)))) (broadcastInDim S8x4x64x64 ![] bcast_S_S8x4x64x64 (constant S_ .f32 0xFF800000#32))))) (res_main_while0b_v192 V0)) (Host.dotGeneral dot_S8x4x64x64_S8x4x64x128_S8x4x64x128_3_2_2_3_01_01 none (mulf (res_main_while0b_v190 V0) (broadcastInDim S8x4x64x64 ![0, 1, 2, 3] bcast_S8x4x64x1_S8x4x64x64_0_1_2_3 (broadcastInDim S8x4x64x1 ![0, 1, 2] bcast_S8x4x64_S8x4x64x1_0_1_2 (Host.exp (res_main_while0b_v194 V0))))) (V0 (Proc.devRef .tc main_v176_5))))) (fun k => (((![V0 (Proc.devRef .tc main_v176_4), constantI S_ 32 0#32, constantI S_ 32 0#32, constantI S_ 32 0#32, constantI S_ 32 0#32] : Fin 5 → (⟨S_, .i32⟩ : BufTy).Contents (Elt F))) k (Shape.Idx.first h_S_)).toInt) updateFits_S68x8x4x64x128_S1x8x4x64x128 : (Proc.devRef .tc main_while0b_v229 : DevRef τ sig).ty.Contents (Elt F)) = Cert.ReferenceIdeal.Step.b76 j s := by
  unfold Cert.ReferenceIdeal.Step.b76
  rw [← al_71 h, ← al_72 h, ← al_73 h, ← al_74 h, ← al_75 h, h.f_6, h.n_4]
  try rfl

/-! One trip's step of the carried values is `step`, field by field; a counter steps to the next number. -/

theorem step_5 (h : Holds V0 s j) : step_main_v176_5 V0 = (step j s).main_v176_5 := by
  unfold step_main_v176_5 Cert.ReferenceIdeal.Step.step
  show id (addf (mulf (V0 (Proc.devRef .tc main_v176_5)) (broadcastInDim S8x4x64x128 ![0, 1, 2, 3] bcast_S8x4x1x1_S8x4x64x128_0_1_2_3 (broadcastInDim S8x4x1x1 ![0, 1] bcast_S8x4_S8x4x1x1_0_1 (Host.exp (shapeCast S8x4 (extractStridedSlice S8x4x1 ![0, 0, 63] (res_main_while0b_v194 V0) slices_S8x4x64_S8x4x1_0_0_63) shapeCasts_S8x4x1_S8x4))))) (Host.dotGeneral dot_S8x4x64x64_S8x4x64x128_S8x4x64x128_2_2_3_3_01_01 none (mulf (res_main_while0b_v191 V0) (broadcastInDim S8x4x64x64 ![0, 1, 2, 3] bcast_S8x4x64x1_S8x4x64x64_0_1_2_3 (broadcastInDim S8x4x64x1 ![0, 1, 2] bcast_S8x4x64_S8x4x64x1_0_1_2 (Host.exp (subf (broadcastInDim S8x4x64 ![0, 1, 2] bcast_S8x4x1_S8x4x64_0_1_2 (extractStridedSlice S8x4x1 ![0, 0, 63] (res_main_while0b_v194 V0) slices_S8x4x64_S8x4x1_0_0_63)) (res_main_while0b_v194 V0)))))) (res_main_while0b_v192 V0))) = _
  rw [al_70 h]
  try rfl
theorem step_6 (h : Holds V0 s j) : step_main_v176_6 V0 = (step j s).main_v176_6 := by
  refine Eq.trans ?_ (al_76 h)
  unfold step_main_v176_6
  rfl
theorem step_4 (h : Holds V0 s j) : step_main_v176_4 V0 = constantI S_ 32 (BitVec.ofNat 32 (j + 1)) := by
  unfold step_main_v176_4
  rw [h.n_4]
  funext i
  show BitVec.ofNat 32 j + 1#32 = BitVec.ofNat 32 (j + 1)
  simp only [BitVec.ofNat_add]

set_option maxRecDepth 8192 in
theorem out_main_v189_holds (h : Holds V0 s j) : out_main_v189 V0 = Cert.ReferenceIdeal.Step.R_main_v189 s := by
  unfold out_main_v189 Cert.ReferenceIdeal.Step.R_main_v189
  rw [h.f_6]
  try rfl

/-- One trip keeps the valuation holding: `step` of the state, the same set-up values, the next number. -/
theorem holds_step (h : Holds V0 s j) : Holds (STEP V0) (step j s) (j + 1) where
  f_5 := (STEP_main_v176_5 V0).trans (step_5 h)
  f_6 := (STEP_main_v176_6 V0).trans (step_6 h)
  n_4 := (STEP_main_v176_4 V0).trans (step_4 h)
  k_3 := (STEP_main_v176_3 V0).trans h.k_3
  f_0 := (STEP_main_v176_0 V0).trans h.f_0
  f_1 := (STEP_main_v176_1 V0).trans h.f_1
  f_2 := (STEP_main_v176_2 V0).trans h.f_2

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
set_option maxHeartbeats 900000 in
/-- What @main's operations before the loop leave: the set-up values, number 0, the initial state. -/
theorem entry_holds : Holds (entryContents preI m c) (initState m c) 0 := by
  exact ⟨e5 m c, e6 m c, e0 m c, e1 m c, e2 m c, e4 m c, e3 m c⟩

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 68 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v189) = Cert.ReferenceIdeal.Step.R_main_v189 (it c 68)
      ∧ r.2.mem ((c.tc : Thread nD τ).loc main_arg0) = m ((c.tc : Thread nD τ).loc main_arg0) :=
  (θ_run defs _ _).mono (fun _ h c =>
    have hk := holds_iter m c (it c) (h0 c) (hs c) 68
    ⟨(h c).1.trans (out_main_v189_holds hk), (h c).2⟩) (Value.run m ρ)

end Cert.Proof.Ret.Run

end
-- ==== Proof.RetClaim.lean ====
/-
  The claims of the retention call, from its proofs about the kernel and the reference.
-/
module

public import proofs.«01_k».proof.Defs
public import proofs.«01_k».proof.Proof.RetKerAll
public import proofs.«01_k».proof.Proof.RetRefRun
public import Idealize.ShloMosaic.Lib.Quiescent

@[expose] public section

noncomputable section

namespace Cert.Proof.Ret

open Cert.KernelIdeal Cert.KernelIdeal.Gen Idealize.ShloMosaic Idealize.ShloMosaic.TcCoe Idealize.SL.Sem

/-- The reference's run: its result is the recurrence's last state read out, its argument unchanged. -/
theorem run_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v189)
        = Cert.ReferenceIdeal.Step.R_main_v189 (Ref.it (m ((c.tc : Thread Cert.ReferenceIdeal.nD Cert.ReferenceIdeal.τ).loc Cert.ReferenceIdeal.main_arg0)) 68)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) :=
  Run.run_iter (F := Ideal) m ρ (fun c => Ref.it (m ((c.tc : Thread Cert.ReferenceIdeal.nD Cert.ReferenceIdeal.τ).loc Cert.ReferenceIdeal.main_arg0)))
    (fun c => rfl) (fun c n => rfl)

/-- Both programs run, the kernel's result array and the reference's end equal, and the argument is unchanged. -/
theorem algebraic : Cert.algebraic_KernelIdeal_ReferenceIdeal := by
  intro m ρ m' ρ' _ hagree
  refine ⟨fun c => (dats m 0 c).arrAt 8 cfg0.N, Cert.KernelIdeal.Value.run_blocks m ρ, ?_⟩
  refine (θ_run Cert.ReferenceIdeal.defs _ _).mono (fun r h c => ⟨(h c).1.trans ?_, (h c).2⟩) (run_ref m' ρ')
  have e : Cert.ReferenceIdeal.Step.R_main_v189 (Ref.it (m' ((c.tc : Thread Cert.ReferenceIdeal.nD Cert.ReferenceIdeal.τ).loc Cert.ReferenceIdeal.main_arg0)) 68)
      = (dats m 0 c).arrAt 8 cfg0.N := by
    rw [hagree c]
    exact (Ker.final m c).symm
  exact e

/-- The frame of the reference: its run leaves the argument, and it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (run_ref m ρ)

/-- The four named decays. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

end Cert.Proof.Ret

end
-- ==== Proof.Merge.lean ====
/-
  The gated merge: the array that the kernel leaves equals the reference's, element by element.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.PureOps.Ideal

@[expose] public section

noncomputable section

namespace Cert.Proof.Merge

open Cert.Kernel2Ideal Cert.Kernel2Ideal.Gen Idealize.ShloMosaic Idealize.ShloMosaic.TcCoe Idealize.SL.Sem
open Idealize.ShloMosaic.Pipeline (Dat)

/-- The block index of every window at a grid point. -/
theorem idx (t : Fin cfg0.N) :
    win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![0, 0, (grid0.coords t 1).val]
    ∧ win0_6.index t = ![0, 0, (grid0.coords t 1).val] ∧ win0_7.index t = ![0, 0, (grid0.coords t 1).val]
    ∧ win0_8.index t = ![(grid0.coords t 0).val, (grid0.coords t 1).val] :=
  (by decide +kernel : ∀ t : Fin grid0.N,
    win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![0, 0, (grid0.coords t 1).val]
    ∧ win0_6.index t = ![0, 0, (grid0.coords t 1).val] ∧ win0_7.index t = ![0, 0, (grid0.coords t 1).val]
    ∧ win0_8.index t = ![(grid0.coords t 0).val, (grid0.coords t 1).val]) t

variable (m : (ℓ : Loc nD τ sig) → Buf (Elt Ideal) ℓ)
  (m' : (ℓ : Loc Cert.Reference2Ideal.nD Cert.Reference2Ideal.τ Cert.Reference2Ideal.sig) → Buf (Elt Ideal) ℓ)

set_option maxHeartbeats 8000000 in
/-- The array that the kernel leaves is the reference's result: at every place both are the sum over the four
    branches of the gate of the row of `h` times the row of the branch, and the reads agree. -/
theorem final (c : Dev nD)
    (h0 : m' ((c.tc : Thread Cert.Reference2Ideal.nD Cert.Reference2Ideal.τ).loc Cert.Reference2Ideal.main_arg0) = m ((c.tc : Thread nD τ).loc main_arg0))
    (h1 : m' ((c.tc : Thread Cert.Reference2Ideal.nD Cert.Reference2Ideal.τ).loc Cert.Reference2Ideal.main_arg1) = m ((c.tc : Thread nD τ).loc main_arg1))
    (h2 : m' ((c.tc : Thread Cert.Reference2Ideal.nD Cert.Reference2Ideal.τ).loc Cert.Reference2Ideal.main_arg2) = m ((c.tc : Thread nD τ).loc main_arg2))
    (h3 : m' ((c.tc : Thread Cert.Reference2Ideal.nD Cert.Reference2Ideal.τ).loc Cert.Reference2Ideal.main_arg3) = m ((c.tc : Thread nD τ).loc main_arg3))
    (h4 : m' ((c.tc : Thread Cert.Reference2Ideal.nD Cert.Reference2Ideal.τ).loc Cert.Reference2Ideal.main_arg4) = m ((c.tc : Thread nD τ).loc main_arg4))
    (h5 : m' ((c.tc : Thread Cert.Reference2Ideal.nD Cert.Reference2Ideal.τ).loc Cert.Reference2Ideal.main_arg5) = m ((c.tc : Thread nD τ).loc main_arg5))
    (h6 : m' ((c.tc : Thread Cert.Reference2Ideal.nD Cert.Reference2Ideal.τ).loc Cert.Reference2Ideal.main_arg6) = m ((c.tc : Thread nD τ).loc main_arg6))
    (h7 : m' ((c.tc : Thread Cert.Reference2Ideal.nD Cert.Reference2Ideal.τ).loc Cert.Reference2Ideal.main_arg7) = m ((c.tc : Thread nD τ).loc main_arg7)) :
    (dats m 0 c).arrAt 8 cfg0.N = Cert.Reference2Ideal.Value.res_main_v80 m' c := by
  unfold Cert.Reference2Ideal.Value.res_main_v80
  rw [h0, h1, h2, h3, h4, h5, h6, h7]
  refine (dats m 0 c).arrAt_eq_of_covers 8 _ (by decide +kernel) fun t hf y => ?_
  blk_simp
  rw [after0_8]
  frame_out
  pointwise [k0_pay1, k0_pay2]
  simp only [Ideal.logistic]
  blk_point [iblk, V, idx t]

end Cert.Proof.Merge

end
-- ==== Proof.MergeClaim.lean ====
/-
  The gated merge: the claims of its kernel and its reference.
-/
module

public import proofs.«01_k».proof.Defs
public import proofs.«01_k».proof.Proof.Merge
public import Idealize.ShloMosaic.Lib.Quiescent

@[expose] public section

noncomputable section

namespace Cert.Proof.Merge

open Cert.Kernel2Ideal Cert.Kernel2Ideal.Gen Idealize.ShloMosaic Idealize.ShloMosaic.TcCoe Idealize.SL.Sem

/-- Both programs run, the kernel's result array and the reference's end equal, and the arguments are unchanged. -/
theorem algebraic : Cert.algebraic_Kernel2Ideal_Reference2Ideal := by
  intro m ρ m' ρ' _ hagree
  refine ⟨fun c => (dats m 0 c).arrAt 8 cfg0.N, Cert.Kernel2Ideal.Value.run_blocks m ρ, ?_⟩
  refine (θ_run Cert.Reference2Ideal.defs _ _).mono (fun r h c => ⟨(h c).1.trans ?_, (h c).2⟩)
    (Cert.Reference2Ideal.Value.run (F := Ideal) m' ρ')
  obtain ⟨h0, h1, h2, h3, h4, h5, h6, h7⟩ := hagree c
  exact (final m m' c h0 h1 h2 h3 h4 h5 h6 h7).symm

/-- The frame of the reference: its run leaves the arguments, and it declares no semaphore. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

end Cert.Proof.Merge

end
-- ==== Proof.OutProj.lean ====
/-
  (The output projection with its gated residual: the kernel's array equals the reference's, element by element.)
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.PureOps.Ideal

@[expose] public section

noncomputable section

namespace Cert.Proof.OutProj.Ref

open Cert.Reference3Ideal Idealize.ShloMosaic Idealize.ShloMosaic.TcCoe Idealize.SL.Sem
open Cert.Reference3Ideal Cert.Reference3Ideal.Gen Idealize.ShloMosaic Idealize.ShloMosaic.TcCoe Idealize.SL.Sem Idealize.ShloMosaic.StableHlo

/-- The reference's result as a term of its arguments. -/
def res {F : FTy → Type} [FloatOps F] (m : (ℓ : Loc nD τ sig) → Buf (Elt F) ℓ) (c : Dev nD) : Buf (Elt F) ((c.tc : Thread nD τ).loc main_v23) :=
  (concatenate S34816x2048 0 [⟨S32768x2048, (shapeCast _ (addf (shapeCast _ (extractStridedSlice S32768x2048 ![0, 0] (m ((c.tc : Thread nD τ).loc main_arg2)) slices_S34816x2048_S32768x2048_0_0) shapeCasts_S32768x2048_S8x4096x2048) (mulf (broadcastInDim S8x4096x2048 ![0, 1, 2] bcast_S8x1x2048_S8x4096x2048_0_1_2 (extractStridedSlice S8x1x2048 ![1, 0, 0] (m ((c.tc : Thread nD τ).loc main_arg3)) slices_S9x1x2048_S8x1x2048_1_0_0)) (Host.dotGeneral dot_S8x4096x2048_S2048x2048_S8x4096x2048_2_0_01_1_n_n none (shapeCast _ (extractStridedSlice S32768x2048 ![0, 0] (extf .f32 (m ((c.tc : Thread nD τ).loc main_arg0)) bitsLt_bf16_f32) slices_S34816x2048_S32768x2048_0_0) shapeCasts_S32768x2048_S8x4096x2048) (m ((c.tc : Thread nD τ).loc main_arg1))))) shapeCasts_S8x4096x2048_S32768x2048)⟩, ⟨S2048x2048, (shapeCast _ (addf (shapeCast _ (extractStridedSlice S2048x2048 ![32768, 0] (m ((c.tc : Thread nD τ).loc main_arg2)) slices_S34816x2048_S2048x2048_32768_0) shapeCasts_S2048x2048_S8x256x2048) (mulf (broadcastInDim S8x256x2048 ![0, 1, 2] bcast_S1x1x2048_S8x256x2048_0_1_2 (broadcastInDim S1x1x2048 ![1, 2] bcast_S1x2048_S1x1x2048_1_2 (shapeCast _ (extractStridedSlice S1x1x2048 ![0, 0, 0] (m ((c.tc : Thread nD τ).loc main_arg3)) slices_S9x1x2048_S1x1x2048_0_0_0) shapeCasts_S1x1x2048_S1x2048))) (Host.dotGeneral dot_S8x256x2048_S2048x2048_S8x256x2048_2_0_01_1_n_n none (shapeCast _ (extractStridedSlice S2048x2048 ![32768, 0] (extf .f32 (m ((c.tc : Thread nD τ).loc main_arg0)) bitsLt_bf16_f32) slices_S34816x2048_S2048x2048_32768_0) shapeCasts_S2048x2048_S8x256x2048) (m ((c.tc : Thread nD τ).loc main_arg1))))) shapeCasts_S8x256x2048_S2048x2048)⟩] concatenates_S32768x2048_S2048x2048_S34816x2048_d0)

end Cert.Proof.OutProj.Ref

namespace Cert.Proof.OutProj

open Cert.Kernel3Ideal Cert.Kernel3Ideal.Gen Idealize.ShloMosaic Idealize.ShloMosaic.TcCoe Idealize.SL.Sem
open Idealize.ShloMosaic.Pipeline (Dat)

/-- The block index of every window at a grid point. -/
theorem idx (t : Fin cfg0.N) :
    win0_0.index t = ![(grid0.coords t 0).val, 0] ∧ win0_1.index t = ![0, (grid0.coords t 1).val] ∧ win0_2.index t = ![(grid0.coords t 0).val, (grid0.coords t 1).val] ∧ win0_3.index t = ![if (grid0.coords t 0).val < 32 then 1 + (grid0.coords t 0).val / 4 else 0, 0, (grid0.coords t 1).val] ∧ win0_4.index t = ![(grid0.coords t 0).val, (grid0.coords t 1).val] :=
  (by decide +kernel : ∀ t : Fin grid0.N,
    win0_0.index t = ![(grid0.coords t 0).val, 0] ∧ win0_1.index t = ![0, (grid0.coords t 1).val] ∧ win0_2.index t = ![(grid0.coords t 0).val, (grid0.coords t 1).val] ∧ win0_3.index t = ![if (grid0.coords t 0).val < 32 then 1 + (grid0.coords t 0).val / 4 else 0, 0, (grid0.coords t 1).val] ∧ win0_4.index t = ![(grid0.coords t 0).val, (grid0.coords t 1).val]) t

variable (m : (ℓ : Loc nD τ sig) → Buf (Elt Ideal) ℓ)
  (m' : (ℓ : Loc Cert.Reference3Ideal.nD Cert.Reference3Ideal.τ Cert.Reference3Ideal.sig) → Buf (Elt Ideal) ℓ)

set_option maxHeartbeats 8000000 in
/-- The array that the kernel leaves is the reference's result. -/
theorem final (c : Dev nD)
    (h0 : m' ((c.tc : Thread Cert.Reference3Ideal.nD Cert.Reference3Ideal.τ).loc Cert.Reference3Ideal.main_arg0) = m ((c.tc : Thread nD τ).loc main_arg0))
    (h1 : m' ((c.tc : Thread Cert.Reference3Ideal.nD Cert.Reference3Ideal.τ).loc Cert.Reference3Ideal.main_arg1) = m ((c.tc : Thread nD τ).loc main_arg1))
    (h2 : m' ((c.tc : Thread Cert.Reference3Ideal.nD Cert.Reference3Ideal.τ).loc Cert.Reference3Ideal.main_arg2) = m ((c.tc : Thread nD τ).loc main_arg2))
    (h3 : m' ((c.tc : Thread Cert.Reference3Ideal.nD Cert.Reference3Ideal.τ).loc Cert.Reference3Ideal.main_arg3) = m ((c.tc : Thread nD τ).loc main_arg3)) :
    (dats m 0 c).arrAt 4 cfg0.N = Ref.res (F := Ideal) m' c := by
  unfold Ref.res
  rw [h0, h1, h2, h3]
  refine (dats m 0 c).arrAt_eq_of_covers 4 _ (by decide +kernel) fun t hf y => ?_
  blk_simp
  rw [after0_4]
  frame_out
  pointwise [k0_pay1]
  have hr : (((View.whole main_v1).slice (win0_4.rect t)).emb y 0).val = (grid0.coords t 0).val * 1024 + (y 0).val := by
    blk_ext! [idx t]
  split
  · rename_i hlt
    rw [hr] at hlt
    blk_point [iblk, V, idx t]
    split <;> omega
  · rename_i hlt
    rw [hr] at hlt
    blk_point [iblk, V, idx t]
    split <;> omega

end Cert.Proof.OutProj

end
-- ==== Proof.OutProjClaim.lean ====
/-
  The output projection: the claims of its kernel and its reference.
-/
module

public import proofs.«01_k».proof.Defs
public import proofs.«01_k».proof.Proof.OutProj
public import Idealize.ShloMosaic.Lib.Quiescent

@[expose] public section

noncomputable section

namespace Cert.Proof.OutProj

open Cert.Kernel3Ideal Cert.Kernel3Ideal.Gen Idealize.ShloMosaic Idealize.ShloMosaic.TcCoe Idealize.SL.Sem

/-- Both programs run, the kernel's result array and the reference's end equal, and the arguments are unchanged. -/
theorem algebraic : Cert.algebraic_Kernel3Ideal_Reference3Ideal := by
  intro m ρ m' ρ' _ hagree
  refine ⟨fun c => (dats m 0 c).arrAt 4 cfg0.N, Cert.Kernel3Ideal.Value.run_blocks m ρ, ?_⟩
  refine (θ_run Cert.Reference3Ideal.defs _ _).mono (fun r h c => ⟨(h c).1.trans ?_, (h c).2⟩)
    (Cert.Reference3Ideal.Value.run (F := Ideal) m' ρ')
  obtain ⟨h0, h1, h2, h3⟩ := hagree c
  exact (final m m' c h0 h1 h2 h3).symm

/-- The frame of the reference: its run leaves the arguments, and it declares no semaphore. -/
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

end Cert.Proof.OutProj

end
-- ==== Proof.FinalNorm.lean ====
/-
  (The final norm: the kernel's array equals the reference's, element by element.)
-/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.PureOps.Ideal

@[expose] public section

noncomputable section

namespace Cert.Proof.FinalNorm.Ref

open Cert.Reference5Ideal Idealize.ShloMosaic Idealize.ShloMosaic.TcCoe Idealize.SL.Sem
open Cert.Reference5Ideal Cert.Reference5Ideal.Gen Idealize.ShloMosaic Idealize.ShloMosaic.TcCoe Idealize.SL.Sem Idealize.ShloMosaic.StableHlo

/-- The reference's result as a term of its arguments. -/
def res {F : FTy → Type} [FloatOps F] (m : (ℓ : Loc nD τ sig) → Buf (Elt F) ℓ) (c : Dev nD) : Buf (Elt F) ((c.tc : Thread nD τ).loc main_v13) :=
  (mulf (mulf (extractStridedSlice S32768x2048 ![0, 0] (m ((c.tc : Thread nD τ).loc main_arg0)) slices_S34816x2048_S32768x2048_0_0) (broadcastInDim S32768x2048 ![0, 1] bcast_S32768x1_S32768x2048_0_1 (Host.rsqrt (addf (Host.divf (broadcastInDim S32768x1 ![0] bcast_S32768_S32768x1_0 (Host.reduceAdd (mulf (extractStridedSlice S32768x2048 ![0, 0] (m ((c.tc : Thread nD τ).loc main_arg0)) slices_S34816x2048_S32768x2048_0_0) (extractStridedSlice S32768x2048 ![0, 0] (m ((c.tc : Thread nD τ).loc main_arg0)) slices_S34816x2048_S32768x2048_0_0)) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (m ((c.tc : Thread nD τ).loc main_arg1)))))

end Cert.Proof.FinalNorm.Ref

namespace Cert.Proof.FinalNorm

open Cert.Kernel5Ideal Cert.Kernel5Ideal.Gen Idealize.ShloMosaic Idealize.ShloMosaic.TcCoe Idealize.SL.Sem
open Idealize.ShloMosaic.Pipeline (Dat)

/-- The block index of every window at a grid point. -/
theorem idx (t : Fin cfg0.N) :
    win0_0.index t = ![(grid0.coords t 0).val, 0] ∧ win0_1.index t = ![0, 0] ∧ win0_2.index t = ![(grid0.coords t 0).val, 0] :=
  (by decide +kernel : ∀ t : Fin grid0.N,
    win0_0.index t = ![(grid0.coords t 0).val, 0] ∧ win0_1.index t = ![0, 0] ∧ win0_2.index t = ![(grid0.coords t 0).val, 0]) t

variable (m : (ℓ : Loc nD τ sig) → Buf (Elt Ideal) ℓ)
  (m' : (ℓ : Loc Cert.Reference5Ideal.nD Cert.Reference5Ideal.τ Cert.Reference5Ideal.sig) → Buf (Elt Ideal) ℓ)

set_option maxHeartbeats 8000000 in
/-- The array that the kernel leaves is the reference's result. -/
theorem final (c : Dev nD)
    (h0 : m' ((c.tc : Thread Cert.Reference5Ideal.nD Cert.Reference5Ideal.τ).loc Cert.Reference5Ideal.main_arg0) = m ((c.tc : Thread nD τ).loc main_arg0))
    (h1 : m' ((c.tc : Thread Cert.Reference5Ideal.nD Cert.Reference5Ideal.τ).loc Cert.Reference5Ideal.main_arg1) = m ((c.tc : Thread nD τ).loc main_arg1)) :
    (dats m 0 c).arrAt 2 cfg0.N = Ref.res (F := Ideal) m' c := by
  unfold Ref.res
  rw [h0, h1]
  refine (dats m 0 c).arrAt_eq_of_covers 2 _ (by decide +kernel) fun t hf y => ?_
  blk_simp
  rw [after0_2]
  frame_out
  pointwise [k0_pay1]
  blk_point [iblk, V, idx t]

end Cert.Proof.FinalNorm

end
-- ==== Proof.FinalNormClaim.lean ====
/-
  The final norm: the claims of its kernel and its reference.
-/
module

public import proofs.«01_k».proof.Defs
public import proofs.«01_k».proof.Proof.FinalNorm
public import Idealize.ShloMosaic.Lib.Quiescent

@[expose] public section

noncomputable section

namespace Cert.Proof.FinalNorm

open Cert.Kernel5Ideal Cert.Kernel5Ideal.Gen Idealize.ShloMosaic Idealize.ShloMosaic.TcCoe Idealize.SL.Sem

/-- Both programs run, the kernel's result array and the reference's end equal, and the arguments are unchanged. -/
theorem algebraic : Cert.algebraic_Kernel5Ideal_Reference5Ideal := by
  intro m ρ m' ρ' _ hagree
  refine ⟨fun c => (dats m 0 c).arrAt 2 cfg0.N, Cert.Kernel5Ideal.Value.run_blocks m ρ, ?_⟩
  refine (θ_run Cert.Reference5Ideal.defs _ _).mono (fun r h c => ⟨(h c).1.trans ?_, (h c).2⟩)
    (Cert.Reference5Ideal.Value.run (F := Ideal) m' ρ')
  obtain ⟨h0, h1⟩ := hagree c
  exact (final m m' c h0 h1).symm

/-- The frame of the reference: its run leaves the arguments, and it declares no semaphore. -/
theorem frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

end Cert.Proof.FinalNorm

end
-- ==== Proof.SmallProj.lean ====
/-
  (The projection of the gate and decay columns: the kernel's array equals the reference's, element by element.)
-/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.PureOps.Ideal

@[expose] public section

noncomputable section

namespace Cert.Proof.SmallProj.Ref

open Cert.Reference6Ideal Idealize.ShloMosaic Idealize.ShloMosaic.TcCoe Idealize.SL.Sem
open Cert.Reference6Ideal Cert.Reference6Ideal.Gen Idealize.ShloMosaic Idealize.ShloMosaic.TcCoe Idealize.SL.Sem Idealize.ShloMosaic.StableHlo

/-- The reference's result as a term of its arguments. -/
def res {F : FTy → Type} [FloatOps F] (m : (ℓ : Loc nD τ sig) → Buf (Elt F) ℓ) (c : Dev nD) : Buf (Elt F) ((c.tc : Thread nD τ).loc main_v1) :=
  (Host.dotGeneral dot_S34816x2048_S2048x128_S34816x128_1_0_0_1_n_n none (extf .f32 (m ((c.tc : Thread nD τ).loc main_arg0)) bitsLt_bf16_f32) (m ((c.tc : Thread nD τ).loc main_arg1)))

end Cert.Proof.SmallProj.Ref

namespace Cert.Proof.SmallProj

open Cert.Kernel6Ideal Cert.Kernel6Ideal.Gen Idealize.ShloMosaic Idealize.ShloMosaic.TcCoe Idealize.SL.Sem
open Idealize.ShloMosaic.Pipeline (Dat)

/-- The block index of every window at a grid point. -/
theorem idx (t : Fin cfg0.N) :
    win0_0.index t = ![(grid0.coords t 0).val, 0] ∧ win0_1.index t = ![0, (grid0.coords t 1).val] ∧ win0_2.index t = ![(grid0.coords t 0).val, (grid0.coords t 1).val] :=
  (by decide +kernel : ∀ t : Fin grid0.N,
    win0_0.index t = ![(grid0.coords t 0).val, 0] ∧ win0_1.index t = ![0, (grid0.coords t 1).val] ∧ win0_2.index t = ![(grid0.coords t 0).val, (grid0.coords t 1).val]) t

variable (m : (ℓ : Loc nD τ sig) → Buf (Elt Ideal) ℓ)
  (m' : (ℓ : Loc Cert.Reference6Ideal.nD Cert.Reference6Ideal.τ Cert.Reference6Ideal.sig) → Buf (Elt Ideal) ℓ)

set_option maxHeartbeats 8000000 in
/-- The array that the kernel leaves is the reference's result. -/
theorem final (c : Dev nD)
    (h0 : m' ((c.tc : Thread Cert.Reference6Ideal.nD Cert.Reference6Ideal.τ).loc Cert.Reference6Ideal.main_arg0) = m ((c.tc : Thread nD τ).loc main_arg0))
    (h1 : m' ((c.tc : Thread Cert.Reference6Ideal.nD Cert.Reference6Ideal.τ).loc Cert.Reference6Ideal.main_arg1) = m ((c.tc : Thread nD τ).loc main_arg1)) :
    (dats m 0 c).arrAt 2 cfg0.N = Ref.res (F := Ideal) m' c := by
  unfold Ref.res
  rw [h0, h1]
  refine (dats m 0 c).arrAt_eq_of_covers 2 _ (by decide +kernel) fun t hf y => ?_
  blk_simp
  rw [after0_2]
  frame_out
  pointwise [k0_pay1]
  blk_point [iblk, V, idx t]

end Cert.Proof.SmallProj

end
-- ==== Proof.SmallProjClaim.lean ====
/-
  The projection of the gate and decay columns: the claims of its kernel and its reference.
-/
module

public import proofs.«01_k».proof.Defs
public import proofs.«01_k».proof.Proof.SmallProj
public import Idealize.ShloMosaic.Lib.Quiescent

@[expose] public section

noncomputable section

namespace Cert.Proof.SmallProj

open Cert.Kernel6Ideal Cert.Kernel6Ideal.Gen Idealize.ShloMosaic Idealize.ShloMosaic.TcCoe Idealize.SL.Sem

/-- Both programs run, the kernel's result array and the reference's end equal, and the arguments are unchanged. -/
theorem algebraic : Cert.algebraic_Kernel6Ideal_Reference6Ideal := by
  intro m ρ m' ρ' _ hagree
  refine ⟨fun c => (dats m 0 c).arrAt 2 cfg0.N, Cert.Kernel6Ideal.Value.run_blocks m ρ, ?_⟩
  refine (θ_run Cert.Reference6Ideal.defs _ _).mono (fun r h c => ⟨(h c).1.trans ?_, (h c).2⟩)
    (Cert.Reference6Ideal.Value.run (F := Ideal) m' ρ')
  obtain ⟨h0, h1⟩ := hagree c
  exact (final m m' c h0 h1).symm

/-- The frame of the reference: its run leaves the arguments, and it declares no semaphore. -/
theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

end Cert.Proof.SmallProj

end
-- ==== Proof.InProjIdealBody.lean ====
/-
  The input projection's body (idealized): its run in the two cases of the conditional, what every buffer holds point by
  point, the proof data, the body obligation, the run and the frame. The rows of the normalized input are stored at the
  first point of a row of blocks only; the output that holds them keeps them until the last point writes it back.
-/
module

public import proofs.«01_k».proof.Proof.Gen.Kernel4Ideal.Frame
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- membership in a rectangle of production extents recurses once per coordinate of the long axes
set_option maxRecDepth 16384

noncomputable section

namespace Cert.Proof.InProjIdeal

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 5) — by arithmetic of the point. -/
theorem hcond0_0 : ∀ t : Fin cfg0.N, cond0_0 (grid0.coords t) ↔ t.val % 5 = 0 :=
  (fun t => by
    have ht : t.val < 170 := Nat.lt_of_lt_of_eq t.isLt N_0
    have e0 : (grid0.coords t 0).val = t.val / 5 % 34 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 5 = 0)

/-! ## The kernel body on any staging memrefs: a subtype the run finds -/

/-- One staging buffer of output window 5, through which its contents are stated (`View.read_writes_of_cover`: the
    choice does not matter). -/
abbrev VO0_5 : View sig .tc .vmem S1024x1536 .bf16 := (Memref.whole cc0_stg5_0 : Memref sig .tc .vmem S1024x1536 .bf16).view
/-- One staging buffer of output window 6, through which its contents are stated (`View.read_writes_of_cover`: the
    choice does not matter). -/
abbrev VO0_6 : View sig .tc .vmem S1024x2048 .bf16 := (Memref.whole cc0_stg6_0 : Memref sig .tc .vmem S1024x2048 .bf16).view
/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1536 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2048 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x2048 .bf16 := Memref.whole cc0_scratch0
/-- The scratch `arg9` the kernel carries between points, as a view: what it holds is stated through it. -/
abbrev VS0_0 : View sig .tc .vmem S1024x2048 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken: points 0, 5, … 165: 34 of 170), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S1024x1536 .bf16) (harg7 : arg7.IsWhole) (arg8 : Memref sig .tc .vmem S1024x2048 .bf16) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S1x1x2048 .f32) (x3 : Vec F S1x1x2048 .f32) (x4 : Vec F S2048x1536 .bf16) :
    Σ' (L5 : List (View.Piece (Elt F) S1024x1536 .bf16)), Σ' (L6 : List (View.Piece (Elt F) S1024x2048 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_inproj i arg2 harg2 arg3 harg3 arg4 harg4 arg5 harg5 arg6 harg6 arg7 harg7 arg8 harg8 arg9 harg9) K } := by
  refine ⟨?_, ?_, ?_, fun E K => ?run⟩
  case run =>
    simp only [cc0_inproj_eq_skeleton]; unfold cc0_inproj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

-- (the run's proof term is large: the definition's epilogue — `abstractNestedProofs` — walks it past the default budget)
set_option maxHeartbeats 1000000 in
/-- What the body's stores leave in each output's staging memref, as pieces (last first) IN CASE B (`scf.if` 0 not taken: points 1, 2, … 169: 136 of 170), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S1024x1536 .bf16) (harg7 : arg7.IsWhole) (arg8 : Memref sig .tc .vmem S1024x2048 .bf16) (harg8 : arg8.IsWhole) (arg9 : Memref sig .tc .vmem S1024x2048 .bf16) (harg9 : arg9.IsWhole) (hc0 : ¬cond0_0 i)
    (x0 : Vec F S1024x2048 .f32) (x1 : Vec F S1x2048 .f32) (x2 : Vec F S1x1x2048 .f32) (x3 : Vec F S1x1x2048 .f32) (x4 : Vec F S2048x1536 .bf16) (xs0 : Vec F S1024x2048 .bf16) :
    Σ' (L5 : List (View.Piece (Elt F) S1024x1536 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg9 fullShare xs0) -∗ K ⟨⟩))
          ⊢ wp frame (wpE (defs₀ (F := F)) Variants.none c none) E (cc0_inproj i arg2 harg2 arg3 harg3 arg4 harg4 arg5 harg5 arg6 harg6 arg7 harg7 arg8 harg8 arg9 harg9) K } := by
  refine ⟨?_, [], fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg9.read_unread _
    iexact HS0

/-- Case A's pieces for output 5 tile its block (1 store of `S1024x1536`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S1024x1536 .bf16) (harg7 : arg7.IsWhole) (arg8 : Memref sig .tc .vmem S1024x2048 .bf16) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S1x1x2048 .f32) (x3 : Vec F S1x1x2048 .f32) (x4 : Vec F S2048x1536 .bf16) (y : S1024x1536.Idx) :
    ∃ pc ∈ (kernelRun0_A c i arg2 harg2 arg3 harg3 arg4 harg4 arg5 harg5 arg6 harg6 arg7 harg7 arg8 harg8 arg9 harg9 hc0 x0 x1 x2 x3 x4).1, y ∈ pc.1.set :=
  View.cover_of_tiledL (kernelRun0_A c i arg2 harg2 arg3 harg3 arg4 harg4 arg5 harg5 arg6 harg6 arg7 harg7 arg8 harg8 arg9 harg9 hc0 x0 x1 x2 x3 x4).1 S1024x1536.size (by sl_kernel_rfl) y

/-- What case A leaves in output 5's staging buffer: its pieces read back over junk. -/
def out0_A_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S1024x1536 .bf16) (harg7 : arg7.IsWhole) (arg8 : Memref sig .tc .vmem S1024x2048 .bf16) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S1x1x2048 .f32) (x3 : Vec F S1x1x2048 .f32) (x4 : Vec F S2048x1536 .bf16) : Vec F S1024x1536 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3 x4).1)

/-- Case A's pieces for output 6 tile its block (2 stores of `S512x2048`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S1024x1536 .bf16) (harg7 : arg7.IsWhole) (arg8 : Memref sig .tc .vmem S1024x2048 .bf16) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S1x1x2048 .f32) (x3 : Vec F S1x1x2048 .f32) (x4 : Vec F S2048x1536 .bf16) (y : S1024x2048.Idx) :
    ∃ pc ∈ (kernelRun0_A c i arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.1 S512x2048.size (by sl_kernel_rfl) y

/-- What case A leaves in output 6's staging buffer: its pieces read back over junk. -/
def out0_A_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S1024x1536 .bf16) (harg7 : arg7.IsWhole) (arg8 : Memref sig .tc .vmem S1024x2048 .bf16) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S1x1x2048 .f32) (x3 : Vec F S1x1x2048 .f32) (x4 : Vec F S2048x1536 .bf16) : Vec F S1024x2048 .bf16 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4).2.1)

/-- Case A's pieces for scratch `arg9`, which the kernel carries between points, cover it: 2 pieces of `S512x2048` tiling it (Lib/Ring.lean `Piece.tiledL`). -/
theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S1024x1536 .bf16) (harg7 : arg7.IsWhole) (arg8 : Memref sig .tc .vmem S1024x2048 .bf16) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S1x1x2048 .f32) (x3 : Vec F S1x1x2048 .f32) (x4 : Vec F S2048x1536 .bf16) (y : S1024x2048.Idx) :
    ∃ pc ∈ (kernelRun0_A c i arg2 harg2 arg3 harg3 arg4 harg4 arg5 harg5 arg6 harg6 arg7 harg7 arg8 harg8 arg9 harg9 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.2.1 S512x2048.size (by sl_kernel_rfl) y

/-- What case A leaves in scratch `arg9`: its pieces read back over junk. -/
def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S1024x1536 .bf16) (harg7 : arg7.IsWhole) (arg8 : Memref sig .tc .vmem S1024x2048 .bf16) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S1x1x2048 .f32) (x3 : Vec F S1x1x2048 .f32) (x4 : Vec F S2048x1536 .bf16) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4).2.2.1)

/-- Case B's pieces for output 5 tile its block (1 store of `S1024x1536`, checked by the kernel's evaluation: Lib/Ring.lean `Piece.tiledL`, linear in the pieces, through a loop's `@[irreducible]` trip theorem too), so they cover it. -/
theorem cover0_B_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S1024x1536 .bf16) (harg7 : arg7.IsWhole) (arg8 : Memref sig .tc .vmem S1024x2048 .bf16) (harg8 : arg8.IsWhole) (arg9 : Memref sig .tc .vmem S1024x2048 .bf16) (harg9 : arg9.IsWhole) (hc0 : ¬cond0_0 i)
    (x0 : Vec F S1024x2048 .f32) (x1 : Vec F S1x2048 .f32) (x2 : Vec F S1x1x2048 .f32) (x3 : Vec F S1x1x2048 .f32) (x4 : Vec F S2048x1536 .bf16) (xs0 : Vec F S1024x2048 .bf16) (y : S1024x1536.Idx) :
    ∃ pc ∈ (kernelRun0_B c i arg2 harg2 arg3 harg3 arg4 harg4 arg5 harg5 arg6 harg6 arg7 harg7 arg8 harg8 arg9 harg9 hc0 x0 x1 x2 x3 x4 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 xs0).1 S1024x1536.size (by sl_kernel_rfl) y

/-- What case B leaves in output 5's staging buffer: its pieces read back over junk. -/
def out0_B_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S1024x1536 .bf16) (harg7 : arg7.IsWhole) (arg8 : Memref sig .tc .vmem S1024x2048 .bf16) (harg8 : arg8.IsWhole) (arg9 : Memref sig .tc .vmem S1024x2048 .bf16) (harg9 : arg9.IsWhole) (hc0 : ¬cond0_0 i)
    (x0 : Vec F S1024x2048 .f32) (x1 : Vec F S1x2048 .f32) (x2 : Vec F S1x1x2048 .f32) (x3 : Vec F S1x1x2048 .f32) (x4 : Vec F S2048x1536 .bf16) (xs0 : Vec F S1024x2048 .bf16) : Vec F S1024x1536 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 x0 x1 x2 x3 x4 xs0).1)

/-- Case B stores nothing into scratch `arg9`: it holds what the point before left. -/
def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1536 .bf16) (harg6 : arg6.IsWhole) (arg7 : Memref sig .tc .vmem S1024x1536 .bf16) (harg7 : arg7.IsWhole) (arg8 : Memref sig .tc .vmem S1024x2048 .bf16) (harg8 : arg8.IsWhole) (arg9 : Memref sig .tc .vmem S1024x2048 .bf16) (harg9 : arg9.IsWhole) (hc0 : ¬cond0_0 i)
    (x0 : Vec F S1024x2048 .f32) (x1 : Vec F S1x2048 .f32) (x2 : Vec F S1x1x2048 .f32) (x3 : Vec F S1x1x2048 .f32) (x4 : Vec F S2048x1536 .bf16) (xs0 : Vec F S1024x2048 .bf16) : Vec F S1024x2048 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x1536 .bf16 × Vec F S1024x2048 .bf16 × Vec F S1024x2048 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 5 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, (outsAt0 c n (Nat.lt_of_succ_lt hn)).2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)

/-- `outsAt0` at a point of case A: that case's contents. -/
theorem outsAt0_A (c : Dev nD) (t : Fin cfg0.N) (h0 : t.val % 5 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 5 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2, (outsAt0 m c (t.val - 1) (Nat.lt_of_le_of_lt (Nat.sub_le _ _) t.isLt)).2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Output 6 is left alone at the points that are not the first of a row of blocks. -/
theorem idle6 (t : Fin cfg0.N) : cfg0.idle 6 (cfg0.grid.coords t) = true ↔ ¬t.val % 5 = 0 := by
  rw [← hcond0_0 t]
  show (!(k0_cond1 (grid0.coords t) == 1#1)) = true ↔ ¬k0_cond1 (grid0.coords t) = 1#1
  rw [Bool.not_eq_true', beq_eq_false_iff_ne]

theorem left6_A (c : Dev nD) (t : Fin cfg0.N) (h0 : t.val % 5 = 0) (d) :
    (dats m 0 c).left 6 t d = (outsAt0 m c t.val t.isLt).2.1 := by
  have hi : cfg0.idle 6 (cfg0.grid.coords t) = false := Bool.eq_false_iff.mpr fun h => (idle6 t).mp h h0
  unfold Dat.left
  rw [hi]
  dsimp only
  unfold Dat.kept
  rw [Pipeline.fill_of_clip_none (cfg := cfg0) 6 _ (fun _ => rfl) d ((dats m 0 c).after 6 t), Window.fill_cut, after0_6]

theorem left6_B (c : Dev nD) (t : Fin cfg0.N) (h0 : ¬t.val % 5 = 0) (d) :
    (dats m 0 c).left 6 t d = (dats m 0 c).before 6 t d := by
  have hi : cfg0.idle 6 (cfg0.grid.coords t) = true := (idle6 t).mpr h0
  unfold Dat.left
  rw [hi]

/-- At such a point output 6's buffer holds what the point before left: it is written back only after the last one. -/
theorem before0_6_aux (c : Dev nD) (n : ℕ) : ∀ (hn : n + 1 < cfg0.N) (h0 : ¬(n + 1) % 5 = 0) (d),
    (dats m 0 c).before 6 ⟨n + 1, hn⟩ d = (outsAt0 m c n (Nat.lt_of_succ_lt hn)).2.1 := by
  induction n with
  | zero =>
    intro hn h0 d
    refine ((dats m 0 c).before_of_pos 6 ⟨0 + 1, hn⟩ (by simp) ((cfg0.win 6).fetch_out rfl _) d).trans ?_
    rw [if_neg (by
      intro hf
      have := (flush0_6 _).mp hf
      simp at this)]
    exact left6_A m c ⟨0, Nat.lt_of_succ_lt hn⟩ rfl d
  | succ n ih =>
    intro hn h0 d
    refine ((dats m 0 c).before_of_pos 6 ⟨n + 1 + 1, hn⟩ (by simp) ((cfg0.win 6).fetch_out rfl _) d).trans ?_
    rw [if_neg (by
      intro hf
      have h1 : (n + 1 + 1 - 1) % 5 = 4 := (flush0_6 _).mp hf
      omega)]
    by_cases h1 : (n + 1) % 5 = 0
    · exact left6_A m c ⟨n + 1, Nat.lt_of_succ_lt hn⟩ h1 d
    · refine (left6_B m c ⟨n + 1, Nat.lt_of_succ_lt hn⟩ h1 d).trans ?_
      refine (ih (Nat.lt_of_succ_lt hn) h1 d).trans ?_
      rw [outsAt0_B m c ⟨n + 1, Nat.lt_of_succ_lt hn⟩ h1]
      rfl

theorem before0_6_B (c : Dev nD) (t : Fin cfg0.N) (h0 : ¬t.val % 5 = 0) (d) :
    (dats m 0 c).before 6 t d = (outsAt0 m c (t.val - 1) (Nat.lt_of_le_of_lt (Nat.sub_le _ _) t.isLt)).2.1 := by
  obtain ⟨n, hn⟩ := t
  cases n with
  | zero => exact absurd (Nat.zero_mod _) h0
  | succ n => exact before0_6_aux m c n hn h0 d

/-- A buffer of output 6 at its contents after the point is what the obligation asks for, whether or not the point leaves
    it alone. -/
theorem leaves6 (c : Dev nD) (t : Fin cfg0.N) :
    (owns (c : Thread nD τ) (ms0_6 t) fullShare ((outsAt0 m c t.val t.isLt).2.1) : sProp 𝕄) ⊢ (dats m 0 c).leavesExact 6 t := by
  by_cases h0 : t.val % 5 = 0
  · have hi : cfg0.idle 6 (cfg0.grid.coords t) = false := Bool.eq_false_iff.mpr fun h => (idle6 _).mp h h0
    unfold Dat.leavesExact
    rw [hi, after0_6]
  · have hi : cfg0.idle 6 (cfg0.grid.coords t) = true := (idle6 _).mpr h0
    cases hf : (cfg0.win 6).flush t
    · rw [(dats m 0 c).leavesExact_idle 6 t hi hf]
      simp only [before0_6_B m c t h0]
      rw [outsAt0_B m c t h0]
      iintro H
      iexists (fun _ => default)
      iexact H
    · unfold Dat.leavesExact
      rw [hi, hf, after0_6]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (dats m 0 c).leavesExact 6 t)

set_option maxHeartbeats 6400000 in
/-- The body at any point (output 6 at its contents): the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hl6 := leaves6 m c t
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 170 := lt_of_lt_of_eq t.isLt (show cfg0.N = 170 from N_0)
  by_cases h0 : t.val % 5 = 0
  · by_cases hz : t.val = 0
    · rw [PhiS_castSucc m c t, PhiS_zero m c _ _ hz, PhiA0_eq]
      rw [outsAt0_A m c t h0] at hl6 ⊢
      unfold out0_A_5 out0_A_6 sout0_A_0 at hl6 ⊢; (try dsimp only at hl6 ⊢)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      iapply hl6
      unfold owns; iexists _; isplitr
      swap; · iexact H6
      ipureintro; exact View.read_writes_of_cover _ _ _ _ _ (cover0_A_6 c _ _ _ _ _ _ _ _ _ _ _ _ _ _ _ _ _ _ _ _ _ _ _)
    · rw [PhiS_castSucc m c t, PhiS_pos m c _ _ hz]
      rw [outsAt0_A m c t h0] at hl6 ⊢
      unfold out0_A_5 out0_A_6 sout0_A_0 at hl6 ⊢; (try dsimp only at hl6 ⊢)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexists _; iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      iapply hl6
      unfold owns; iexists _; isplitr
      swap; · iexact H6
      ipureintro; exact View.read_writes_of_cover _ _ _ _ _ (cover0_A_6 c _ _ _ _ _ _ _ _ _ _ _ _ _ _ _ _ _ _ _ _ _ _ _)
  · by_cases hz : t.val = 0
    · exfalso; have hN : t.val < 170 := lt_of_lt_of_eq t.isLt (show cfg0.N = 170 from N_0); omega
    · rw [PhiS_castSucc m c t, PhiS_pos m c _ _ hz]
      rw [outsAt0_B m c t h0] at hl6 ⊢
      simp only [before0_6_B m c t h0]
      unfold out0_B_5 sout0_B_0 at hl6 ⊢; (try dsimp only at hl6 ⊢)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _)
      iapply hl6
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 170 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel4Ideal`'s statement (Defs.lean) at any `F` — the claim cites it. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.InProjIdeal

end
-- ==== Proof.InProjRef.lean ====
/-
  The reference of the input projection: its two results as terms of the arguments, read row by row.
-/
module

public import proofs.«01_k».proof.Proof.Gen.Reference4Ideal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.PureOps.Ideal

@[expose] public section

noncomputable section

namespace Cert.Proof.InProj.Ref

open Cert.Reference4Ideal Idealize.ShloMosaic Idealize.ShloMosaic.TcCoe Idealize.SL.Sem
open Cert.Reference4Ideal Cert.Reference4Ideal.Gen Idealize.ShloMosaic Idealize.ShloMosaic.TcCoe Idealize.SL.Sem Idealize.ShloMosaic.StableHlo

/-- The modulated norm of the latent rows. -/
def hLat {F : FTy → Type} [FloatOps F] (a0 : FVec F S34816x2048 .f32) (a1 : FVec F S2048 .f32) (a2 a3 : FVec F S9x1x2048 .f32) : FVec F S8x4096x2048 .f32 :=
  (addf (mulf (mulf (mulf (shapeCast _ (extractStridedSlice S32768x2048 ![0, 0] a0 slices_S34816x2048_S32768x2048_0_0) shapeCasts_S32768x2048_S8x4096x2048) (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf (shapeCast _ (extractStridedSlice S32768x2048 ![0, 0] a0 slices_S34816x2048_S32768x2048_0_0) shapeCasts_S32768x2048_S8x4096x2048) (shapeCast _ (extractStridedSlice S32768x2048 ![0, 0] a0 slices_S34816x2048_S32768x2048_0_0) shapeCasts_S32768x2048_S8x4096x2048)) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 a1))) (broadcastInDim S8x4096x2048 ![0, 1, 2] bcast_S8x1x2048_S8x4096x2048_0_1_2 (addf (broadcastInDim S8x1x2048 ![] bcast_S_S8x1x2048 (constant S_ .f32 0x3F800000#32)) (extractStridedSlice S8x1x2048 ![1, 0, 0] a2 slices_S9x1x2048_S8x1x2048_1_0_0)))) (broadcastInDim S8x4096x2048 ![0, 1, 2] bcast_S8x1x2048_S8x4096x2048_0_1_2 (extractStridedSlice S8x1x2048 ![1, 0, 0] a3 slices_S9x1x2048_S8x1x2048_1_0_0)))

/-- The modulated norm of the context rows. -/
def hCtx {F : FTy → Type} [FloatOps F] (a0 : FVec F S34816x2048 .f32) (a1 : FVec F S2048 .f32) (a2 a3 : FVec F S9x1x2048 .f32) : FVec F S8x256x2048 .f32 :=
  (addf (mulf (mulf (mulf (shapeCast _ (extractStridedSlice S2048x2048 ![32768, 0] a0 slices_S34816x2048_S2048x2048_32768_0) shapeCasts_S2048x2048_S8x256x2048) (broadcastInDim S8x256x2048 ![0, 1, 2] bcast_S8x256x1_S8x256x2048_0_1_2 (Host.rsqrt (addf (Host.divf (broadcastInDim S8x256x1 ![0, 1] bcast_S8x256_S8x256x1_0_1 (Host.reduceAdd (mulf (shapeCast _ (extractStridedSlice S2048x2048 ![32768, 0] a0 slices_S34816x2048_S2048x2048_32768_0) shapeCasts_S2048x2048_S8x256x2048) (shapeCast _ (extractStridedSlice S2048x2048 ![32768, 0] a0 slices_S34816x2048_S2048x2048_32768_0) shapeCasts_S2048x2048_S8x256x2048)) (constant S_ .f32 0x00000000#32) reducesTo_S8x256x2048_S8x256_d2 h_S_)) (broadcastInDim S8x256x1 ![] bcast_S_S8x256x1 (constant S_ .f32 0x45000000#32))) (broadcastInDim S8x256x1 ![] bcast_S_S8x256x1 (constant S_ .f32 0x358637BD#32)))))) (broadcastInDim S8x256x2048 ![0, 1, 2] bcast_S1x1x2048_S8x256x2048_0_1_2 (broadcastInDim S1x1x2048 ![2] bcast_S2048_S1x1x2048_2 a1))) (broadcastInDim S8x256x2048 ![0, 1, 2] bcast_S1x1x2048_S8x256x2048_0_1_2 (broadcastInDim S1x1x2048 ![1, 2] bcast_S1x2048_S1x1x2048_1_2 (addf (broadcastInDim S1x2048 ![] bcast_S_S1x2048 (constant S_ .f32 0x3F800000#32)) (shapeCast _ (extractStridedSlice S1x1x2048 ![0, 0, 0] a2 slices_S9x1x2048_S1x1x2048_0_0_0) shapeCasts_S1x1x2048_S1x2048))))) (broadcastInDim S8x256x2048 ![0, 1, 2] bcast_S1x1x2048_S8x256x2048_0_1_2 (broadcastInDim S1x1x2048 ![1, 2] bcast_S1x2048_S1x1x2048_1_2 (shapeCast _ (extractStridedSlice S1x1x2048 ![0, 0, 0] a3 slices_S9x1x2048_S1x1x2048_0_0_0) shapeCasts_S1x1x2048_S1x2048))))

/-- The reference's first result, the projection, as a term of its arguments. -/
def resP {F : FTy → Type} [FloatOps F] (a0 : FVec F S34816x2048 .f32) (a1 : FVec F S2048 .f32) (a2 a3 : FVec F S9x1x2048 .f32) (a4 : FVec F S2048x7680 .f32) : FVec F S34816x7680 .bf16 :=
  (truncf .bf16 (concatenate S34816x7680 0 [⟨S32768x7680, (shapeCast _ (Host.dotGeneral dot_S8x4096x2048_S2048x7680_S8x4096x7680_2_0_01_1_n_n none (hLat a0 a1 a2 a3) a4) shapeCasts_S8x4096x7680_S32768x7680)⟩, ⟨S2048x7680, (shapeCast _ (Host.dotGeneral dot_S8x256x2048_S2048x7680_S8x256x7680_2_0_01_1_n_n none (hCtx a0 a1 a2 a3) a4) shapeCasts_S8x256x7680_S2048x7680)⟩] concatenates_S32768x7680_S2048x7680_S34816x7680_d0) bitsLt_bf16_f32)

/-- The reference's second result, the modulated norm, as a term of its arguments. -/
def resH {F : FTy → Type} [FloatOps F] (a0 : FVec F S34816x2048 .f32) (a1 : FVec F S2048 .f32) (a2 a3 : FVec F S9x1x2048 .f32) : FVec F S34816x2048 .bf16 :=
  (truncf .bf16 (concatenate S34816x2048 0 [⟨S32768x2048, (shapeCast _ (hLat a0 a1 a2 a3) shapeCasts_S8x4096x2048_S32768x2048)⟩, ⟨S2048x2048, (shapeCast _ (hCtx a0 a1 a2 a3) shapeCasts_S8x256x2048_S2048x2048)⟩] concatenates_S32768x2048_S2048x2048_S34816x2048_d0) bitsLt_bf16_f32)

section Rows

variable (a0 : FVec Ideal S34816x2048 .f32) (a1 : FVec Ideal S2048 .f32) (a2 a3 : FVec Ideal S9x1x2048 .f32) (a4 : FVec Ideal S2048x7680 .f32)

/-- The modulated norm of row `p` at column `q`, with row `g` of the two modulation tables. -/
def hrow (p : Fin 34816) (g : Fin 9) (q : Fin 2048) : EReal :=
  a0 (ix2 p q) * Ideal.rsqrt (Ideal.div (∑ x : Fin 2048, a0 (ix2 p x) * a0 (ix2 p x)) (Ideal.ofBits FTy.f32 1157627904#32)
    + Ideal.ofBits FTy.f32 897988541#32) * a1 (ix1 q) * (1 + a2 (ix3 g 0 q)) + a3 (ix3 g 0 q)

/-- The modulation row of row `p`: a latent row has its sequence's, a context row the first. -/
def grp (p : Fin 34816) : Fin 9 := if h : p.val < 32768 then ⟨1 + p.val / 4096, by omega⟩ else 0

theorem hLat_apply (b : Fin 8) (s : Fin 4096) (q : Fin 2048) (p : Fin 34816) (hp : p.val = b.val * 4096 + s.val) :
    hLat a0 a1 a2 a3 (ix3 b s q) = hrow a0 a1 a2 a3 p (grp p) q := by
  have hg : grp p = ⟨1 + b.val, by omega⟩ := by
    unfold grp; rw [dif_pos (by omega)]; apply Fin.ext; show 1 + p.val / 4096 = 1 + b.val; omega
  rw [hg]
  clear hg
  obtain ⟨p, hlt⟩ := p
  dsimp only at hp
  subst hp
  pointwise [hLat, hrow]

theorem hCtx_apply (b : Fin 8) (s : Fin 256) (q : Fin 2048) (p : Fin 34816) (hp : p.val = 32768 + (b.val * 256 + s.val)) :
    hCtx a0 a1 a2 a3 (ix3 b s q) = hrow a0 a1 a2 a3 p (grp p) q := by
  have hg : grp p = 0 := by unfold grp; rw [dif_neg (by omega)]
  rw [hg]
  clear hg
  obtain ⟨p, hlt⟩ := p
  dsimp only at hp
  subst hp
  pointwise [hCtx, hrow]

/-- The reference's modulated norm at a place. -/
theorem resH_apply (p : Fin 34816) (q : Fin 2048) : resH a0 a1 a2 a3 (ix2 p q) = hrow a0 a1 a2 a3 p (grp p) q := by
  pointwise [resH]
  split
  · exact hLat_apply a0 a1 a2 a3 _ _ q p (by show p.val = p.val / 4096 * 4096 + p.val % 4096; omega)
  · exact hCtx_apply a0 a1 a2 a3 _ _ q p (by show p.val = 32768 + ((p.val - 32768) / 256 * 256 + (p.val - 32768) % 256); omega)

/-- The reference's projection at a place: the row of the modulated norm times the column. -/
theorem resP_apply (p : Fin 34816) (q : Fin 7680) :
    resP a0 a1 a2 a3 a4 (ix2 p q) = ∑ k : Fin 2048, hrow a0 a1 a2 a3 p (grp p) k * a4 (ix2 k q) := by
  pointwise [resP]
  split
  · exact Finset.sum_congr rfl fun k _ => congrArg (· * a4 (ix2 k q))
      (hLat_apply a0 a1 a2 a3 _ _ k p (by show p.val = p.val / 4096 * 4096 + p.val % 4096; omega))
  · exact Finset.sum_congr rfl fun k _ => congrArg (· * a4 (ix2 k q))
      (hCtx_apply a0 a1 a2 a3 _ _ k p (by show p.val = 32768 + ((p.val - 32768) / 256 * 256 + (p.val - 32768) % 256); omega))

end Rows

end Cert.Proof.InProj.Ref

end
-- ==== Proof.InProj.lean ====
/-
  The input projection: the two arrays that the kernel leaves equal the reference's, element by element.
-/
module

public import proofs.«01_k».proof.Proof.InProjIdealBody
public import proofs.«01_k».proof.Proof.InProjRef
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.PureOps.Ideal

@[expose] public section

noncomputable section

namespace Cert.Proof.InProjIdeal

open Cert.Kernel4Ideal Cert.Kernel4Ideal.Gen Idealize.ShloMosaic Idealize.ShloMosaic.TcCoe Idealize.SL.Sem
open Cert.Proof.InProj
open Idealize.ShloMosaic.Pipeline (Dat)

/-- The block index of every window at a grid point, and the point's two coordinates. -/
theorem idx (t : Fin cfg0.N) :
    win0_0.index t = ![(grid0.coords t 0).val, 0] ∧ win0_1.index t = ![0, 0] ∧ win0_2.index t = ![if (grid0.coords t 0).val < 32 then 1 + (grid0.coords t 0).val / 4 else 0, 0, 0] ∧ win0_3.index t = ![if (grid0.coords t 0).val < 32 then 1 + (grid0.coords t 0).val / 4 else 0, 0, 0] ∧ win0_4.index t = ![0, (grid0.coords t 1).val] ∧ win0_5.index t = ![(grid0.coords t 0).val, (grid0.coords t 1).val] ∧ win0_6.index t = ![(grid0.coords t 0).val, 0] ∧ (grid0.coords t 0).val = t.val / 5 ∧ (grid0.coords t 1).val = t.val % 5 :=
  (by decide +kernel : ∀ t : Fin grid0.N,
    win0_0.index t = ![(grid0.coords t 0).val, 0] ∧ win0_1.index t = ![0, 0] ∧ win0_2.index t = ![if (grid0.coords t 0).val < 32 then 1 + (grid0.coords t 0).val / 4 else 0, 0, 0] ∧ win0_3.index t = ![if (grid0.coords t 0).val < 32 then 1 + (grid0.coords t 0).val / 4 else 0, 0, 0] ∧ win0_4.index t = ![0, (grid0.coords t 1).val] ∧ win0_5.index t = ![(grid0.coords t 0).val, (grid0.coords t 1).val] ∧ win0_6.index t = ![(grid0.coords t 0).val, 0] ∧ (grid0.coords t 0).val = t.val / 5 ∧ (grid0.coords t 1).val = t.val % 5) t

variable (m : (ℓ : Loc nD τ sig) → Buf (Elt Ideal) ℓ)

/-- The modulated norm of the kernel's arguments at row `p` and column `q`. -/
def HR (c : Dev nD) (p : Fin 34816) (q : Fin 2048) : EReal :=
  Ref.hrow (m ((c.tc : Thread nD τ).loc main_arg0)) (m ((c.tc : Thread nD τ).loc main_arg1)) (m ((c.tc : Thread nD τ).loc main_arg2)) (m ((c.tc : Thread nD τ).loc main_arg3)) p (Ref.grp p) q

/-- The row of the array that row `y` of the block of point `t` is. -/
def row (t : Fin cfg0.N) (y : Fin 1024) : Fin 34816 :=
  ⟨1024 * (t.val / 5) + y.val, by have := t.isLt; have h : cfg0.N = 170 := rfl; have := y.isLt; omega⟩

set_option maxHeartbeats 8000000 in
/-- What the body stores in the last 512 rows of its block: the rows' modulated norm. -/
theorem payHi (c : Dev nD) (t : Fin cfg0.N) (x : S512x2048.Idx) (y : Fin 1024) (hy : y.val = 512 + (x 0).val) :
    k0_pay1 (View.ld (iblk m c 0 t) (Rect.unit ![512, 0] ![512, 2048] inb_S1024x2048_S512x2048_512_0))
      (k0_pay6 (View.ld (iblk m c 0 t) (Rect.unit ![512, 0] ![512, 2048] inb_S1024x2048_S512x2048_512_0)))
      (iblk m c 1 t) (iblk m c 2 t) (iblk m c 3 t) x = HR m c (row t y) (x 1) := by
  have hc0 := (idx t).2.2.2.2.2.2.2.1
  have hg : Ref.grp (row t y) = ⟨if (grid0.coords t 0).val < 32 then 1 + (grid0.coords t 0).val / 4 else 0, by rw [hc0]; have := t.isLt; have h : cfg0.N = 170 := rfl; split <;> omega⟩ := by
    unfold Ref.grp row
    simp only [hc0]
    split <;> split <;> first | rfl | (apply Fin.ext; simp only [Fin.val_zero]; omega)
  unfold HR
  rw [hg]
  pointwise [k0_pay1, k0_pay6, Ref.hrow]
  blk_point [iblk, V, idx t, row]

set_option maxHeartbeats 8000000 in
/-- The same for the first 512 rows. -/
theorem payLo (c : Dev nD) (t : Fin cfg0.N) (x : S512x2048.Idx) (y : Fin 1024) (hy : y.val = (x 0).val) :
    k0_pay4 (View.ld (iblk m c 0 t) (Rect.unit ![0, 0] ![512, 2048] inb_S1024x2048_S512x2048_0_0)) (iblk m c 1 t) (iblk m c 2 t) (iblk m c 3 t) x = HR m c (row t y) (x 1) := by
  have hc0 := (idx t).2.2.2.2.2.2.2.1
  have hg : Ref.grp (row t y) = ⟨if (grid0.coords t 0).val < 32 then 1 + (grid0.coords t 0).val / 4 else 0, by rw [hc0]; have := t.isLt; have h : cfg0.N = 170 := rfl; split <;> omega⟩ := by
    unfold Ref.grp row
    simp only [hc0]
    split <;> split <;> first | rfl | (apply Fin.ext; simp only [Fin.val_zero]; omega)
  unfold HR
  rw [hg]
  pointwise [k0_pay4, Ref.hrow]
  blk_point [iblk, V, idx t, row]

set_option maxHeartbeats 8000000 in
/-- At the first point of a row of blocks the body leaves the rows' modulated norm in output 6's buffer. -/
theorem blockH_A (c : Dev nD) (t : Fin cfg0.N) (ht : t.val % 5 = 0) (y : S1024x2048.Idx) :
    (outsAt0 m c t.val t.isLt).2.1 y = HR m c (row t (y 0)) (y 1) := by
  generalize hG : HR m c (row t (y 0)) (y 1) = G
  rw [outsAt0_A m c t ht]
  frame_out
  canon_tiles x h
  · subst hG
    exact (payHi m c t x (y 0) h0).trans (congrArg (HR m c (row t (y 0))) (Fin.ext h1.symm))
  · subst hG
    exact (payLo m c t x (y 0) h0).trans (congrArg (HR m c (row t (y 0))) (Fin.ext h1.symm))

set_option maxHeartbeats 8000000 in
/-- And the same in the scratch. -/
theorem blockS_A (c : Dev nD) (t : Fin cfg0.N) (ht : t.val % 5 = 0) (y : S1024x2048.Idx) :
    (outsAt0 m c t.val t.isLt).2.2 y = HR m c (row t (y 0)) (y 1) := by
  generalize hG : HR m c (row t (y 0)) (y 1) = G
  rw [outsAt0_A m c t ht]
  frame_out
  canon_tiles x h
  · subst hG
    unfold k0_pay2
    refine (congrFun (shapeCast_id _ _) x).trans ?_
    exact (payHi m c t x (y 0) h0).trans (congrArg (HR m c (row t (y 0))) (Fin.ext h1.symm))
  · subst hG
    unfold k0_pay5
    refine (congrFun (shapeCast_id _ _) x).trans ?_
    exact (payLo m c t x (y 0) h0).trans (congrArg (HR m c (row t (y 0))) (Fin.ext h1.symm))

/-- At every point output 6's buffer and the scratch hold the modulated norm of the point's rows. -/
theorem held (c : Dev nD) (t : Fin cfg0.N) (y : S1024x2048.Idx) :
    (outsAt0 m c t.val t.isLt).2.1 y = HR m c (row t (y 0)) (y 1) ∧ (outsAt0 m c t.val t.isLt).2.2 y = HR m c (row t (y 0)) (y 1) := by
  have hrow : ∀ u v : Fin cfg0.N, u.val / 5 = v.val / 5 → row u (y 0) = row v (y 0) := fun u v h =>
    Fin.ext (by unfold row; dsimp only; rw [h])
  obtain ⟨n, hn⟩ := t
  induction n with
  | zero => exact ⟨blockH_A m c ⟨0, hn⟩ rfl y, blockS_A m c ⟨0, hn⟩ rfl y⟩
  | succ n ih =>
    by_cases h0 : (n + 1) % 5 = 0
    · exact ⟨blockH_A m c ⟨n + 1, hn⟩ h0 y, blockS_A m c ⟨n + 1, hn⟩ h0 y⟩
    · rw [hrow ⟨n + 1, hn⟩ ⟨n, Nat.lt_of_succ_lt hn⟩ (by dsimp only; omega)]
      rw [outsAt0_B m c ⟨n + 1, hn⟩ h0]
      exact ih (Nat.lt_of_succ_lt hn)

set_option maxHeartbeats 8000000 in
/-- What a point leaves in output 5's buffer: the scratch times the point's columns, at the first point of a row of blocks. -/
theorem blockP_A (c : Dev nD) (t : Fin cfg0.N) (ht : t.val % 5 = 0) :
    (outsAt0 m c t.val t.isLt).1 = k0_pay3 (outsAt0 m c t.val t.isLt).2.2 (iblk m c 4 t) := by
  rw [outsAt0_A m c t ht]
  frame_out
  rw [View.readCov_eq_canon']
  exact congrArg (fun s => k0_pay3 s _) (View.ld_unit_lit _ _ (by decide))

set_option maxHeartbeats 8000000 in
/-- The same at the other points. -/
theorem blockP_B (c : Dev nD) (t : Fin cfg0.N) (ht : ¬t.val % 5 = 0) :
    (outsAt0 m c t.val t.isLt).1 = k0_pay3 (outsAt0 m c t.val t.isLt).2.2 (iblk m c 4 t) := by
  rw [outsAt0_B m c t ht]
  frame_out
  rw [read_unread_whole]
  rfl

theorem blockP (c : Dev nD) (t : Fin cfg0.N) :
    (outsAt0 m c t.val t.isLt).1 = k0_pay3 (outsAt0 m c t.val t.isLt).2.2 (iblk m c 4 t) := by
  by_cases ht : t.val % 5 = 0
  · exact blockP_A m c t ht
  · exact blockP_B m c t ht

set_option maxHeartbeats 8000000 in
/-- The second array that the kernel leaves is the reference's modulated norm. -/
theorem finalH (c : Dev nD) : (dats m 0 c).arrAt 6 cfg0.N
    = Ref.resH (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  blk_simp
  rw [after0_6]
  refine ((held m c t y).1).trans ?_
  have he : ((cfg0.win 6).blk t).view.emb y = ix2 (row t (y 0)) (y 1) := by
    blk_ext! [idx t, row]
  refine Eq.trans ?_ (congrArg (Ref.resH (F := Ideal) (m ((c.tc : Thread nD τ).loc main_arg0)) (m ((c.tc : Thread nD τ).loc main_arg1)) (m ((c.tc : Thread nD τ).loc main_arg2)) (m ((c.tc : Thread nD τ).loc main_arg3))) he).symm
  exact (Ref.resH_apply _ _ _ _ _ _).symm

set_option maxHeartbeats 8000000 in
/-- The first array that the kernel leaves is the reference's projection. -/
theorem finalP (c : Dev nD) : (dats m 0 c).arrAt 5 cfg0.N
    = Ref.resP (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5, blockP]
  have hlt : 1536 * (t.val % 5) + (y 1).val < 7680 := by have : (y 1).val < 1536 := (y 1).isLt; omega
  have he : ((cfg0.win 5).blk t).view.emb y = ix2 (row t (y 0)) (⟨1536 * (t.val % 5) + (y 1).val, hlt⟩ : Fin 7680) := by
    blk_ext! [idx t, row]
  refine Eq.trans ?_ (congrArg (Ref.resP (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) he).symm
  refine Eq.trans ?_ (Ref.resP_apply _ _ _ _ _ _ _).symm
  pointwise [k0_pay3]
  refine Finset.sum_congr (M := EReal) rfl fun k _ => congrArg₂ (· * ·) ((held m c t (ix2 (y 0) k)).2) ?_
  blk_point [iblk, V, idx t]

end Cert.Proof.InProjIdeal

end
-- ==== Proof.InProjClaim.lean ====
/-
  The input projection: the claims of its kernel and its reference.
-/
module

public import proofs.«01_k».proof.Defs
public import proofs.«01_k».proof.Proof.InProj
public import proofs.«01_k».proof.Proof.Gen.Reference4Ideal.Run
public import Idealize.ShloMosaic.Lib.Quiescent

@[expose] public section

noncomputable section

namespace Cert.Proof.InProj

open Cert.Kernel4Ideal Cert.Kernel4Ideal.Gen Idealize.ShloMosaic Idealize.ShloMosaic.TcCoe Idealize.SL.Sem
open Cert.Proof.InProjIdeal

/-- The kernel's run with both result arrays named, the arguments unchanged. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2_0) = (dats m 0 c).arrAt 5 cfg0.N
      ∧ r.2.mem ((c.tc : Thread nD τ).loc main_v2_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 5, (h.1 c).1 6, h.2 c⟩) (θ_run_and (run_main m ρ) (unchanged m ρ))

/-- Both programs run, the kernel's result arrays and the reference's end equal, and the arguments are unchanged. -/
theorem algebraic : Cert.algebraic_Kernel4Ideal_Reference4Ideal := by
  intro m ρ m' ρ' _ hagree
  refine ⟨fun c => (dats m 0 c).arrAt 5 cfg0.N, fun c => (dats m 0 c).arrAt 6 cfg0.N, run_blocks m ρ, ?_⟩
  refine (θ_run Cert.Reference4Ideal.defs _ _).mono (fun r h c => ⟨(h c).1.trans ?_, (h c).2.1.trans ?_, (h c).2.2⟩)
    (Cert.Reference4Ideal.Value.run (F := Ideal) m' ρ')
  · obtain ⟨h0, h1, h2, h3, h4⟩ := hagree c
    have e : Ref.resP (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) = (dats m 0 c).arrAt 5 cfg0.N := by
      rw [h0, h1, h2, h3, h4]; exact (finalP m c).symm
    exact e
  · obtain ⟨h0, h1, h2, h3, h4⟩ := hagree c
    have e : Ref.resH (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = (dats m 0 c).arrAt 6 cfg0.N := by
      rw [h0, h1, h2, h3]; exact (finalH m c).symm
    exact e

/-- The frame of the reference: its run leaves the arguments, and it declares no semaphore. -/
theorem frame_reference : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

end Cert.Proof.InProj

end
-- ==== Proof.lean ====
/-
  The claims of every call taken, assembled: per call the frames of the kernel, of its idealization and of the
  reference, then `preserves` and the equality of the results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.RetClaim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.MergeClaim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.OutProjClaim
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.FinalNormClaim
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.SmallProjClaim
public import proofs.«01_k».proof.Proof.Gen.Kernel4.Skeleton
public import proofs.«01_k».proof.Proof.Gen.Kernel4Ideal.Skeleton
public import proofs.«01_k».proof.Proof.Gen.Kernel4.Frame
public import proofs.«01_k».proof.Proof.Gen.Kernel4Ideal.Frame
public import proofs.«01_k».proof.Proof.Gen.Reference4Ideal.Run
public import proofs.«01_k».proof.Proof.InProjBody
public import proofs.«01_k».proof.Proof.InProjClaim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  fun m ρ _ => Cert.Kernel.Gen.frame m ρ,
  fun m ρ _ => Cert.KernelIdeal.Gen.frame m ρ,
  Cert.Proof.Ret.frame_reference,
  fun m ρ _ => Cert.Kernel2.Gen.frame m ρ,
  fun m ρ _ => Cert.Kernel2Ideal.Gen.frame m ρ,
  Cert.Proof.Merge.frame_reference,
  fun m ρ _ => Cert.Kernel3.Gen.frame m ρ,
  fun m ρ _ => Cert.Kernel3Ideal.Gen.frame m ρ,
  Cert.Proof.OutProj.frame_reference,
  fun m ρ _ => Cert.Proof.InProj.frame m ρ,
  fun m ρ _ => Cert.Proof.InProjIdeal.frame m ρ,
  Cert.Proof.InProj.frame_reference,
  fun m ρ _ => Cert.Kernel5.Gen.frame m ρ,
  fun m ρ _ => Cert.Kernel5Ideal.Gen.frame m ρ,
  Cert.Proof.FinalNorm.frame_reference,
  fun m ρ _ => Cert.Kernel6.Gen.frame m ρ,
  fun m ρ _ => Cert.Kernel6Ideal.Gen.frame m ρ,
  Cert.Proof.SmallProj.frame_reference,
  Cert.Proof.Ret.preserves,
  Cert.Proof.Ret.algebraic,
  trivial,
  Cert.Proof.Merge.algebraic,
  trivial,
  Cert.Proof.OutProj.algebraic,
  trivial,
  Cert.Proof.InProj.algebraic,
  trivial,
  Cert.Proof.FinalNorm.algebraic,
  trivial,
  Cert.Proof.SmallProj.algebraic⟩

end Cert.Proof

end
